-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v27_0)) (v1 : (c : Dev Cert.Kernel2Ideal.nD) → Buf (Elt Ideal) ((c.tc : Thread Cert.Kernel2Ideal.nD Cert.Kernel2Ideal.τ).loc Cert.Kernel2Ideal.main_v32)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_v32) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8192x7168 : Shape := ⟨2, ![8192, 7168]⟩
abbrev S8 : Shape := ⟨1, ![8]⟩
abbrev S8192x1024 : Shape := ⟨2, ![8192, 1024]⟩
abbrev S256x128 : Shape := ⟨2, ![256, 128]⟩
abbrev S4096x128 : Shape := ⟨2, ![4096, 128]⟩
abbrev S1 : Shape := ⟨1, ![1]⟩
abbrev S256x256 : Shape := ⟨2, ![256, 256]⟩
abbrev S256x1 : Shape := ⟨2, ![256, 1]⟩
abbrev S512x256 : Shape := ⟨2, ![512, 256]⟩
abbrev S256x512 : Shape := ⟨2, ![256, 512]⟩
abbrev S256 : Shape := ⟨1, ![256]⟩

abbrev nBuf : Space → Nat
  | .hbm => 3
  | .vmem => 10
  | .smem => 1
  | _ => 0

abbrev bufTy : (tb : Table) → Fin (tcTables nBuf tb) → BufTy
  | .hbm, ⟨0, _⟩ => ⟨S8192x7168, .f32⟩
  | .hbm, ⟨1, _⟩ => ⟨S8, .f32⟩
  | .hbm, ⟨2, _⟩ => ⟨S8192x1024, .bf16⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S256x128, .bf16⟩
  | .local _ .vmem, ⟨7, _⟩ => ⟨S256x128, .bf16⟩
  | .local _ .vmem, ⟨8, _⟩ => ⟨S4096x128, .bf16⟩
  | .local _ .vmem, ⟨9, _⟩ => ⟨S4096x128, .bf16⟩
  | .local _ .smem, ⟨0, _⟩ => ⟨S8, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 16], ![false, false, false]⟩

def k0_off1 (i : grid0.Coords) : Fin 1 → Nat :=
  let arg1 : BitVec 32 := BitVec.ofNat 32 (i 1).val
  let v5 : Index := Scalar.indexCast arg1
  ![v5.toNat]
def k0_cond2 (i : grid0.Coords) : BitVec 1 :=
  let arg2 : BitVec 32 := BitVec.ofNat 32 (i 2).val
  let c4_i32 : BitVec 32 := 4#32
  let c0_i32_3 : BitVec 32 := 0#32
  let v14 : BitVec 1 := Scalar.cmpi .eq c4_i32 c0_i32_3
  let c1_i32 : BitVec 32 := 1#32
  let v15 : BitVec 32 := Scalar.select v14 c1_i32 c4_i32
  let v16 : BitVec 32 := Scalar.remsi arg2 v15
  let c0_i32_5 : BitVec 32 := 0#32
  let v18 : BitVec 1 := Scalar.cmpi .slt v16 c0_i32_5
  let c0_i32_6 : BitVec 32 := 0#32
  let v19 : BitVec 1 := Scalar.cmpi .slt v15 c0_i32_6
  let v20 : BitVec 1 := Scalar.xori v18 v19
  let c0_i32_4 : BitVec 32 := 0#32
  let v17 : BitVec 1 := Scalar.cmpi .ne v16 c0_i32_4
  let v21 : BitVec 1 := Scalar.andi v20 v17
  let v22 : BitVec 32 := Scalar.addi v16 v15
  let v23 : BitVec 32 := Scalar.select v21 v22 v16
  let c2_i32 : BitVec 32 := 2#32
  let v30 : BitVec 1 := Scalar.cmpi .slt v23 c2_i32
  let v31 : BitVec 32 := Scalar.extui v30
  let c0_i32_9 : BitVec 32 := 0#32
  let v32 : BitVec 1 := Scalar.cmpi .ne v31 c0_i32_9
  v32

def k0_cond3 (i : grid0.Coords) : BitVec 1 :=
  let arg2 : BitVec 32 := BitVec.ofNat 32 (i 2).val
  let c4_i32 : BitVec 32 := 4#32
  let c0_i32_3 : BitVec 32 := 0#32
  let v14 : BitVec 1 := Scalar.cmpi .eq c4_i32 c0_i32_3
  let c1_i32 : BitVec 32 := 1#32
  let v15 : BitVec 32 := Scalar.select v14 c1_i32 c4_i32
  let v16 : BitVec 32 := Scalar.remsi arg2 v15
  let c0_i32_5 : BitVec 32 := 0#32
  let v18 : BitVec 1 := Scalar.cmpi .slt v16 c0_i32_5
  let c0_i32_6 : BitVec 32 := 0#32
  let v19 : BitVec 1 := Scalar.cmpi .slt v15 c0_i32_6
  let v20 : BitVec 1 := Scalar.xori v18 v19
  let c0_i32_4 : BitVec 32 := 0#32
  let v17 : BitVec 1 := Scalar.cmpi .ne v16 c0_i32_4
  let v21 : BitVec 1 := Scalar.andi v20 v17
  let v22 : BitVec 32 := Scalar.addi v16 v15
  let v23 : BitVec 32 := Scalar.select v21 v22 v16
  let c0_i32_23 : BitVec 32 := 0#32
  let v60 : BitVec 1 := Scalar.cmpi .eq v23 c0_i32_23
  let v61 : BitVec 32 := Scalar.extui v60
  let c0_i32_24 : BitVec 32 := 0#32
  let v62 : BitVec 1 := Scalar.cmpi .ne v61 c0_i32_24
  v62

def k0_mult1 (i : grid0.Coords) : BitVec 32 :=
  let arg2 : BitVec 32 := BitVec.ofNat 32 (i 2).val
  let c0_i32_25 : BitVec 32 := 0#32
  let v64 : BitVec 32 := Scalar.subi arg2 c0_i32_25
  let c256_i32 : BitVec 32 := 256#32
  let v65 : BitVec 32 := Scalar.muli v64 c256_i32
  v65
def k0_off2 (i : grid0.Coords) : Fin 2 → Nat :=
  let arg2 : BitVec 32 := BitVec.ofNat 32 (i 2).val
  let c0_i32_25 : BitVec 32 := 0#32
  let v64 : BitVec 32 := Scalar.subi arg2 c0_i32_25
  let c256_i32 : BitVec 32 := 256#32
  let v65 : BitVec 32 := Scalar.muli v64 c256_i32
  let v66 : BitVec 32 := v65
  let v67 : Index := Scalar.indexCast v66
  let c0_26 : Index := 0#32
  ![v67.toNat, 0]
def k0_mult2 (i : grid0.Coords) : BitVec 32 :=
  let arg2 : BitVec 32 := BitVec.ofNat 32 (i 2).val
  let c0_i32_25 : BitVec 32 := 0#32
  let v64 : BitVec 32 := Scalar.subi arg2 c0_i32_25
  let c256_i32 : BitVec 32 := 256#32
  let v66 : BitVec 32 := Scalar.muli v64 c256_i32
  v66
def k0_mult3 (i : grid0.Coords) : BitVec 32 :=
  let arg2 : BitVec 32 := BitVec.ofNat 32 (i 2).val
  let c1_i32_26 : BitVec 32 := 1#32
  let v65 : BitVec 32 := Scalar.subi arg2 c1_i32_26
  let c256_i32_27 : BitVec 32 := 256#32
  let v68 : BitVec 32 := Scalar.muli v65 c256_i32_27
  v68
def k0_off3 (i : grid0.Coords) (c0_i32_25 : BitVec 32) : Fin 2 → Nat :=
  let arg2 : BitVec 32 := BitVec.ofNat 32 (i 2).val
  let v64 : BitVec 32 := Scalar.subi arg2 c0_i32_25
  let c256_i32 : BitVec 32 := 256#32
  let v66 : BitVec 32 := Scalar.muli v64 c256_i32
  let v67 : BitVec 32 := v66
  let v70 : Index := Scalar.indexCast v67
  let c0_28 : Index := 0#32
  ![v70.toNat, 0]
def k0_cond4 (i : grid0.Coords) : BitVec 1 :=
  let arg2 : BitVec 32 := BitVec.ofNat 32 (i 2).val
  let c4_i32 : BitVec 32 := 4#32
  let c0_i32_3 : BitVec 32 := 0#32
  let v14 : BitVec 1 := Scalar.cmpi .eq c4_i32 c0_i32_3
  let c1_i32 : BitVec 32 := 1#32
  let v15 : BitVec 32 := Scalar.select v14 c1_i32 c4_i32
  let v16 : BitVec 32 := Scalar.remsi arg2 v15
  let c0_i32_5 : BitVec 32 := 0#32
  let v18 : BitVec 1 := Scalar.cmpi .slt v16 c0_i32_5
  let c0_i32_6 : BitVec 32 := 0#32
  let v19 : BitVec 1 := Scalar.cmpi .slt v15 c0_i32_6
  let v20 : BitVec 1 := Scalar.xori v18 v19
  let c0_i32_4 : BitVec 32 := 0#32
  let v17 : BitVec 1 := Scalar.cmpi .ne v16 c0_i32_4
  let v21 : BitVec 1 := Scalar.andi v20 v17
  let v22 : BitVec 32 := Scalar.addi v16 v15
  let v23 : BitVec 32 := Scalar.select v21 v22 v16
  let c2_i32_23 : BitVec 32 := 2#32
  let v60 : BitVec 1 := Scalar.cmpi .eq v23 c2_i32_23
  let v61 : BitVec 32 := Scalar.extui v60
  let c0_i32_24 : BitVec 32 := 0#32
  let v62 : BitVec 1 := Scalar.cmpi .ne v61 c0_i32_24
  v62

def k0_mult4 (i : grid0.Coords) : BitVec 32 :=
  let arg2 : BitVec 32 := BitVec.ofNat 32 (i 2).val
  let c0_i32_25 : BitVec 32 := 0#32
  let v64 : BitVec 32 := Scalar.subi arg2 c0_i32_25
  let c256_i32 : BitVec 32 := 256#32
  let v67 : BitVec 32 := Scalar.muli v64 c256_i32
  v67
def k0_mult5 (i : grid0.Coords) : BitVec 32 :=
  let arg2 : BitVec 32 := BitVec.ofNat 32 (i 2).val
  let c1_i32_26 : BitVec 32 := 1#32
  let v65 : BitVec 32 := Scalar.subi arg2 c1_i32_26
  let c256_i32_28 : BitVec 32 := 256#32
  let v69 : BitVec 32 := Scalar.muli v65 c256_i32_28
  v69
def k0_mult6 (i : grid0.Coords) : BitVec 32 :=
  let arg2 : BitVec 32 := BitVec.ofNat 32 (i 2).val
  let c2_i32_27 : BitVec 32 := 2#32
  let v66 : BitVec 32 := Scalar.subi arg2 c2_i32_27
  let c256_i32_29 : BitVec 32 := 256#32
  let v71 : BitVec 32 := Scalar.muli v66 c256_i32_29
  v71
def k0_off4 (i : grid0.Coords) (c0_i32_25 : BitVec 32) : Fin 2 → Nat :=
  let arg2 : BitVec 32 := BitVec.ofNat 32 (i 2).val
  let v64 : BitVec 32 := Scalar.subi arg2 c0_i32_25
  let c256_i32 : BitVec 32 := 256#32
  let v67 : BitVec 32 := Scalar.muli v64 c256_i32
  let v68 : BitVec 32 := v67
  let v73 : Index := Scalar.indexCast v68
  let c0_30 : Index := 0#32
  ![v73.toNat, 0]
def k0_mult7 (i : grid0.Coords) : BitVec 32 :=
  let arg2 : BitVec 32 := BitVec.ofNat 32 (i 2).val
  let c0_i32_25 : BitVec 32 := 0#32
  let v64 : BitVec 32 := Scalar.subi arg2 c0_i32_25
  let c256_i32 : BitVec 32 := 256#32
  let v68 : BitVec 32 := Scalar.muli v64 c256_i32
  v68
def k0_mult8 (i : grid0.Coords) : BitVec 32 :=
  let arg2 : BitVec 32 := BitVec.ofNat 32 (i 2).val
  let c1_i32_26 : BitVec 32 := 1#32
  let v65 : BitVec 32 := Scalar.subi arg2 c1_i32_26
  let c256_i32_28 : BitVec 32 := 256#32
  let v70 : BitVec 32 := Scalar.muli v65 c256_i32_28
  v70
def k0_mult9 (i : grid0.Coords) : BitVec 32 :=
  let arg2 : BitVec 32 := BitVec.ofNat 32 (i 2).val
  let c2_i32_27 : BitVec 32 := 2#32
  let v66 : BitVec 32 := Scalar.subi arg2 c2_i32_27
  let c256_i32_29 : BitVec 32 := 256#32
  let v72 : BitVec 32 := Scalar.muli v66 c256_i32_29
  v72
def k0_mult10 (i : grid0.Coords) : BitVec 32 :=
  let arg2 : BitVec 32 := BitVec.ofNat 32 (i 2).val
  let c3_i32 : BitVec 32 := 3#32
  let v67 : BitVec 32 := Scalar.subi arg2 c3_i32
  let c256_i32_30 : BitVec 32 := 256#32
  let v74 : BitVec 32 := Scalar.muli v67 c256_i32_30
  v74
def k0_off5 (i : grid0.Coords) (c0_i32_25 : BitVec 32) : Fin 2 → Nat :=
  let arg2 : BitVec 32 := BitVec.ofNat 32 (i 2).val
  let v64 : BitVec 32 := Scalar.subi arg2 c0_i32_25
  let c256_i32 : BitVec 32 := 256#32
  let v68 : BitVec 32 := Scalar.muli v64 c256_i32
  let v69 : BitVec 32 := v68
  let v76 : Index := Scalar.indexCast v69
  let c0_31 : Index := 0#32
  ![v76.toNat, 0]
@[reducible] def k0_t1_loop (i : grid0.Coords) : Scf.Loop 32 :=
  let c0_i32_17 : BitVec 32 := 0#32
  let arg2 : BitVec 32 := BitVec.ofNat 32 (i 2).val
  let c0_i32_11 : BitVec 32 := 0#32
  let v35 : BitVec 1 := Scalar.cmpi .sgt arg2 c0_i32_11
  let v36 : BitVec 32 := Scalar.extui v35
  let c0_i32_12 : BitVec 32 := 0#32
  let v37 : BitVec 1 := Scalar.cmpi .slt arg2 c0_i32_12
  let v38 : BitVec 32 := Scalar.extui v37
  let v39 : BitVec 32 := Scalar.subi v36 v38
  let c4_i32_10 : BitVec 32 := 4#32
  let c0_i32_13 : BitVec 32 := 0#32
  let v40 : BitVec 1 := Scalar.cmpi .sgt c4_i32_10 c0_i32_13
  let v41 : BitVec 32 := Scalar.extui v40
  let c0_i32_14 : BitVec 32 := 0#32
  let v42 : BitVec 1 := Scalar.cmpi .slt c4_i32_10 c0_i32_14
  let v43 : BitVec 32 := Scalar.extui v42
  let v44 : BitVec 32 := Scalar.subi v41 v43
  let v45 : BitVec 1 := Scalar.cmpi .ne v39 v44
  let v46 : BitVec 32 := Scalar.remsi arg2 c4_i32_10
  let c0_i32_15 : BitVec 32 := 0#32
  let v47 : BitVec 1 := Scalar.cmpi .ne v46 c0_i32_15
  let v48 : BitVec 1 := Scalar.andi v45 v47
  let v34 : BitVec 32 := Scalar.divsi arg2 c4_i32_10
  let c1_i32_16 : BitVec 32 := 1#32
  let v49 : BitVec 32 := Scalar.subi v34 c1_i32_16
  let v50 : BitVec 32 := Scalar.select v48 v49 v34
  let v51 : BitVec 32 := Scalar.subi v50 c0_i32_17
  let c1_i32_18 : BitVec 32 := 1#32
  let v53 : BitVec 32 := Scalar.divsi v51 c1_i32_18
  let v54 : BitVec 32 := Scalar.muli v53 c1_i32_18
  let v55 : BitVec 32 := Scalar.addi c0_i32_17 v54
  let c1_i32_19 : BitVec 32 := 1#32
  ⟨c0_i32_17, v55, c1_i32_19⟩
def k0_mult11 (i : grid0.Coords) (k0_t1 : Fin (k0_t1_loop i).trips) : BitVec 32 :=
  let arg2 : BitVec 32 := BitVec.ofNat 32 (i 2).val
  let c4_i32 : BitVec 32 := 4#32
  let c0_i32_3 : BitVec 32 := 0#32
  let v14 : BitVec 1 := Scalar.cmpi .eq c4_i32 c0_i32_3
  let c1_i32 : BitVec 32 := 1#32
  let v15 : BitVec 32 := Scalar.select v14 c1_i32 c4_i32
  let v16 : BitVec 32 := Scalar.remsi arg2 v15
  let c0_i32_5 : BitVec 32 := 0#32
  let v18 : BitVec 1 := Scalar.cmpi .slt v16 c0_i32_5
  let c0_i32_6 : BitVec 32 := 0#32
  let v19 : BitVec 1 := Scalar.cmpi .slt v15 c0_i32_6
  let v20 : BitVec 1 := Scalar.xori v18 v19
  let c0_i32_4 : BitVec 32 := 0#32
  let v17 : BitVec 1 := Scalar.cmpi .ne v16 c0_i32_4
  let v21 : BitVec 1 := Scalar.andi v20 v17
  let v22 : BitVec 32 := Scalar.addi v16 v15
  let v23 : BitVec 32 := Scalar.select v21 v22 v16
  let v60 : BitVec 32 := Scalar.subi arg2 v23
  let c1_i32_23 : BitVec 32 := 1#32
  let v61 : BitVec 32 := Scalar.subi v60 c1_i32_23
  let c4_i32_24 : BitVec 32 := 4#32
  let c0_i32_17 : BitVec 32 := 0#32
  let c1_i32_19 : BitVec 32 := 1#32
  let arg10 : BitVec 32 := Scf.iv c0_i32_17 c1_i32_19 k0_t1
  let v62 : BitVec 32 := Scalar.muli c4_i32_24 arg10
  let v63 : BitVec 32 := Scalar.subi v61 v62
  let c0_i32_25 : BitVec 32 := 0#32
  let v64 : BitVec 32 := Scalar.subi v63 c0_i32_25
  let c256_i32 : BitVec 32 := 256#32
  let v68 : BitVec 32 := Scalar.muli v64 c256_i32
  v68
def k0_mult12 (i : grid0.Coords) (k0_t1 : Fin (k0_t1_loop i).trips) : BitVec 32 :=
  let arg2 : BitVec 32 := BitVec.ofNat 32 (i 2).val
  let c4_i32 : BitVec 32 := 4#32
  let c0_i32_3 : BitVec 32 := 0#32
  let v14 : BitVec 1 := Scalar.cmpi .eq c4_i32 c0_i32_3
  let c1_i32 : BitVec 32 := 1#32
  let v15 : BitVec 32 := Scalar.select v14 c1_i32 c4_i32
  let v16 : BitVec 32 := Scalar.remsi arg2 v15
  let c0_i32_5 : BitVec 32 := 0#32
  let v18 : BitVec 1 := Scalar.cmpi .slt v16 c0_i32_5
  let c0_i32_6 : BitVec 32 := 0#32
  let v19 : BitVec 1 := Scalar.cmpi .slt v15 c0_i32_6
  let v20 : BitVec 1 := Scalar.xori v18 v19
  let c0_i32_4 : BitVec 32 := 0#32
  let v17 : BitVec 1 := Scalar.cmpi .ne v16 c0_i32_4
  let v21 : BitVec 1 := Scalar.andi v20 v17
  let v22 : BitVec 32 := Scalar.addi v16 v15
  let v23 : BitVec 32 := Scalar.select v21 v22 v16
  let v60 : BitVec 32 := Scalar.subi arg2 v23
  let c1_i32_23 : BitVec 32 := 1#32
  let v61 : BitVec 32 := Scalar.subi v60 c1_i32_23
  let c4_i32_24 : BitVec 32 := 4#32
  let c0_i32_17 : BitVec 32 := 0#32
  let c1_i32_19 : BitVec 32 := 1#32
  let arg10 : BitVec 32 := Scf.iv c0_i32_17 c1_i32_19 k0_t1
  let v62 : BitVec 32 := Scalar.muli c4_i32_24 arg10
  let v63 : BitVec 32 := Scalar.subi v61 v62
  let c1_i32_26 : BitVec 32 := 1#32
  let v65 : BitVec 32 := Scalar.subi v63 c1_i32_26
  let c256_i32_28 : BitVec 32 := 256#32
  let v70 : BitVec 32 := Scalar.muli v65 c256_i32_28
  v70
def k0_mult13 (i : grid0.Coords) (k0_t1 : Fin (k0_t1_loop i).trips) : BitVec 32 :=
  let arg2 : BitVec 32 := BitVec.ofNat 32 (i 2).val
  let c4_i32 : BitVec 32 := 4#32
  let c0_i32_3 : BitVec 32 := 0#32
  let v14 : BitVec 1 := Scalar.cmpi .eq c4_i32 c0_i32_3
  let c1_i32 : BitVec 32 := 1#32
  let v15 : BitVec 32 := Scalar.select v14 c1_i32 c4_i32
  let v16 : BitVec 32 := Scalar.remsi arg2 v15
  let c0_i32_5 : BitVec 32 := 0#32
  let v18 : BitVec 1 := Scalar.cmpi .slt v16 c0_i32_5
  let c0_i32_6 : BitVec 32 := 0#32
  let v19 : BitVec 1 := Scalar.cmpi .slt v15 c0_i32_6
  let v20 : BitVec 1 := Scalar.xori v18 v19
  let c0_i32_4 : BitVec 32 := 0#32
  let v17 : BitVec 1 := Scalar.cmpi .ne v16 c0_i32_4
  let v21 : BitVec 1 := Scalar.andi v20 v17
  let v22 : BitVec 32 := Scalar.addi v16 v15
  let v23 : BitVec 32 := Scalar.select v21 v22 v16
  let v60 : BitVec 32 := Scalar.subi arg2 v23
  let c1_i32_23 : BitVec 32 := 1#32
  let v61 : BitVec 32 := Scalar.subi v60 c1_i32_23
  let c4_i32_24 : BitVec 32 := 4#32
  let c0_i32_17 : BitVec 32 := 0#32
  let c1_i32_19 : BitVec 32 := 1#32
  let arg10 : BitVec 32 := Scf.iv c0_i32_17 c1_i32_19 k0_t1
  let v62 : BitVec 32 := Scalar.muli c4_i32_24 arg10
  let v63 : BitVec 32 := Scalar.subi v61 v62
  let c2_i32_27 : BitVec 32 := 2#32
  let v66 : BitVec 32 := Scalar.subi v63 c2_i32_27
  let c256_i32_29 : BitVec 32 := 256#32
  let v72 : BitVec 32 := Scalar.muli v66 c256_i32_29
  v72
def k0_mult14 (i : grid0.Coords) (k0_t1 : Fin (k0_t1_loop i).trips) : BitVec 32 :=
  let arg2 : BitVec 32 := BitVec.ofNat 32 (i 2).val
  let c4_i32 : BitVec 32 := 4#32
  let c0_i32_3 : BitVec 32 := 0#32
  let v14 : BitVec 1 := Scalar.cmpi .eq c4_i32 c0_i32_3
  let c1_i32 : BitVec 32 := 1#32
  let v15 : BitVec 32 := Scalar.select v14 c1_i32 c4_i32
  let v16 : BitVec 32 := Scalar.remsi arg2 v15
  let c0_i32_5 : BitVec 32 := 0#32
  let v18 : BitVec 1 := Scalar.cmpi .slt v16 c0_i32_5
  let c0_i32_6 : BitVec 32 := 0#32
  let v19 : BitVec 1 := Scalar.cmpi .slt v15 c0_i32_6
  let v20 : BitVec 1 := Scalar.xori v18 v19
  let c0_i32_4 : BitVec 32 := 0#32
  let v17 : BitVec 1 := Scalar.cmpi .ne v16 c0_i32_4
  let v21 : BitVec 1 := Scalar.andi v20 v17
  let v22 : BitVec 32 := Scalar.addi v16 v15
  let v23 : BitVec 32 := Scalar.select v21 v22 v16
  let v60 : BitVec 32 := Scalar.subi arg2 v23
  let c1_i32_23 : BitVec 32 := 1#32
  let v61 : BitVec 32 := Scalar.subi v60 c1_i32_23
  let c4_i32_24 : BitVec 32 := 4#32
  let c0_i32_17 : BitVec 32 := 0#32
  let c1_i32_19 : BitVec 32 := 1#32
  let arg10 : BitVec 32 := Scf.iv c0_i32_17 c1_i32_19 k0_t1
  let v62 : BitVec 32 := Scalar.muli c4_i32_24 arg10
  let v63 : BitVec 32 := Scalar.subi v61 v62
  let c3_i32 : BitVec 32 := 3#32
  let v67 : BitVec 32 := Scalar.subi v63 c3_i32
  let c256_i32_30 : BitVec 32 := 256#32
  let v74 : BitVec 32 := Scalar.muli v67 c256_i32_30
  v74
def k0_off6 (i : grid0.Coords) (k0_t1 : Fin (k0_t1_loop i).trips) (c0_i32_25 : BitVec 32) : Fin 2 → Nat :=
  let arg2 : BitVec 32 := BitVec.ofNat 32 (i 2).val
  let c4_i32 : BitVec 32 := 4#32
  let c0_i32_3 : BitVec 32 := 0#32
  let v14 : BitVec 1 := Scalar.cmpi .eq c4_i32 c0_i32_3
  let c1_i32 : BitVec 32 := 1#32
  let v15 : BitVec 32 := Scalar.select v14 c1_i32 c4_i32
  let v16 : BitVec 32 := Scalar.remsi arg2 v15
  let c0_i32_5 : BitVec 32 := 0#32
  let v18 : BitVec 1 := Scalar.cmpi .slt v16 c0_i32_5
  let c0_i32_6 : BitVec 32 := 0#32
  let v19 : BitVec 1 := Scalar.cmpi .slt v15 c0_i32_6
  let v20 : BitVec 1 := Scalar.xori v18 v19
  let c0_i32_4 : BitVec 32 := 0#32
  let v17 : BitVec 1 := Scalar.cmpi .ne v16 c0_i32_4
  let v21 : BitVec 1 := Scalar.andi v20 v17
  let v22 : BitVec 32 := Scalar.addi v16 v15
  let v23 : BitVec 32 := Scalar.select v21 v22 v16
  let v60 : BitVec 32 := Scalar.subi arg2 v23
  let c1_i32_23 : BitVec 32 := 1#32
  let v61 : BitVec 32 := Scalar.subi v60 c1_i32_23
  let c4_i32_24 : BitVec 32 := 4#32
  let c0_i32_17 : BitVec 32 := 0#32
  let c1_i32_19 : BitVec 32 := 1#32
  let arg10 : BitVec 32 := Scf.iv c0_i32_17 c1_i32_19 k0_t1
  let v62 : BitVec 32 := Scalar.muli c4_i32_24 arg10
  let v63 : BitVec 32 := Scalar.subi v61 v62
  let v64 : BitVec 32 := Scalar.subi v63 c0_i32_25
  let c256_i32 : BitVec 32 := 256#32
  let v68 : BitVec 32 := Scalar.muli v64 c256_i32
  let v69 : BitVec 32 := v68
  let v76 : Index := Scalar.indexCast v69
  let c0_31 : Index := 0#32
  ![v76.toNat, 0]
@[reducible] def k0_t2_loop (i : grid0.Coords) : Scf.Loop 32 :=
  let c0_i32_17 : BitVec 32 := 0#32
  let arg2 : BitVec 32 := BitVec.ofNat 32 (i 2).val
  let c0_i32_11 : BitVec 32 := 0#32
  let v35 : BitVec 1 := Scalar.cmpi .sgt arg2 c0_i32_11
  let v36 : BitVec 32 := Scalar.extui v35
  let c0_i32_12 : BitVec 32 := 0#32
  let v37 : BitVec 1 := Scalar.cmpi .slt arg2 c0_i32_12
  let v38 : BitVec 32 := Scalar.extui v37
  let v39 : BitVec 32 := Scalar.subi v36 v38
  let c4_i32_10 : BitVec 32 := 4#32
  let c0_i32_13 : BitVec 32 := 0#32
  let v40 : BitVec 1 := Scalar.cmpi .sgt c4_i32_10 c0_i32_13
  let v41 : BitVec 32 := Scalar.extui v40
  let c0_i32_14 : BitVec 32 := 0#32
  let v42 : BitVec 1 := Scalar.cmpi .slt c4_i32_10 c0_i32_14
  let v43 : BitVec 32 := Scalar.extui v42
  let v44 : BitVec 32 := Scalar.subi v41 v43
  let v45 : BitVec 1 := Scalar.cmpi .ne v39 v44
  let v46 : BitVec 32 := Scalar.remsi arg2 c4_i32_10
  let c0_i32_15 : BitVec 32 := 0#32
  let v47 : BitVec 1 := Scalar.cmpi .ne v46 c0_i32_15
  let v48 : BitVec 1 := Scalar.andi v45 v47
  let v34 : BitVec 32 := Scalar.divsi arg2 c4_i32_10
  let c1_i32_16 : BitVec 32 := 1#32
  let v49 : BitVec 32 := Scalar.subi v34 c1_i32_16
  let v50 : BitVec 32 := Scalar.select v48 v49 v34
  let v51 : BitVec 32 := Scalar.subi v50 c0_i32_17
  let c1_i32_18 : BitVec 32 := 1#32
  let v53 : BitVec 32 := Scalar.divsi v51 c1_i32_18
  let v54 : BitVec 32 := Scalar.muli v53 c1_i32_18
  let v55 : BitVec 32 := Scalar.addi c0_i32_17 v54
  let v52 : BitVec 32 := Scalar.addi c0_i32_17 v51
  let c1_i32_20 : BitVec 32 := 1#32
  ⟨v55, v52, c1_i32_20⟩
def k0_mult15 (i : grid0.Coords) (k0_t2 : Fin (k0_t2_loop i).trips) : BitVec 32 :=
  let arg2 : BitVec 32 := BitVec.ofNat 32 (i 2).val
  let c4_i32 : BitVec 32 := 4#32
  let c0_i32_3 : BitVec 32 := 0#32
  let v14 : BitVec 1 := Scalar.cmpi .eq c4_i32 c0_i32_3
  let c1_i32 : BitVec 32 := 1#32
  let v15 : BitVec 32 := Scalar.select v14 c1_i32 c4_i32
  let v16 : BitVec 32 := Scalar.remsi arg2 v15
  let c0_i32_5 : BitVec 32 := 0#32
  let v18 : BitVec 1 := Scalar.cmpi .slt v16 c0_i32_5
  let c0_i32_6 : BitVec 32 := 0#32
  let v19 : BitVec 1 := Scalar.cmpi .slt v15 c0_i32_6
  let v20 : BitVec 1 := Scalar.xori v18 v19
  let c0_i32_4 : BitVec 32 := 0#32
  let v17 : BitVec 1 := Scalar.cmpi .ne v16 c0_i32_4
  let v21 : BitVec 1 := Scalar.andi v20 v17
  let v22 : BitVec 32 := Scalar.addi v16 v15
  let v23 : BitVec 32 := Scalar.select v21 v22 v16
  let v60 : BitVec 32 := Scalar.subi arg2 v23
  let c1_i32_23 : BitVec 32 := 1#32
  let v61 : BitVec 32 := Scalar.subi v60 c1_i32_23
  let c4_i32_24 : BitVec 32 := 4#32
  let c0_i32_17 : BitVec 32 := 0#32
  let c0_i32_11 : BitVec 32 := 0#32
  let v35 : BitVec 1 := Scalar.cmpi .sgt arg2 c0_i32_11
  let v36 : BitVec 32 := Scalar.extui v35
  let c0_i32_12 : BitVec 32 := 0#32
  let v37 : BitVec 1 := Scalar.cmpi .slt arg2 c0_i32_12
  let v38 : BitVec 32 := Scalar.extui v37
  let v39 : BitVec 32 := Scalar.subi v36 v38
  let c4_i32_10 : BitVec 32 := 4#32
  let c0_i32_13 : BitVec 32 := 0#32
  let v40 : BitVec 1 := Scalar.cmpi .sgt c4_i32_10 c0_i32_13
  let v41 : BitVec 32 := Scalar.extui v40
  let c0_i32_14 : BitVec 32 := 0#32
  let v42 : BitVec 1 := Scalar.cmpi .slt c4_i32_10 c0_i32_14
  let v43 : BitVec 32 := Scalar.extui v42
  let v44 : BitVec 32 := Scalar.subi v41 v43
  let v45 : BitVec 1 := Scalar.cmpi .ne v39 v44
  let v46 : BitVec 32 := Scalar.remsi arg2 c4_i32_10
  let c0_i32_15 : BitVec 32 := 0#32
  let v47 : BitVec 1 := Scalar.cmpi .ne v46 c0_i32_15
  let v48 : BitVec 1 := Scalar.andi v45 v47
  let v34 : BitVec 32 := Scalar.divsi arg2 c4_i32_10
  let c1_i32_16 : BitVec 32 := 1#32
  let v49 : BitVec 32 := Scalar.subi v34 c1_i32_16
  let v50 : BitVec 32 := Scalar.select v48 v49 v34
  let v51 : BitVec 32 := Scalar.subi v50 c0_i32_17
  let c1_i32_18 : BitVec 32 := 1#32
  let v53 : BitVec 32 := Scalar.divsi v51 c1_i32_18
  let v54 : BitVec 32 := Scalar.muli v53 c1_i32_18
  let v55 : BitVec 32 := Scalar.addi c0_i32_17 v54
  let c1_i32_20 : BitVec 32 := 1#32
  let arg10 : BitVec 32 := Scf.iv v55 c1_i32_20 k0_t2
  let v62 : BitVec 32 := Scalar.muli c4_i32_24 arg10
  let v63 : BitVec 32 := Scalar.subi v61 v62
  let c0_i32_25 : BitVec 32 := 0#32
  let v64 : BitVec 32 := Scalar.subi v63 c0_i32_25
  let c256_i32 : BitVec 32 := 256#32
  let v68 : BitVec 32 := Scalar.muli v64 c256_i32
  v68
def k0_mult16 (i : grid0.Coords) (k0_t2 : Fin (k0_t2_loop i).trips) : BitVec 32 :=
  let arg2 : BitVec 32 := BitVec.ofNat 32 (i 2).val
  let c4_i32 : BitVec 32 := 4#32
  let c0_i32_3 : BitVec 32 := 0#32
  let v14 : BitVec 1 := Scalar.cmpi .eq c4_i32 c0_i32_3
  let c1_i32 : BitVec 32 := 1#32
  let v15 : BitVec 32 := Scalar.select v14 c1_i32 c4_i32
  let v16 : BitVec 32 := Scalar.remsi arg2 v15
  let c0_i32_5 : BitVec 32 := 0#32
  let v18 : BitVec 1 := Scalar.cmpi .slt v16 c0_i32_5
  let c0_i32_6 : BitVec 32 := 0#32
  let v19 : BitVec 1 := Scalar.cmpi .slt v15 c0_i32_6
  let v20 : BitVec 1 := Scalar.xori v18 v19
  let c0_i32_4 : BitVec 32 := 0#32
  let v17 : BitVec 1 := Scalar.cmpi .ne v16 c0_i32_4
  let v21 : BitVec 1 := Scalar.andi v20 v17
  let v22 : BitVec 32 := Scalar.addi v16 v15
  let v23 : BitVec 32 := Scalar.select v21 v22 v16
  let v60 : BitVec 32 := Scalar.subi arg2 v23
  let c1_i32_23 : BitVec 32 := 1#32
  let v61 : BitVec 32 := Scalar.subi v60 c1_i32_23
  let c4_i32_24 : BitVec 32 := 4#32
  let c0_i32_17 : BitVec 32 := 0#32
  let c0_i32_11 : BitVec 32 := 0#32
  let v35 : BitVec 1 := Scalar.cmpi .sgt arg2 c0_i32_11
  let v36 : BitVec 32 := Scalar.extui v35
  let c0_i32_12 : BitVec 32 := 0#32
  let v37 : BitVec 1 := Scalar.cmpi .slt arg2 c0_i32_12
  let v38 : BitVec 32 := Scalar.extui v37
  let v39 : BitVec 32 := Scalar.subi v36 v38
  let c4_i32_10 : BitVec 32 := 4#32
  let c0_i32_13 : BitVec 32 := 0#32
  let v40 : BitVec 1 := Scalar.cmpi .sgt c4_i32_10 c0_i32_13
  let v41 : BitVec 32 := Scalar.extui v40
  let c0_i32_14 : BitVec 32 := 0#32
  let v42 : BitVec 1 := Scalar.cmpi .slt c4_i32_10 c0_i32_14
  let v43 : BitVec 32 := Scalar.extui v42
  let v44 : BitVec 32 := Scalar.subi v41 v43
  let v45 : BitVec 1 := Scalar.cmpi .ne v39 v44
  let v46 : BitVec 32 := Scalar.remsi arg2 c4_i32_10
  let c0_i32_15 : BitVec 32 := 0#32
  let v47 : BitVec 1 := Scalar.cmpi .ne v46 c0_i32_15
  let v48 : BitVec 1 := Scalar.andi v45 v47
  let v34 : BitVec 32 := Scalar.divsi arg2 c4_i32_10
  let c1_i32_16 : BitVec 32 := 1#32
  let v49 : BitVec 32 := Scalar.subi v34 c1_i32_16
  let v50 : BitVec 32 := Scalar.select v48 v49 v34
  let v51 : BitVec 32 := Scalar.subi v50 c0_i32_17
  let c1_i32_18 : BitVec 32 := 1#32
  let v53 : BitVec 32 := Scalar.divsi v51 c1_i32_18
  let v54 : BitVec 32 := Scalar.muli v53 c1_i32_18
  let v55 : BitVec 32 := Scalar.addi c0_i32_17 v54
  let c1_i32_20 : BitVec 32 := 1#32
  let arg10 : BitVec 32 := Scf.iv v55 c1_i32_20 k0_t2
  let v62 : BitVec 32 := Scalar.muli c4_i32_24 arg10
  let v63 : BitVec 32 := Scalar.subi v61 v62
  let c1_i32_26 : BitVec 32 := 1#32
  let v65 : BitVec 32 := Scalar.subi v63 c1_i32_26
  let c256_i32_28 : BitVec 32 := 256#32
  let v70 : BitVec 32 := Scalar.muli v65 c256_i32_28
  v70
def k0_mult17 (i : grid0.Coords) (k0_t2 : Fin (k0_t2_loop i).trips) : BitVec 32 :=
  let arg2 : BitVec 32 := BitVec.ofNat 32 (i 2).val
  let c4_i32 : BitVec 32 := 4#32
  let c0_i32_3 : BitVec 32 := 0#32
  let v14 : BitVec 1 := Scalar.cmpi .eq c4_i32 c0_i32_3
  let c1_i32 : BitVec 32 := 1#32
  let v15 : BitVec 32 := Scalar.select v14 c1_i32 c4_i32
  let v16 : BitVec 32 := Scalar.remsi arg2 v15
  let c0_i32_5 : BitVec 32 := 0#32
  let v18 : BitVec 1 := Scalar.cmpi .slt v16 c0_i32_5
  let c0_i32_6 : BitVec 32 := 0#32
  let v19 : BitVec 1 := Scalar.cmpi .slt v15 c0_i32_6
  let v20 : BitVec 1 := Scalar.xori v18 v19
  let c0_i32_4 : BitVec 32 := 0#32
  let v17 : BitVec 1 := Scalar.cmpi .ne v16 c0_i32_4
  let v21 : BitVec 1 := Scalar.andi v20 v17
  let v22 : BitVec 32 := Scalar.addi v16 v15
  let v23 : BitVec 32 := Scalar.select v21 v22 v16
  let v60 : BitVec 32 := Scalar.subi arg2 v23
  let c1_i32_23 : BitVec 32 := 1#32
  let v61 : BitVec 32 := Scalar.subi v60 c1_i32_23
  let c4_i32_24 : BitVec 32 := 4#32
  let c0_i32_17 : BitVec 32 := 0#32
  let c0_i32_11 : BitVec 32 := 0#32
  let v35 : BitVec 1 := Scalar.cmpi .sgt arg2 c0_i32_11
  let v36 : BitVec 32 := Scalar.extui v35
  let c0_i32_12 : BitVec 32 := 0#32
  let v37 : BitVec 1 := Scalar.cmpi .slt arg2 c0_i32_12
  let v38 : BitVec 32 := Scalar.extui v37
  let v39 : BitVec 32 := Scalar.subi v36 v38
  let c4_i32_10 : BitVec 32 := 4#32
  let c0_i32_13 : BitVec 32 := 0#32
  let v40 : BitVec 1 := Scalar.cmpi .sgt c4_i32_10 c0_i32_13
  let v41 : BitVec 32 := Scalar.extui v40
  let c0_i32_14 : BitVec 32 := 0#32
  let v42 : BitVec 1 := Scalar.cmpi .slt c4_i32_10 c0_i32_14
  let v43 : BitVec 32 := Scalar.extui v42
  let v44 : BitVec 32 := Scalar.subi v41 v43
  let v45 : BitVec 1 := Scalar.cmpi .ne v39 v44
  let v46 : BitVec 32 := Scalar.remsi arg2 c4_i32_10
  let c0_i32_15 : BitVec 32 := 0#32
  let v47 : BitVec 1 := Scalar.cmpi .ne v46 c0_i32_15
  let v48 : BitVec 1 := Scalar.andi v45 v47
  let v34 : BitVec 32 := Scalar.divsi arg2 c4_i32_10
  let c1_i32_16 : BitVec 32 := 1#32
  let v49 : BitVec 32 := Scalar.subi v34 c1_i32_16
  let v50 : BitVec 32 := Scalar.select v48 v49 v34
  let v51 : BitVec 32 := Scalar.subi v50 c0_i32_17
  let c1_i32_18 : BitVec 32 := 1#32
  let v53 : BitVec 32 := Scalar.divsi v51 c1_i32_18
  let v54 : BitVec 32 := Scalar.muli v53 c1_i32_18
  let v55 : BitVec 32 := Scalar.addi c0_i32_17 v54
  let c1_i32_20 : BitVec 32 := 1#32
  let arg10 : BitVec 32 := Scf.iv v55 c1_i32_20 k0_t2
  let v62 : BitVec 32 := Scalar.muli c4_i32_24 arg10
  let v63 : BitVec 32 := Scalar.subi v61 v62
  let c2_i32_27 : BitVec 32 := 2#32
  let v66 : BitVec 32 := Scalar.subi v63 c2_i32_27
  let c256_i32_29 : BitVec 32 := 256#32
  let v72 : BitVec 32 := Scalar.muli v66 c256_i32_29
  v72
def k0_mult18 (i : grid0.Coords) (k0_t2 : Fin (k0_t2_loop i).trips) : BitVec 32 :=
  let arg2 : BitVec 32 := BitVec.ofNat 32 (i 2).val
  let c4_i32 : BitVec 32 := 4#32
  let c0_i32_3 : BitVec 32 := 0#32
  let v14 : BitVec 1 := Scalar.cmpi .eq c4_i32 c0_i32_3
  let c1_i32 : BitVec 32 := 1#32
  let v15 : BitVec 32 := Scalar.select v14 c1_i32 c4_i32
  let v16 : BitVec 32 := Scalar.remsi arg2 v15
  let c0_i32_5 : BitVec 32 := 0#32
  let v18 : BitVec 1 := Scalar.cmpi .slt v16 c0_i32_5
  let c0_i32_6 : BitVec 32 := 0#32
  let v19 : BitVec 1 := Scalar.cmpi .slt v15 c0_i32_6
  let v20 : BitVec 1 := Scalar.xori v18 v19
  let c0_i32_4 : BitVec 32 := 0#32
  let v17 : BitVec 1 := Scalar.cmpi .ne v16 c0_i32_4
  let v21 : BitVec 1 := Scalar.andi v20 v17
  let v22 : BitVec 32 := Scalar.addi v16 v15
  let v23 : BitVec 32 := Scalar.select v21 v22 v16
  let v60 : BitVec 32 := Scalar.subi arg2 v23
  let c1_i32_23 : BitVec 32 := 1#32
  let v61 : BitVec 32 := Scalar.subi v60 c1_i32_23
  let c4_i32_24 : BitVec 32 := 4#32
  let c0_i32_17 : BitVec 32 := 0#32
  let c0_i32_11 : BitVec 32 := 0#32
  let v35 : BitVec 1 := Scalar.cmpi .sgt arg2 c0_i32_11
  let v36 : BitVec 32 := Scalar.extui v35
  let c0_i32_12 : BitVec 32 := 0#32
  let v37 : BitVec 1 := Scalar.cmpi .slt arg2 c0_i32_12
  let v38 : BitVec 32 := Scalar.extui v37
  let v39 : BitVec 32 := Scalar.subi v36 v38
  let c4_i32_10 : BitVec 32 := 4#32
  let c0_i32_13 : BitVec 32 := 0#32
  let v40 : BitVec 1 := Scalar.cmpi .sgt c4_i32_10 c0_i32_13
  let v41 : BitVec 32 := Scalar.extui v40
  let c0_i32_14 : BitVec 32 := 0#32
  let v42 : BitVec 1 := Scalar.cmpi .slt c4_i32_10 c0_i32_14
  let v43 : BitVec 32 := Scalar.extui v42
  let v44 : BitVec 32 := Scalar.subi v41 v43
  let v45 : BitVec 1 := Scalar.cmpi .ne v39 v44
  let v46 : BitVec 32 := Scalar.remsi arg2 c4_i32_10
  let c0_i32_15 : BitVec 32 := 0#32
  let v47 : BitVec 1 := Scalar.cmpi .ne v46 c0_i32_15
  let v48 : BitVec 1 := Scalar.andi v45 v47
  let v34 : BitVec 32 := Scalar.divsi arg2 c4_i32_10
  let c1_i32_16 : BitVec 32 := 1#32
  let v49 : BitVec 32 := Scalar.subi v34 c1_i32_16
  let v50 : BitVec 32 := Scalar.select v48 v49 v34
  let v51 : BitVec 32 := Scalar.subi v50 c0_i32_17
  let c1_i32_18 : BitVec 32 := 1#32
  let v53 : BitVec 32 := Scalar.divsi v51 c1_i32_18
  let v54 : BitVec 32 := Scalar.muli v53 c1_i32_18
  let v55 : BitVec 32 := Scalar.addi c0_i32_17 v54
  let c1_i32_20 : BitVec 32 := 1#32
  let arg10 : BitVec 32 := Scf.iv v55 c1_i32_20 k0_t2
  let v62 : BitVec 32 := Scalar.muli c4_i32_24 arg10
  let v63 : BitVec 32 := Scalar.subi v61 v62
  let c3_i32 : BitVec 32 := 3#32
  let v67 : BitVec 32 := Scalar.subi v63 c3_i32
  let c256_i32_30 : BitVec 32 := 256#32
  let v74 : BitVec 32 := Scalar.muli v67 c256_i32_30
  v74
def k0_off7 (i : grid0.Coords) (k0_t2 : Fin (k0_t2_loop i).trips) (c0_i32_25 : BitVec 32) : Fin 2 → Nat :=
  let arg2 : BitVec 32 := BitVec.ofNat 32 (i 2).val
  let c4_i32 : BitVec 32 := 4#32
  let c0_i32_3 : BitVec 32 := 0#32
  let v14 : BitVec 1 := Scalar.cmpi .eq c4_i32 c0_i32_3
  let c1_i32 : BitVec 32 := 1#32
  let v15 : BitVec 32 := Scalar.select v14 c1_i32 c4_i32
  let v16 : BitVec 32 := Scalar.remsi arg2 v15
  let c0_i32_5 : BitVec 32 := 0#32
  let v18 : BitVec 1 := Scalar.cmpi .slt v16 c0_i32_5
  let c0_i32_6 : BitVec 32 := 0#32
  let v19 : BitVec 1 := Scalar.cmpi .slt v15 c0_i32_6
  let v20 : BitVec 1 := Scalar.xori v18 v19
  let c0_i32_4 : BitVec 32 := 0#32
  let v17 : BitVec 1 := Scalar.cmpi .ne v16 c0_i32_4
  let v21 : BitVec 1 := Scalar.andi v20 v17
  let v22 : BitVec 32 := Scalar.addi v16 v15
  let v23 : BitVec 32 := Scalar.select v21 v22 v16
  let v60 : BitVec 32 := Scalar.subi arg2 v23
  let c1_i32_23 : BitVec 32 := 1#32
  let v61 : BitVec 32 := Scalar.subi v60 c1_i32_23
  let c4_i32_24 : BitVec 32 := 4#32
  let c0_i32_17 : BitVec 32 := 0#32
  let c0_i32_11 : BitVec 32 := 0#32
  let v35 : BitVec 1 := Scalar.cmpi .sgt arg2 c0_i32_11
  let v36 : BitVec 32 := Scalar.extui v35
  let c0_i32_12 : BitVec 32 := 0#32
  let v37 : BitVec 1 := Scalar.cmpi .slt arg2 c0_i32_12
  let v38 : BitVec 32 := Scalar.extui v37
  let v39 : BitVec 32 := Scalar.subi v36 v38
  let c4_i32_10 : BitVec 32 := 4#32
  let c0_i32_13 : BitVec 32 := 0#32
  let v40 : BitVec 1 := Scalar.cmpi .sgt c4_i32_10 c0_i32_13
  let v41 : BitVec 32 := Scalar.extui v40
  let c0_i32_14 : BitVec 32 := 0#32
  let v42 : BitVec 1 := Scalar.cmpi .slt c4_i32_10 c0_i32_14
  let v43 : BitVec 32 := Scalar.extui v42
  let v44 : BitVec 32 := Scalar.subi v41 v43
  let v45 : BitVec 1 := Scalar.cmpi .ne v39 v44
  let v46 : BitVec 32 := Scalar.remsi arg2 c4_i32_10
  let c0_i32_15 : BitVec 32 := 0#32
  let v47 : BitVec 1 := Scalar.cmpi .ne v46 c0_i32_15
  let v48 : BitVec 1 := Scalar.andi v45 v47
  let v34 : BitVec 32 := Scalar.divsi arg2 c4_i32_10
  let c1_i32_16 : BitVec 32 := 1#32
  let v49 : BitVec 32 := Scalar.subi v34 c1_i32_16
  let v50 : BitVec 32 := Scalar.select v48 v49 v34
  let v51 : BitVec 32 := Scalar.subi v50 c0_i32_17
  let c1_i32_18 : BitVec 32 := 1#32
  let v53 : BitVec 32 := Scalar.divsi v51 c1_i32_18
  let v54 : BitVec 32 := Scalar.muli v53 c1_i32_18
  let v55 : BitVec 32 := Scalar.addi c0_i32_17 v54
  let c1_i32_20 : BitVec 32 := 1#32
  let arg10 : BitVec 32 := Scf.iv v55 c1_i32_20 k0_t2
  let v62 : BitVec 32 := Scalar.muli c4_i32_24 arg10
  let v63 : BitVec 32 := Scalar.subi v61 v62
  let v64 : BitVec 32 := Scalar.subi v63 c0_i32_25
  let c256_i32 : BitVec 32 := 256#32
  let v68 : BitVec 32 := Scalar.muli v64 c256_i32
  let v69 : BitVec 32 := v68
  let v76 : Index := Scalar.indexCast v69
  let c0_31 : Index := 0#32
  ![v76.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S8192x7168 : Shape := ⟨2, ![8192, 7168]⟩
abbrev S8 : Shape := ⟨1, ![8]⟩
abbrev S2x4096x7168 : Shape := ⟨3, ![2, 4096, 7168]⟩
abbrev S2x4096x1024 : Shape := ⟨3, ![2, 4096, 1024]⟩
abbrev S2x4096x8x128 : Shape := ⟨4, ![2, 4096, 8, 128]⟩
abbrev S1x8x1x1 : Shape := ⟨4, ![1, 8, 1, 1]⟩
abbrev S2x8x4096x4096 : Shape := ⟨4, ![2, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x128x4096 : Shape := ⟨4, ![2, 8, 128, 4096]⟩
abbrev S8192x1024 : Shape := ⟨2, ![8192, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S8, .f32⟩
  | .hbm, ⟨2, _⟩ => ⟨S2x4096x7168, .f32⟩
  | .hbm, ⟨3, _⟩ => ⟨S2x4096x1024, .f32⟩
  | .hbm, ⟨4, _⟩ => ⟨S2x4096x8x128, .f32⟩
  | .hbm, ⟨5, _⟩ => ⟨S2x4096x1024, .f32⟩
  | .hbm, ⟨6, _⟩ => ⟨S2x4096x8x128, .f32⟩
  | .hbm, ⟨7, _⟩ => ⟨S2x4096x1024, .f32⟩
  | .hbm, ⟨8, _⟩ => ⟨S2x4096x8x128, .f32⟩
  | .hbm, ⟨9, _⟩ => ⟨S1x8x1x1, .f32⟩
  | .hbm, ⟨10, _⟩ => ⟨S2x8x4096x4096, .f32⟩
  | .hbm, ⟨11, _⟩ => ⟨S_, .f32⟩
  | .hbm, ⟨12, _⟩ => ⟨S2x8x4096x4096, .f32⟩
  | .hbm, ⟨13, _⟩ => ⟨S2x8x4096x4096, .f32⟩
  | .hbm, ⟨14, _⟩ => ⟨S2x8x4096x4096, .f32⟩
  | .hbm, ⟨15, _⟩ => ⟨S2x8x4096x4096, .f32⟩
  | .hbm, ⟨16, _⟩ => ⟨S4096, .i32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S2x8x4096x4096, .f32⟩
  | .hbm, ⟨24, _⟩ => ⟨S2x8x4096x4096, .f32⟩
  | .hbm, ⟨25, _⟩ => ⟨S_, .f32⟩
  | .hbm, ⟨26, _⟩ => ⟨S2x8x4096x4096, .f32⟩
  | .hbm, ⟨27, _⟩ => ⟨S2x8x4096x4096, .f32⟩
  | .hbm, ⟨28, _⟩ => ⟨S2x8x4096x4096, .f32⟩
  | .hbm, ⟨29, _⟩ => ⟨S2x8x4096x4096, .f32⟩
  | .hbm, ⟨30, _⟩ => ⟨S2x8x4096x4096, .i1⟩
  | .hbm, ⟨31, _⟩ => ⟨S2x8x4096x4096, .f32⟩
  | .hbm, ⟨32, _⟩ => ⟨S2x8x4096x4096, .f32⟩
  | .hbm, ⟨33, _⟩ => ⟨S2x8x4096x4096, .f32⟩
  | .hbm, ⟨34, _⟩ => ⟨S2x8x4096x4096, .f32⟩
  | .hbm, ⟨35, _⟩ => ⟨S2x8x4096x4096, .f32⟩
  | .hbm, ⟨36, _⟩ => ⟨S2x8x4096x4096, .f32⟩
  | .hbm, ⟨37, _⟩ => ⟨S2x8x4096x4096, .f32⟩
  | .hbm, ⟨38, _⟩ => ⟨S2x8x4096x4096, .f32⟩
  | .hbm, ⟨39, _⟩ => ⟨S2x8x4096x4096, .f32⟩
  | .hbm, ⟨40, _⟩ => ⟨S_, .f32⟩
  | .hbm, ⟨41, _⟩ => ⟨S_, .f32⟩
  | .hbm, ⟨42, _⟩ => ⟨S2x8x4096x4096, .i1⟩
  | .hbm, ⟨43, _⟩ => ⟨S2x8x4096x4096, .f32⟩
  | .hbm, ⟨44, _⟩ => ⟨S2x8x4096x4096, .f32⟩
  | .hbm, ⟨45, _⟩ => ⟨S2x8x4096x4096, .f32⟩
  | .hbm, ⟨46, _⟩ => ⟨S_, .f32⟩
  | .hbm, ⟨47, _⟩ => ⟨S2x8x4096x4096, .f32⟩
  | .hbm, ⟨48, _⟩ => ⟨S2x8x4096x4096, .f32⟩
  | .hbm, ⟨49, _⟩ => ⟨S2x8x4096x4096, .f32⟩
  | .hbm, ⟨50, _⟩ => ⟨S2x8x4096x4096, .f32⟩
  | .hbm, ⟨51, _⟩ => ⟨S2x8x4096x4096, .i1⟩
  | .hbm, ⟨52, _⟩ => ⟨S2x8x4096x4096, .f32⟩
  | .hbm, ⟨53, _⟩ => ⟨S2x8x4096x4096, .f32⟩
  | .hbm, ⟨54, _⟩ => ⟨S2x8x4096x4096, .f32⟩
  | .hbm, ⟨55, _⟩ => ⟨S2x8x4096x4096, .f32⟩
  | .hbm, ⟨56, _⟩ => ⟨S2x8x4096x4096, .f32⟩
  | .hbm, ⟨57, _⟩ => ⟨S2x8x4096x4096, .f32⟩
  | .hbm, ⟨58, _⟩ => ⟨S2x8x4096x4096, .f32⟩
  | .hbm, ⟨59, _⟩ => ⟨S2x8x4096x4096, .f32⟩
  | .hbm, ⟨60, _⟩ => ⟨S2x8x4096x4096, .f32⟩
  | .hbm, ⟨61, _⟩ => ⟨S_, .f32⟩
  | .hbm, ⟨62, _⟩ => ⟨S_, .f32⟩
  | .hbm, ⟨63, _⟩ => ⟨S2x8x4096x4096, .f32⟩
  | .hbm, ⟨64, _⟩ => ⟨S2x8x4096x4096, .f32⟩
  | .hbm, ⟨65, _⟩ => ⟨S2x8x4096x4096, .f32⟩
  | .hbm, ⟨66, _⟩ => ⟨S2x8x4096x4096, .f32⟩
  | .hbm, ⟨67, _⟩ => ⟨S_, .f32⟩
  | .hbm, ⟨68, _⟩ => ⟨S_, .f32⟩
  | .hbm, ⟨69, _⟩ => ⟨S2x8x4096x4096, .i1⟩
  | .hbm, ⟨70, _⟩ => ⟨S2x8x4096x4096, .f32⟩
  | .hbm, ⟨71, _⟩ => ⟨S2x8x4096x4096, .f32⟩
  | .hbm, ⟨72, _⟩ => ⟨S2x8x128x4096, .f32⟩
  | .hbm, ⟨73, _⟩ => ⟨S2x4096x8x128, .f32⟩
  | .hbm, ⟨74, _⟩ => ⟨S8192x1024, .f32⟩
  | .hbm, ⟨75, _⟩ => ⟨S8192x1024, .bf16⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_call2_v0 : Ref sig .tc := ⟨.hbm, 45, rfl⟩
abbrev main_call2_call0_cst : Ref sig .tc := ⟨.hbm, 46, rfl⟩
abbrev main_call2_call0_v0 : Ref sig .tc := ⟨.hbm, 47, rfl⟩
abbrev main_call2_call0_v1 : Ref sig .tc := ⟨.hbm, 48, rfl⟩
abbrev main_call2_call0_v2 : Ref sig .tc := ⟨.hbm, 49, rfl⟩
abbrev main_call2_call0_v3 : Ref sig .tc := ⟨.hbm, 50, rfl⟩
abbrev main_call2_call0_v4 : Ref sig .tc := ⟨.hbm, 51, rfl⟩
abbrev main_call2_call0_v5 : Ref sig .tc := ⟨.hbm, 52, rfl⟩
abbrev main_call2_call0_v6 : Ref sig .tc := ⟨.hbm, 53, rfl⟩
abbrev main_call2_call0_v7 : Ref sig .tc := ⟨.hbm, 54, rfl⟩
abbrev main_call2_call0_v8 : Ref sig .tc := ⟨.hbm, 55, rfl⟩
abbrev main_call2_call0_v9 : Ref sig .tc := ⟨.hbm, 56, rfl⟩
abbrev main_call2_call0_v10 : Ref sig .tc := ⟨.hbm, 57, rfl⟩
abbrev main_call2_call0_v11 : Ref sig .tc := ⟨.hbm, 58, rfl⟩
abbrev main_call2_v1 : Ref sig .tc := ⟨.hbm, 59, rfl⟩
abbrev main_v23 : Ref sig .tc := ⟨.hbm, 60, rfl⟩
abbrev main_call3_cst : Ref sig .tc := ⟨.hbm, 61, rfl⟩
abbrev main_call3_v0 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩

abbrev nD : Nat := 1
abbrev τ : Topo := Topo.v7x

variable {F : FTy → Type} [FloatOps F]
-- ==== Kernel2.lean ====
abbrev S8192x2048 : Shape := ⟨2, ![8192, 2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S2048 : Shape := ⟨1, ![2048]⟩
abbrev S2048x5504 : Shape := ⟨2, ![2048, 5504]⟩
abbrev S_ : Shape := ⟨0, ![]⟩
abbrev S2048x5632 : Shape := ⟨2, ![2048, 5632]⟩
abbrev S3x5504 : Shape := ⟨2, ![3, 5504]⟩
abbrev S3x5632 : Shape := ⟨2, ![3, 5632]⟩
abbrev S5504 : Shape := ⟨1, ![5504]⟩
abbrev S5632 : Shape := ⟨1, ![5632]⟩
abbrev S5632x2048 : Shape := ⟨2, ![5632, 2048]⟩
abbrev S2x2x11008 : Shape := ⟨3, ![2, 2, 11008]⟩
abbrev S2x2x5504 : Shape := ⟨3, ![2, 2, 5504]⟩
abbrev S2x2x5632 : Shape := ⟨3, ![2, 2, 5632]⟩
abbrev S2x8x5632 : Shape := ⟨3, ![2, 8, 5632]⟩
abbrev S1x5632 : Shape := ⟨2, ![1, 5632]⟩
abbrev S1x2048 : Shape := ⟨2, ![1, 2048]⟩
abbrev S16x8x5632 : Shape := ⟨3, ![16, 8, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S1x8x512 : Shape := ⟨3, ![1, 8, 512]⟩
abbrev S2x1x520x512 : Shape := ⟨4, ![2, 1, 520, 512]⟩
abbrev S11x2x8x512 : Shape := ⟨4, ![11, 2, 8, 512]⟩
abbrev S2048x256 : Shape := ⟨2, ![2048, 256]⟩
abbrev S512x256 : Shape := ⟨2, ![512, 256]⟩
abbrev S1x8x256 : Shape := ⟨3, ![1, 8, 256]⟩
abbrev S8x256 : Shape := ⟨2, ![8, 256]⟩
abbrev S1x1x8x256 : Shape := ⟨4, ![1, 1, 8, 256]⟩
abbrev S1x512x256 : Shape := ⟨3, ![1, 512, 256]⟩
abbrev S1x1x512x256 : Shape := ⟨4, ![1, 1, 512, 256]⟩
abbrev S1x256 : Shape := ⟨2, ![1, 256]⟩
abbrev S1x1x256 : Shape := ⟨3, ![1, 1, 256]⟩
abbrev S256x2048 : Shape := ⟨2, ![256, 2048]⟩
abbrev S512 : Shape := ⟨1, ![512]⟩
abbrev S512x1 : Shape := ⟨2, ![512, 1]⟩

abbrev nBuf : Space → Nat
  | .hbm => 65
  | .vmem => 32
  | .smem => 0
  | _ => 0

abbrev bufTy : (tb : Table) → Fin (tcTables nBuf tb) → BufTy
  | .hbm, ⟨0, _⟩ => ⟨S8192x2048, .f32⟩
  | .hbm, ⟨1, _⟩ => ⟨S2048x11008, .f32⟩
  | .hbm, ⟨2, _⟩ => ⟨S3x11008, .f32⟩
  | .hbm, ⟨3, _⟩ => ⟨S11008, .f32⟩
  | .hbm, ⟨4, _⟩ => ⟨S5504x2048, .f32⟩
  | .hbm, ⟨5, _⟩ => ⟨S2048, .f32⟩
  | .hbm, ⟨6, _⟩ => ⟨S2048, .f32⟩
  | .hbm, ⟨7, _⟩ => ⟨S2048x5504, .f32⟩
  | .hbm, ⟨8, _⟩ => ⟨S2048x5504, .bf16⟩
  | .hbm, ⟨9, _⟩ => ⟨S_, .i32⟩
  | .hbm, ⟨10, _⟩ => ⟨S_, .bf16⟩
  | .hbm, ⟨11, _⟩ => ⟨S2048x5632, .bf16⟩
  | .hbm, ⟨12, _⟩ => ⟨S2048x5504, .f32⟩
  | .hbm, ⟨13, _⟩ => ⟨S2048x5504, .bf16⟩
  | .hbm, ⟨14, _⟩ => ⟨S_, .i32⟩
  | .hbm, ⟨15, _⟩ => ⟨S_, .bf16⟩
  | .hbm, ⟨16, _⟩ => ⟨S2048x5632, .bf16⟩
  | .hbm, ⟨17, _⟩ => ⟨S3x5504, .f32⟩
  | .hbm, ⟨18, _⟩ => ⟨S_, .i32⟩
  | .hbm, ⟨19, _⟩ => ⟨S_, .f32⟩
  | .hbm, ⟨20, _⟩ => ⟨S3x5632, .f32⟩
  | .hbm, ⟨21, _⟩ => ⟨S3x5504, .f32⟩
  | .hbm, ⟨22, _⟩ => ⟨S_, .i32⟩
  | .hbm, ⟨23, _⟩ => ⟨S_, .f32⟩
  | .hbm, ⟨24, _⟩ => ⟨S3x5632, .f32⟩
  | .hbm, ⟨25, _⟩ => ⟨S5504, .f32⟩
  | .hbm, ⟨26, _⟩ => ⟨S_, .i32⟩
  | .hbm, ⟨27, _⟩ => ⟨S_, .f32⟩
  | .hbm, ⟨28, _⟩ => ⟨S5632, .f32⟩
  | .hbm, ⟨29, _⟩ => ⟨S5504, .f32⟩
  | .hbm, ⟨30, _⟩ => ⟨S_, .i32⟩
  | .hbm, ⟨31, _⟩ => ⟨S_, .f32⟩
  | .hbm, ⟨32, _⟩ => ⟨S5632, .f32⟩
  | .hbm, ⟨33, _⟩ => ⟨S5504x2048, .bf16⟩
  | .hbm, ⟨34, _⟩ => ⟨S_, .i32⟩
  | .hbm, ⟨35, _⟩ => ⟨S_, .bf16⟩
  | .hbm, ⟨36, _⟩ => ⟨S5632x2048, .bf16⟩
  | .hbm, ⟨37, _⟩ => ⟨S_, .f32⟩
  | .hbm, ⟨38, _⟩ => ⟨S2x2x11008, .f32⟩
  | .hbm, ⟨39, _⟩ => ⟨S2x2x5504, .f32⟩
  | .hbm, ⟨40, _⟩ => ⟨S2x2x5504, .f32⟩
  | .hbm, ⟨41, _⟩ => ⟨S_, .i32⟩
  | .hbm, ⟨42, _⟩ => ⟨S_, .f32⟩
  | .hbm, ⟨43, _⟩ => ⟨S2x2x5632, .f32⟩
  | .hbm, ⟨44, _⟩ => ⟨S_, .i32⟩
  | .hbm, ⟨45, _⟩ => ⟨S_, .f32⟩
  | .hbm, ⟨46, _⟩ => ⟨S2x8x5632, .f32⟩
  | .hbm, ⟨47, _⟩ => ⟨S_, .i32⟩
  | .hbm, ⟨48, _⟩ => ⟨S_, .f32⟩
  | .hbm, ⟨49, _⟩ => ⟨S2x2x5632, .f32⟩
  | .hbm, ⟨50, _⟩ => ⟨S_, .i32⟩
  | .hbm, ⟨51, _⟩ => ⟨S_, .f32⟩
  | .hbm, ⟨52, _⟩ => ⟨S2x8x5632, .f32⟩
  | .hbm, ⟨53, _⟩ => ⟨S1x5632, .f32⟩
  | .hbm, ⟨54, _⟩ => ⟨S1x5632, .f32⟩
  | .hbm, ⟨55, _⟩ => ⟨S1x2048, .f32⟩
  | .hbm, ⟨56, _⟩ => ⟨S1x2048, .f32⟩
  | .hbm, ⟨57, _⟩ => ⟨S8192x2048, .f32⟩
  | .hbm, ⟨58, _⟩ => ⟨S16x8x5632, .f32⟩
  | .hbm, ⟨59, _⟩ => ⟨S16x8x5632, .f32⟩
  | .hbm, ⟨60, _⟩ => ⟨S2x8x5632, .f32⟩
  | .hbm, ⟨61, _⟩ => ⟨S2x8x5632, .f32⟩
  | .hbm, ⟨62, _⟩ => ⟨S2x2x5504, .f32⟩
  | .hbm, ⟨63, _⟩ => ⟨S2x2x5504, .f32⟩
  | .hbm, ⟨64, _⟩ => ⟨S2x2x11008, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x8x512, .f32⟩
  | .local _ .vmem, ⟨15, _⟩ => ⟨S1x8x512, .f32⟩
  | .local _ .vmem, ⟨16, _⟩ => ⟨S1x8x512, .f32⟩
  | .local _ .vmem, ⟨17, _⟩ => ⟨S1x8x512, .f32⟩
  | .local _ .vmem, ⟨18, _⟩ => ⟨S512x2048, .bf16⟩
  | .local _ .vmem, ⟨19, _⟩ => ⟨S512x2048, .bf16⟩
  | .local _ .vmem, ⟨20, _⟩ => ⟨S1x2048, .f32⟩
  | .local _ .vmem, ⟨21, _⟩ => ⟨S1x2048, .f32⟩
  | .local _ .vmem, ⟨22, _⟩ => ⟨S512x2048, .f32⟩
  | .local _ .vmem, ⟨23, _⟩ => ⟨S512x2048, .f32⟩
  | .local _ .vmem, ⟨24, _⟩ => ⟨S1x8x512, .f32⟩
  | .local _ .vmem, ⟨25, _⟩ => ⟨S1x8x512, .f32⟩
  | .local _ .vmem, ⟨26, _⟩ => ⟨S1x8x512, .f32⟩
  | .local _ .vmem, ⟨27, _⟩ => ⟨S1x8x512, .f32⟩
  | .local _ .vmem, ⟨28, _⟩ => ⟨S512x2048, .bf16⟩
  | .local _ .vmem, ⟨29, _⟩ => ⟨S512x2048, .f32⟩
  | .local _ .vmem, ⟨30, _⟩ => ⟨S2x1x520x512, .f32⟩
  | .local _ .vmem, ⟨31, _⟩ => ⟨S11x2x8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_call3_v0 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_call4_v0 : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_call5_v0 : Ref sig .tc := ⟨.hbm, 31, rfl⟩
abbrev main_v13 : Ref sig .tc := ⟨.hbm, 32, rfl⟩
abbrev main_v14 : Ref sig .tc := ⟨.hbm, 33, rfl⟩
abbrev main_c_5 : Ref sig .tc := ⟨.hbm, 34, rfl⟩
abbrev main_call6_v0 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_6 : Ref sig .tc := ⟨.hbm, 41, rfl⟩
abbrev main_call7_v0 : Ref sig .tc := ⟨.hbm, 42, rfl⟩
abbrev main_v19 : Ref sig .tc := ⟨.hbm, 43, rfl⟩
abbrev main_c_7 : Ref sig .tc := ⟨.hbm, 44, rfl⟩
abbrev main_call8_v0 : Ref sig .tc := ⟨.hbm, 45, rfl⟩
abbrev main_v20 : Ref sig .tc := ⟨.hbm, 46, rfl⟩
abbrev main_c_8 : Ref sig .tc := ⟨.hbm, 47, rfl⟩
abbrev main_call9_v0 : Ref sig .tc := ⟨.hbm, 48, rfl⟩
abbrev main_v21 : Ref sig .tc := ⟨.hbm, 49, rfl⟩
abbrev main_c_9 : Ref sig .tc := ⟨.hbm, 50, rfl⟩
abbrev main_call10_v0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27_0 : Ref sig .tc := ⟨.hbm, 57, rfl⟩
abbrev main_v27_1 : Ref sig .tc := ⟨.hbm, 58, rfl⟩
abbrev main_v27_2 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![16, 11], ![false, false]⟩

def k0_off1 (i : grid0.Coords) : Fin 4 → Nat :=
  let arg1 : BitVec 32 := BitVec.ofNat 32 (i 1).val
  let v34 : Index := Scalar.indexCast arg1
  let c0_23 : Index := 0#32
  let c0_24 : Index := 0#32
  let c0_25 : Index := 0#32
  ![v34.toNat, 0, 0, 0]
def k0_off2 (i : grid0.Coords) : Fin 4 → Nat :=
  let arg1 : BitVec 32 := BitVec.ofNat 32 (i 1).val
  let v83 : Index := Scalar.indexCast arg1
  let c1_58 : Index := 1#32
  let c0_59 : Index := 0#32
  let c0_60 : Index := 0#32
  ![v83.toNat, 1, 0, 0]
def k0_off3 (i : grid0.Coords) : Fin 4 → Nat :=
  let arg1 : BitVec 32 := BitVec.ofNat 32 (i 1).val
  let v146 : Index := Scalar.indexCast arg1
  let c0_104 : Index := 0#32
  let c0_105 : Index := 0#32
  let c256_106 : Index := 256#32
  ![v146.toNat, 0, 0, 256]
def k0_off4 (i : grid0.Coords) : Fin 4 → Nat :=
  let arg1 : BitVec 32 := BitVec.ofNat 32 (i 1).val
  let v195 : Index := Scalar.indexCast arg1
  let c1_144 : Index := 1#32
  let c0_145 : Index := 0#32
  let c256_146 : Index := 256#32
  ![v195.toNat, 1, 0, 256]
def k0_cond3 (i : grid0.Coords) : BitVec 1 :=
  let arg1 : BitVec 32 := BitVec.ofNat 32 (i 1).val
  let c10_i32 : BitVec 32 := 10#32
  let v262 : BitVec 1 := Scalar.cmpi .eq arg1 c10_i32
  let v263 : BitVec 32 := Scalar.extui v262
  let c0_i32_191 : BitVec 32 := 0#32
  let v264 : BitVec 1 := Scalar.cmpi .ne v263 c0_i32_191
  v264

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S8192x2048 : Shape := ⟨2, ![8192, 2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S2048 : Shape := ⟨1, ![2048]⟩
abbrev S2x4096x2048 : Shape := ⟨3, ![2, 4096, 2048]⟩
abbrev S2x4096x11008 : Shape := ⟨3, ![2, 4096, 11008]⟩
abbrev S_ : Shape := ⟨0, ![]⟩
abbrev S2x2x11008 : Shape := ⟨3, ![2, 2, 11008]⟩
abbrev S2x4098x11008 : Shape := ⟨3, ![2, 4098, 11008]⟩
abbrev S1x11008 : Shape := ⟨2, ![1, 11008]⟩
abbrev S1x1x11008 : Shape := ⟨3, ![1, 1, 11008]⟩
abbrev S2x4096x5504 : Shape := ⟨3, ![2, 4096, 5504]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11008, .f32⟩
  | .hbm, ⟨2, _⟩ => ⟨S3x11008, .f32⟩
  | .hbm, ⟨3, _⟩ => ⟨S11008, .f32⟩
  | .hbm, ⟨4, _⟩ => ⟨S5504x2048, .f32⟩
  | .hbm, ⟨5, _⟩ => ⟨S2048, .f32⟩
  | .hbm, ⟨6, _⟩ => ⟨S2048, .f32⟩
  | .hbm, ⟨7, _⟩ => ⟨S2x4096x2048, .f32⟩
  | .hbm, ⟨8, _⟩ => ⟨S2x4096x11008, .f32⟩
  | .hbm, ⟨9, _⟩ => ⟨S_, .f32⟩
  | .hbm, ⟨10, _⟩ => ⟨S2x2x11008, .f32⟩
  | .hbm, ⟨11, _⟩ => ⟨S2x4098x11008, .f32⟩
  | .hbm, ⟨12, _⟩ => ⟨S2x4096x11008, .f32⟩
  | .hbm, ⟨13, _⟩ => ⟨S1x11008, .f32⟩
  | .hbm, ⟨14, _⟩ => ⟨S11008, .f32⟩
  | .hbm, ⟨15, _⟩ => ⟨S1x1x11008, .f32⟩
  | .hbm, ⟨16, _⟩ => ⟨S2x4096x11008, .f32⟩
  | .hbm, ⟨17, _⟩ => ⟨S2x4096x11008, .f32⟩
  | .hbm, ⟨18, _⟩ => ⟨S2x4096x11008, .f32⟩
  | .hbm, ⟨19, _⟩ => ⟨S1x11008, .f32⟩
  | .hbm, ⟨20, _⟩ => ⟨S11008, .f32⟩
  | .hbm, ⟨21, _⟩ => ⟨S1x1x11008, .f32⟩
  | .hbm, ⟨22, _⟩ => ⟨S2x4096x11008, .f32⟩
  | .hbm, ⟨23, _⟩ => ⟨S2x4096x11008, .f32⟩
  | .hbm, ⟨24, _⟩ => ⟨S2x4096x11008, .f32⟩
  | .hbm, ⟨25, _⟩ => ⟨S2x4096x11008, .f32⟩
  | .hbm, ⟨26, _⟩ => ⟨S1x11008, .f32⟩
  | .hbm, ⟨27, _⟩ => ⟨S11008, .f32⟩
  | .hbm, ⟨28, _⟩ => ⟨S1x1x11008, .f32⟩
  | .hbm, ⟨29, _⟩ => ⟨S2x4096x11008, .f32⟩
  | .hbm, ⟨30, _⟩ => ⟨S2x4096x11008, .f32⟩
  | .hbm, ⟨31, _⟩ => ⟨S2x4096x11008, .f32⟩
  | .hbm, ⟨32, _⟩ => ⟨S1x1x11008, .f32⟩
  | .hbm, ⟨33, _⟩ => ⟨S2x4096x11008, .f32⟩
  | .hbm, ⟨34, _⟩ => ⟨S2x4096x11008, .f32⟩
  | .hbm, ⟨35, _⟩ => ⟨S2x4096x5504, .f32⟩
  | .hbm, ⟨36, _⟩ => ⟨S2x4096x5504, .f32⟩
  | .hbm, ⟨37, _⟩ => ⟨S2x4096x5504, .f32⟩
  | .hbm, ⟨38, _⟩ => ⟨S2x4096x5504, .f32⟩
  | .hbm, ⟨39, _⟩ => ⟨S_, .f32⟩
  | .hbm, ⟨40, _⟩ => ⟨S2x4096x5504, .f32⟩
  | .hbm, ⟨41, _⟩ => ⟨S2x4096x5504, .f32⟩
  | .hbm, ⟨42, _⟩ => ⟨S_, .f32⟩
  | .hbm, ⟨43, _⟩ => ⟨S2x4096x5504, .f32⟩
  | .hbm, ⟨44, _⟩ => ⟨S2x4096x5504, .f32⟩
  | .hbm, ⟨45, _⟩ => ⟨S2x4096x5504, .f32⟩
  | .hbm, ⟨46, _⟩ => ⟨S2x4096x5504, .f32⟩
  | .hbm, ⟨47, _⟩ => ⟨S2x4096x2048, .f32⟩
  | .hbm, ⟨48, _⟩ => ⟨S_, .f32⟩
  | .hbm, ⟨49, _⟩ => ⟨S2x4096x2048, .f32⟩
  | .hbm, ⟨50, _⟩ => ⟨S2x4096x2048, .f32⟩
  | .hbm, ⟨51, _⟩ => ⟨S2x4096x2048, .f32⟩
  | .hbm, ⟨52, _⟩ => ⟨S_, .f32⟩
  | .hbm, ⟨53, _⟩ => ⟨S2x4096, .f32⟩
  | .hbm, ⟨54, _⟩ => ⟨S2x4096x1, .f32⟩
  | .hbm, ⟨55, _⟩ => ⟨S_, .f32⟩
  | .hbm, ⟨56, _⟩ => ⟨S2x4096x1, .f32⟩
  | .hbm, ⟨57, _⟩ => ⟨S2x4096x1, .f32⟩
  | .hbm, ⟨58, _⟩ => ⟨S2x4096x2048, .f32⟩
  | .hbm, ⟨59, _⟩ => ⟨S2x4096x2048, .f32⟩
  | .hbm, ⟨60, _⟩ => ⟨S2x4096x2048, .f32⟩
  | .hbm, ⟨61, _⟩ => ⟨S_, .f32⟩
  | .hbm, ⟨62, _⟩ => ⟨S2x4096, .f32⟩
  | .hbm, ⟨63, _⟩ => ⟨S2x4096x1, .f32⟩
  | .hbm, ⟨64, _⟩ => ⟨S_, .f32⟩
  | .hbm, ⟨65, _⟩ => ⟨S2x4096x1, .f32⟩
  | .hbm, ⟨66, _⟩ => ⟨S2x4096x1, .f32⟩
  | .hbm, ⟨67, _⟩ => ⟨S_, .f32⟩
  | .hbm, ⟨68, _⟩ => ⟨S2x4096x1, .f32⟩
  | .hbm, ⟨69, _⟩ => ⟨S2x4096x1, .f32⟩
  | .hbm, ⟨70, _⟩ => ⟨S2x4096x1, .f32⟩
  | .hbm, ⟨71, _⟩ => ⟨S2x4096x2048, .f32⟩
  | .hbm, ⟨72, _⟩ => ⟨S2x4096x2048, .f32⟩
  | .hbm, ⟨73, _⟩ => ⟨S1x1x2048, .f32⟩
  | .hbm, ⟨74, _⟩ => ⟨S2x4096x2048, .f32⟩
  | .hbm, ⟨75, _⟩ => ⟨S2x4096x2048, .f32⟩
  | .hbm, ⟨76, _⟩ => ⟨S1x1x2048, .f32⟩
  | .hbm, ⟨77, _⟩ => ⟨S2x4096x2048, .f32⟩
  | .hbm, ⟨78, _⟩ => ⟨S2x4096x2048, .f32⟩
  | .hbm, ⟨79, _⟩ => ⟨S8192x2048, .f32⟩
  | .hbm, ⟨80, _⟩ => ⟨S2x2x11008, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_1 : Ref sig .tc := ⟨.hbm, 52, rfl⟩
abbrev main_v35 : Ref sig .tc := ⟨.hbm, 53, rfl⟩
abbrev main_v36 : Ref sig .tc := ⟨.hbm, 54, rfl⟩
abbrev main_cst_2 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Proof.Block.lean ====
/-
  What one run of the stick-breaking kernel's body computes, as plain functions of the query block, the head's bias
  and the block's keys and values: the scores of a key block, their log keeps, the attention weights and their
  product with the values, then a group of four blocks and the whole descent over the key blocks of a query block.
-/
module

public import proofs.«01_k».proof.Proof.Gen.KernelIdeal.Skeleton

@[expose] public section

noncomputable section

namespace Cert.KernelIdeal.Hand

open Idealize.ShloMosaic Idealize.ShloMosaic.TcCoe
open Cert.KernelIdeal.Gen

variable {F : FTy → Type} [FloatOps F] [Named F]

/-- The scores of a key block, in units of log 2: `q · k` times the named scale, plus the bias times the named `log2 e`. -/
def zB (q : FVec F S256x128 .bf16) (b : Elt F .f32) (k : Vec F S256x128 .bf16) : FVec F S256x256 .f32 :=
  addf (mulf (matmul dot_S256x128_S256x128_S256x256_1_1_0_0_n_n none q k (constant S256x256 .f32 0x00000000#32))
      (broadcast S256x256 (Named.named κ "scale_log2e" 0x3E0293EE#32)))
    (broadcast S256x256 (Scalar.mulf b (Named.named κ "log2e" 0x3FB8AA3B#32)))

/-- The log (base 2) of the share kept past a key of score `z`: `min (-z) 0 - log2 (1 + 2 ^ min z (-z))`. -/
def keepB (z : FVec F S256x256 .f32) : FVec F S256x256 .f32 :=
  subf (minimumf (subf (broadcast S256x256 (Scalar.ofBits .f32 0x00000000#32)) z) (broadcast S256x256 (Scalar.ofBits .f32 0x00000000#32)))
    (mulf (log (addf (broadcast S256x256 (Scalar.ofBits .f32 0x3F800000#32))
        (exp2 (minimumf z (subf (broadcast S256x256 (Scalar.ofBits .f32 0x00000000#32)) z)))))
      (broadcast S256x256 (Named.named κ "log2e" 0x3FB8AA3B#32)))

/-- The strict lower triangle as a matrix of zeros and ones. -/
def triU : FVec F S256x256 .bf16 :=
  truncf .bf16 (select (cmpi .sgt (iota .tc S256x256 32 [0] iota_S256x256_d0_w32) (iota .tc S256x256 32 [1] iota_S256x256_d1_w32))
    (broadcast S256x256 (Scalar.ofBits (F := F) .f32 0x3F800000#32)) (broadcast S256x256 (Scalar.ofBits .f32 0x00000000#32))) bitsLt_bf16_f32

/-- The keys before the query, within the diagonal block. -/
def maskB : IVec S256x256 1 :=
  cmpi .slt (iota .tc S256x256 32 [1] iota_S256x256_d1_w32) (iota .tc S256x256 32 [0] iota_S256x256_d0_w32)

/-- A block with zero outside the diagonal block's mask. -/
def onB (x : FVec F S256x256 .f32) : FVec F S256x256 .f32 :=
  select maskB x (broadcast S256x256 (Scalar.ofBits .f32 0x00000000#32))

/-- Per key, the log keeps of the later keys of its block summed: their two-term split times the stacked triangle. -/
def laterB (l : FVec F S256x256 .f32) : FVec F S256x256 .f32 :=
  matmul dot_S256x512_S512x256_S256x256_1_0_0_1_n_n none
    (concatenate S256x512 1 [⟨S256x256, truncf .bf16 l bitsLt_bf16_f32⟩,
      ⟨S256x256, truncf .bf16 (subf l (extf .f32 (truncf .bf16 l bitsLt_bf16_f32) bitsLt_bf16_f32)) bitsLt_bf16_f32⟩]
      concatenates_S256x256_S256x256_S256x512_d1)
    (concatenate S512x256 0 [⟨S256x256, triU (F := F)⟩, ⟨S256x256, triU⟩] concatenates_S256x256_S256x256_S512x256_d0)
    (constant S256x256 .f32 0x00000000#32)

/-- The log keeps of a block summed per query, added to what later blocks left. -/
def carryB (c : FVec F S256x1 .f32) (l : FVec F S256x256 .f32) : FVec F S256x1 .f32 :=
  addf c (shapeCast S256x1 (multiReduction .add [1] S256 l 0x00000000#32 reduces_S256x256_S256 (.inl rfl) rfl) shapeCasts_S256_S256x1)

/-- The attention weights of a block of scores `z` whose log keeps count as `l`, over what later blocks left. -/
def weightB (z l : FVec F S256x256 .f32) (c : FVec F S256x1 .f32) : FVec F S256x256 .f32 :=
  exp2 (addf (addf (addf z (keepB z)) (laterB l)) (broadcastTo S256x256 c broadcasts_S256x1_S256x256))

/-- A block's weights times its values. -/
def valB (a : FVec F S256x256 .f32) (v : Vec F S256x128 .bf16) : FVec F S256x128 .f32 :=
  matmul dot_S256x256_S256x128_S256x128_1_0_0_1_n_n none (truncf .bf16 a bitsLt_bf16_f32) v (constant S256x128 .f32 0x00000000#32)

section Descent

variable (q : FVec F S256x128 .bf16) (b : Elt F .f32)

/-- The diagonal block's contribution. -/
def valD (k v : Vec F S256x128 .bf16) (c : FVec F S256x1 .f32) : FVec F S256x128 .f32 :=
  valB (onB (weightB (zB q b k) (onB (keepB (zB q b k))) c)) v

/-- An earlier block's contribution. -/
def valE (k v : Vec F S256x128 .bf16) (c : FVec F S256x1 .f32) : FVec F S256x128 .f32 :=
  valB (weightB (zB q b k) (keepB (zB q b k)) c) v

/-- What the diagonal block leaves to the earlier ones. -/
def carryD (k : Vec F S256x128 .bf16) (c : FVec F S256x1 .f32) : FVec F S256x1 .f32 := carryB c (onB (keepB (zB q b k)))

/-- What an earlier block leaves to the ones before it. -/
def carryE (k : Vec F S256x128 .bf16) (c : FVec F S256x1 .f32) : FVec F S256x1 .f32 := carryB c (keepB (zB q b k))

/-- The sums a descent starts from. -/
def zeroAcc : FVec F S256x128 .f32 := broadcast S256x128 (Scalar.ofBits .f32 0x00000000#32)
def zeroCarry : FVec F S256x1 .f32 := broadcast S256x1 (Scalar.ofBits .f32 0x00000000#32)

/-- Block `j` of 256 rows. -/
def rowsB {α : Type} (X : S4096x128.Idx → α) (j : ℕ) : S256x128.Idx → α := fun x =>
  X (Fin.cons (⟨(256 * j + (x 0).val) % 4096, Nat.mod_lt _ (by decide)⟩ : Fin 4096) (Fin.cons (⟨(x 1).val, (x 1).isLt⟩ : Fin 128) (fun a => a.elim0)))

/-- A head group: the diagonal block and none, one, two or three blocks before it, of keys `k…` and values `v…`. -/
def headOf1 (k0 v0 : Vec F S256x128 .bf16) : FVec F S256x128 .f32 × FVec F S256x1 .f32 :=
  (addf zeroAcc (valD q b k0 v0 zeroCarry), carryD q b k0 zeroCarry)
def headOf2 (k0 k1 v0 v1 : Vec F S256x128 .bf16) : FVec F S256x128 .f32 × FVec F S256x1 .f32 :=
  (addf zeroAcc (addf (valD q b k0 v0 zeroCarry) (valE q b k1 v1 (carryD q b k0 zeroCarry))), carryE q b k1 (carryD q b k0 zeroCarry))
def headOf3 (k0 k1 k2 v0 v1 v2 : Vec F S256x128 .bf16) : FVec F S256x128 .f32 × FVec F S256x1 .f32 :=
  (addf zeroAcc (addf (addf (valD q b k0 v0 zeroCarry) (valE q b k1 v1 (carryD q b k0 zeroCarry)))
      (valE q b k2 v2 (carryE q b k1 (carryD q b k0 zeroCarry)))),
    carryE q b k2 (carryE q b k1 (carryD q b k0 zeroCarry)))
def headOf4 (k0 k1 k2 k3 v0 v1 v2 v3 : Vec F S256x128 .bf16) : FVec F S256x128 .f32 × FVec F S256x1 .f32 :=
  (addf zeroAcc (addf (addf (addf (valD q b k0 v0 zeroCarry) (valE q b k1 v1 (carryD q b k0 zeroCarry)))
      (valE q b k2 v2 (carryE q b k1 (carryD q b k0 zeroCarry)))) (valE q b k3 v3 (carryE q b k2 (carryE q b k1 (carryD q b k0 zeroCarry))))),
    carryE q b k3 (carryE q b k2 (carryE q b k1 (carryD q b k0 zeroCarry))))

/-- A group of four blocks before the head, of keys `k…` and values `v…`. -/
def groupOf (k0 k1 k2 k3 v0 v1 v2 v3 : Vec F S256x128 .bf16) (s : FVec F S256x128 .f32 × FVec F S256x1 .f32) :
    FVec F S256x128 .f32 × FVec F S256x1 .f32 :=
  (addf s.1 (addf (addf (addf (valE q b k0 v0 s.2) (valE q b k1 v1 (carryE q b k0 s.2)))
      (valE q b k2 v2 (carryE q b k1 (carryE q b k0 s.2)))) (valE q b k3 v3 (carryE q b k2 (carryE q b k1 (carryE q b k0 s.2))))),
    carryE q b k3 (carryE q b k2 (carryE q b k1 (carryE q b k0 s.2))))

variable (K V : Vec F S4096x128 .bf16)

/-- The head group of query block `j`: the diagonal block and the `j % 4` blocks before it. -/
def headB (j : ℕ) : FVec F S256x128 .f32 × FVec F S256x1 .f32 :=
  match j % 4 with
  | 0 => headOf1 q b (rowsB K j) (rowsB V j)
  | 1 => headOf2 q b (rowsB K j) (rowsB K (j - 1)) (rowsB V j) (rowsB V (j - 1))
  | 2 => headOf3 q b (rowsB K j) (rowsB K (j - 1)) (rowsB K (j - 2)) (rowsB V j) (rowsB V (j - 1)) (rowsB V (j - 2))
  | _ => headOf4 q b (rowsB K j) (rowsB K (j - 1)) (rowsB K (j - 2)) (rowsB K (j - 3))
      (rowsB V j) (rowsB V (j - 1)) (rowsB V (j - 2)) (rowsB V (j - 3))

/-- A group of four blocks, the first of them block `j`. -/
def groupB (j : ℕ) (s : FVec F S256x128 .f32 × FVec F S256x1 .f32) : FVec F S256x128 .f32 × FVec F S256x1 .f32 :=
  groupOf q b (rowsB K j) (rowsB K (j - 1)) (rowsB K (j - 2)) (rowsB K (j - 3))
    (rowsB V j) (rowsB V (j - 1)) (rowsB V (j - 2)) (rowsB V (j - 3)) s

/-- The descent of query block `j` after its head and `k` groups of four. -/
def descendB (j : ℕ) : ℕ → FVec F S256x128 .f32 × FVec F S256x1 .f32
  | 0 => headB q b K V j
  | k + 1 => groupB q b K V (j - j % 4 - 1 - 4 * k) (descendB j k)

/-- What the body stores for query block `j`. -/
def outB (j : ℕ) : FVec F S256x128 .bf16 := truncf .bf16 (descendB q b K V j (j / 4)).1 bitsLt_bf16_f32

end Descent

end Cert.KernelIdeal.Hand

end
-- ==== Proof.Walk.lean ====
/-
  Which key blocks a query block's body visits: the rows each of its loads reads, how often its loop runs, and which
  of the four head groups it takes.
-/
module

public import proofs.«01_k».proof.Proof.Block
public import proofs.«01_k».proof.Proof.Gen.KernelIdeal.Frame
public import Idealize.ShloMosaic.Lib.Pipeline.ValueKit.Tiles

@[expose] public section

noncomputable section

namespace Cert.KernelIdeal.Hand

open Idealize.ShloMosaic Idealize.ShloMosaic.TcCoe
open Cert.KernelIdeal.Gen

variable {F : FTy → Type} [FloatOps F] [Named F]

/-- The loop over groups of four runs once per group. -/
theorem trips1 : ∀ i : grid0.Coords, (k0_t1_loop i).trips = (i 2).val / 4 := by decide +kernel

/-- The remainder loop never runs. -/
theorem trips2 : ∀ i : grid0.Coords, (k0_t2_loop i).trips = 0 := by decide +kernel

/-- The head of one block starts at the diagonal block. -/
theorem off2_eq : ∀ i : grid0.Coords, k0_off2 i = ![256 * (i 2).val, 0] := by decide +kernel

/-- The head of two blocks. -/
theorem off3_eq : ∀ i : grid0.Coords, ¬ k0_cond3 i = 1#1 → ∀ r : Fin 2, k0_off3 i (BitVec.ofNat 32 r.val) = ![256 * ((i 2).val - r.val), 0] := by decide +kernel

/-- The head of three blocks. -/
theorem off4_eq : ∀ i : grid0.Coords, k0_cond4 i = 1#1 → ∀ r : Fin 3, k0_off4 i (BitVec.ofNat 32 r.val) = ![256 * ((i 2).val - r.val), 0] := by decide +kernel

/-- The head of four blocks. -/
theorem off5_eq : ∀ i : grid0.Coords, ¬ k0_cond2 i = 1#1 → ¬ k0_cond4 i = 1#1 → ∀ r : Fin 4, k0_off5 i (BitVec.ofNat 32 r.val) = ![256 * ((i 2).val - r.val), 0] := by decide +kernel

/-- Group `k` of the loop. -/
theorem off6_eq : ∀ (i : grid0.Coords) (k : Fin (k0_t1_loop i).trips) (r : Fin 4),
    k0_off6 i k (BitVec.ofNat 32 r.val) = ![256 * ((i 2).val - (i 2).val % 4 - 1 - 4 * k.val - r.val), 0] := by decide +kernel

/-- The bias is the head's. -/
theorem off1_eq : ∀ i : grid0.Coords, k0_off1 i = ![(i 1).val] := by decide +kernel

/-- Which head the conditions name. -/
theorem head0 : ∀ i : grid0.Coords, k0_cond2 i = 1#1 → k0_cond3 i = 1#1 → (i 2).val % 4 = 0 := by decide +kernel
theorem head1 : ∀ i : grid0.Coords, k0_cond2 i = 1#1 → ¬ k0_cond3 i = 1#1 → (i 2).val % 4 = 1 := by decide +kernel
theorem head2 : ∀ i : grid0.Coords, ¬ k0_cond2 i = 1#1 → k0_cond4 i = 1#1 → (i 2).val % 4 = 2 := by decide +kernel
theorem head3 : ∀ i : grid0.Coords, ¬ k0_cond2 i = 1#1 → ¬ k0_cond4 i = 1#1 → (i 2).val % 4 = 3 := by decide +kernel

/-- The 256 rows a load at `off` reads. -/
abbrev ldRows {M : Memref sig .tc .vmem S4096x128 .bf16} (f : BufTy.Contents (Elt F) M.view.ty) (off : Fin 2 → ℕ)
    (inb : ∀ a, off a + S256x128.size a ≤ S4096x128.size a) : Vec F S256x128 .bf16 :=
  View.readAt (Elt F) M.view (Rect.unit (s := S4096x128) off S256x128.size inb).toLoadRect f

/-- A load of 256 rows at row `256 j` reads block `j`. -/
theorem rows_of_load {M : Memref sig .tc .vmem S4096x128 .bf16} (f : BufTy.Contents (Elt F) M.view.ty) (off : Fin 2 → ℕ)
    (inb : ∀ a, off a + S256x128.size a ≤ S4096x128.size a) (j : ℕ) (hoff : off = ![256 * j, 0]) :
    ldRows f off inb = rowsB (View.read (Elt F) M.view f) j := by
  subst hoff
  funext x
  have h0 : 256 * j + (x 0).val < 4096 := by
    have hb : 256 * j + 256 ≤ 4096 := inb 0
    have hx : (x 0).val < 256 := (x 0).isLt
    omega
  refine congrArg (View.read (Elt F) M.view f) (funext fun a => Fin.ext ?_)
  fin_cases a
  · refine Eq.trans ?_ (Nat.mod_eq_of_lt h0).symm
    exact Rect.idx_unit_val (s := S4096x128) ![256 * j, 0] S256x128.size inb x 0
  · exact (Rect.idx_unit_val (s := S4096x128) ![256 * j, 0] S256x128.size inb x 1).trans (Nat.zero_add (x 1).val)

end Cert.KernelIdeal.Hand

end
-- ==== Proof.Trip.lean ====
/-
  One trip of the kernel's loop is one group of four blocks, and so its trips are the descent.
-/
module

public import proofs.«01_k».proof.Proof.Walk
public import proofs.«01_k».proof.Proof.Gen.KernelIdeal.Loops

@[expose] public section

set_option maxRecDepth 8192

noncomputable section

namespace Cert.KernelIdeal.Hand

open Idealize.ShloMosaic Idealize.ShloMosaic.TcCoe Idealize.ShloMosaic.Tactic
open Cert.KernelIdeal.Gen

variable {F : FTy → Type} [FloatOps F] [Named F]
variable (𝒱 : Variants) (c : Dev nD) (bd : Option 𝒱.V) (i : grid0.Coords) (arg3 : Memref sig .tc .smem S8 .f32) (harg3 : arg3.IsWhole) (arg4 : Memref sig .tc .vmem S256x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S256x128 .bf16) (harg7 : arg7.IsWhole) (arg8 : Memref sig .tc .vmem S4096x128 .bf16) (harg8 : arg8.IsWhole) (arg9 : Memref sig .tc .vmem S4096x128 .bf16) (harg9 : arg9.IsWhole)
  (w : BitVec 32) (q : FVec F S256x128 .bf16) (b : Elt F .f32) (v23 : BitVec 32)
  (X8 : BufTy.Contents (Elt F) arg8.view.ty) (X9 : BufTy.Contents (Elt F) arg9.view.ty)

/-- Trip `k` of the loop is the group of four blocks it visits. -/
theorem tripR_eq (k : Fin (k0_t1_loop i).trips) (s : FVec F S256x128 .f32 × FVec F S256x1 .f32) :
    tripR_k0_t1 𝒱 c bd i arg3 harg3 arg4 harg4 arg5 harg5 arg6 harg6 arg7 harg7 arg8 harg8 arg9 harg9 w q b (k0_pay112 (F := F)) v23 X8 X9 k s
      = groupB q b (View.read (Elt F) arg8.view X8) (View.read (Elt F) arg9.view X9) ((i 2).val - (i 2).val % 4 - 1 - 4 * k.val) s := by
  unfold tripR_k0_t1 trip_k0_t1 groupB
  refine Eq.trans (b := groupOf q b (ldRows X8 _ (k0_off6_inb i k 0)) (ldRows X8 _ (k0_off6_inb i k 1)) (ldRows X8 _ (k0_off6_inb i k 2))
    (ldRows X8 _ (k0_off6_inb i k 3)) (ldRows X9 _ (k0_off6_inb i k 0)) (ldRows X9 _ (k0_off6_inb i k 1)) (ldRows X9 _ (k0_off6_inb i k 2))
    (ldRows X9 _ (k0_off6_inb i k 3)) s) rfl ?_
  rw [rows_of_load X8 _ (k0_off6_inb i k 0) _ (off6_eq i k 0), rows_of_load X9 _ (k0_off6_inb i k 0) _ (off6_eq i k 0),
    rows_of_load X8 _ (k0_off6_inb i k 1) _ (off6_eq i k 1), rows_of_load X9 _ (k0_off6_inb i k 1) _ (off6_eq i k 1),
    rows_of_load X8 _ (k0_off6_inb i k 2) _ (off6_eq i k 2), rows_of_load X9 _ (k0_off6_inb i k 2) _ (off6_eq i k 2),
    rows_of_load X8 _ (k0_off6_inb i k 3) _ (off6_eq i k 3), rows_of_load X9 _ (k0_off6_inb i k 3) _ (off6_eq i k 3)]
  rfl

/-- The loop from the head of query block `j` is the descent. -/
theorem st_eq (n : ℕ) (hn : n ≤ (k0_t1_loop i).trips) :
    st_k0_t1 𝒱 c bd i arg3 harg3 arg4 harg4 arg5 harg5 arg6 harg6 arg7 harg7 arg8 harg8 arg9 harg9 w q b (k0_pay112 (F := F)) v23 X8 X9
        (headB q b (View.read (Elt F) arg8.view X8) (View.read (Elt F) arg9.view X9) (i 2).val) n
      = descendB q b (View.read (Elt F) arg8.view X8) (View.read (Elt F) arg9.view X9) (i 2).val n := by
  induction n with
  | zero => rfl
  | succ n ih =>
    have e := st_k0_t1_succ 𝒱 c bd i arg3 harg3 arg4 harg4 arg5 harg5 arg6 harg6 arg7 harg7 arg8 harg8 arg9 harg9 w q b (k0_pay112 (F := F)) v23 X8 X9
        (headB q b (View.read (Elt F) arg8.view X8) (View.read (Elt F) arg9.view X9) (i 2).val) ⟨n, hn⟩
    rw [e, ih (Nat.le_of_succ_le hn), tripR_eq]
    rfl

/-- Both loops from the head of query block `j`: the whole descent. -/
theorem loops_eq (v55 : BitVec 32) (s : FVec F S256x128 .f32 × FVec F S256x1 .f32)
    (hs : s = headB q b (View.read (Elt F) arg8.view X8) (View.read (Elt F) arg9.view X9) (i 2).val) :
    st_k0_t2 𝒱 c bd i arg3 harg3 arg4 harg4 arg5 harg5 arg6 harg6 arg7 harg7 arg8 harg8 arg9 harg9 w q b (k0_pay112 (F := F)) v23 v55 X8 X9
        (st_k0_t1 𝒱 c bd i arg3 harg3 arg4 harg4 arg5 harg5 arg6 harg6 arg7 harg7 arg8 harg8 arg9 harg9 w q b (k0_pay112 (F := F)) v23 X8 X9 s
          (Scf.trips (k0_t1_loop i).lb (k0_t1_loop i).ub (k0_t1_loop i).st))
        (Scf.trips (k0_t2_loop i).lb (k0_t2_loop i).ub (k0_t2_loop i).st)
      = descendB q b (View.read (Elt F) arg8.view X8) (View.read (Elt F) arg9.view X9) (i 2).val ((i 2).val / 4) := by
  subst hs
  have e1 : Scf.trips (k0_t1_loop i).lb (k0_t1_loop i).ub (k0_t1_loop i).st = (i 2).val / 4 := trips1 i
  have e2 : Scf.trips (k0_t2_loop i).lb (k0_t2_loop i).ub (k0_t2_loop i).st = 0 := trips2 i
  rw [e2, st_k0_t2_zero, e1]
  exact st_eq 𝒱 c bd i arg3 harg3 arg4 harg4 arg5 harg5 arg6 harg6 arg7 harg7 arg8 harg8 arg9 harg9 w q b v23 X8 X9 _ (trips1 i).ge

end Cert.KernelIdeal.Hand

end
-- ==== Proof.Body.lean ====
/-
  The kernel body at a grid point, in its five cases: the first query block of a head, which also rounds the head's
  keys and values into scratch, and the later query blocks by how many blocks their head group holds.
-/
module

public import proofs.«01_k».proof.Proof.Trip

@[expose] public section

set_option maxRecDepth 8192

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- Whether the point is the first query block of its head, as the body computes it. -/
abbrev firstOf (i : grid0.Coords) : BitVec 1 := Scalar.cmpi .ne (Scalar.extui (Scalar.cmpi .eq (BitVec.ofNat 32 (i 2).val) 0#32) : BitVec 32) 0#32

theorem first_iff : ∀ i : grid0.Coords, firstOf i = 1#1 ↔ (i 2).val = 0 := by decide +kernel
theorem first_head : ∀ i : grid0.Coords, firstOf i = 1#1 → k0_cond2 i = 1#1 ∧ k0_cond3 i = 1#1 := by decide +kernel

/-- Head `h`'s bias. -/
def biasOf (xb : Vec F S8 .f32) (i : grid0.Coords) : Elt F .f32 := xb (Fin.cons (⟨(i 1).val, (i 1).isLt⟩ : Fin 8) (fun a => a.elim0))

/-- The query block rounded. -/
def queryOf (q : Vec F S256x128 .f32) : FVec F S256x128 .bf16 := truncf .bf16 q bitsLt_bf16_f32

/-- Keys or values rounded. -/
def roundOf (x : Vec F S4096x128 .f32) : FVec F S4096x128 .bf16 := truncf .bf16 x bitsLt_bf16_f32

/-- The body at a point, the two scratch buffers held as `S` before it and reading `K`, `V` after it: the inputs stay
    and the output block is the descent. -/
abbrev BodyRun (i : grid0.Coords) (K V : Vec F S4096x128 .bf16) (xb : Vec F S8 .f32) (q : Vec F S256x128 .f32) (kf vf : Vec F S4096x128 .f32)
    (S : Dev nD → Memref sig .tc .vmem S4096x128 .bf16 → Memref sig .tc .vmem S4096x128 .bf16 → sProp 𝕄) : Prop :=
  ∀ (c : Dev nD) (E : Set ℕ) (arg3 : Memref sig .tc .smem S8 .f32) (harg3 : arg3.IsWhole) (arg4 : Memref sig .tc .vmem S256x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S256x128 .bf16) (harg7 : arg7.IsWhole) (arg8 : Memref sig .tc .vmem S4096x128 .bf16) (harg8 : arg8.IsWhole) (arg9 : Memref sig .tc .vmem S4096x128 .bf16) (harg9 : arg9.IsWhole)
    (Q : PUnit → sProp 𝕄),
    iprop(owns (c : Thread nD τ) arg3 fullShare xb ∗ owns (c : Thread nD τ) arg4 fullShare q ∗ owns (c : Thread nD τ) arg5 fullShare kf ∗ owns (c : Thread nD τ) arg6 fullShare vf
        ∗ (∃ d, owns (c : Thread nD τ) arg7 fullShare d) ∗ S c arg8 arg9
        ∗ (iprop(owns (c : Thread nD τ) arg3 fullShare xb ∗ owns (c : Thread nD τ) arg4 fullShare q ∗ owns (c : Thread nD τ) arg5 fullShare kf ∗ owns (c : Thread nD τ) arg6 fullShare vf
        ∗ owns (c : Thread nD τ) arg7 fullShare (outB (queryOf q) (biasOf xb i) K V (i 2).val) ∗ owns (c : Thread nD τ) arg8 fullShare K ∗ owns (c : Thread nD τ) arg9 fullShare V) -∗ Q ⟨⟩))
      ⊢ wp frame (wpE (defs₀ (F := F)) Variants.none c none) E (cc0_sb_prompt i arg3 harg3 arg4 harg4 arg5 harg5 arg6 harg6 arg7 harg7 arg8 harg8 arg9 harg9) Q

/-- The scratch as a later query block finds it, and as the first one does. -/
abbrev Kept (K V : Vec F S4096x128 .bf16) (c : Dev nD) (arg8 arg9 : Memref sig .tc .vmem S4096x128 .bf16) : sProp 𝕄 :=
  iprop(owns (c : Thread nD τ) arg8 fullShare K ∗ owns (c : Thread nD τ) arg9 fullShare V)
abbrev Fresh (c : Dev nD) (arg8 arg9 : Memref sig .tc .vmem S4096x128 .bf16) : sProp 𝕄 :=
  iprop((∃ d, owns (c : Thread nD τ) arg8 fullShare d) ∗ (∃ d, owns (c : Thread nD τ) arg9 fullShare d))

/-- The one store of the output block, read back. -/
theorem stored (M : Memref sig .tc .vmem S256x128 .bf16) (f : BufTy.Contents (Elt F) M.view.ty) (x : FVec F S256x128 .bf16) :
    View.read (Elt F) M.view (M.view.writes (Elt F) f [⟨Rect.unit ![0, 0] S256x128.size inb_S256x128_S256x128_0_0, x⟩]) = x := by
  have hz : (![0, 0] : Fin 2 → ℕ) = fun _ => 0 := by funext a; fin_cases a <;> rfl
  have hc : ∀ y : S256x128.Idx, ∃ p ∈ [(⟨Rect.unit (s := S256x128) ![0, 0] S256x128.size inb_S256x128_S256x128_0_0, x⟩ : View.Piece (Elt F) S256x128 .bf16)], y ∈ p.1.set :=
    fun y => ⟨_, List.mem_singleton_self _, View.mem_set_unit_zero (S := S256x128) hz inb_S256x128_S256x128_0_0 y⟩
  exact (View.read_writes_eq_canon M.view f _ hc).trans (View.canon_unit_zero (S := S256x128) (Val := Elt F) (e := .bf16) hz inb_S256x128_S256x128_0_0 x)

/-- A store of all keys or values into scratch, read back. -/
theorem filled (M : Memref sig .tc .vmem S4096x128 .bf16) (f : BufTy.Contents (Elt F) M.view.ty) (x : FVec F S4096x128 .bf16) :
    View.read (Elt F) M.view (M.view.writes (Elt F) f [⟨Rect.unit ![0, 0] S4096x128.size inb_S4096x128_S4096x128_0_0, x⟩]) = x := by
  have hz : (![0, 0] : Fin 2 → ℕ) = fun _ => 0 := by funext a; fin_cases a <;> rfl
  have hc : ∀ y : S4096x128.Idx, ∃ p ∈ [(⟨Rect.unit (s := S4096x128) ![0, 0] S4096x128.size inb_S4096x128_S4096x128_0_0, x⟩ : View.Piece (Elt F) S4096x128 .bf16)], y ∈ p.1.set :=
    fun y => ⟨_, List.mem_singleton_self _, View.mem_set_unit_zero (S := S4096x128) hz inb_S4096x128_S4096x128_0_0 y⟩
  exact (View.read_writes_eq_canon M.view f _ hc).trans (View.canon_unit_zero (S := S4096x128) (Val := Elt F) (e := .bf16) hz inb_S4096x128_S4096x128_0_0 x)

/-- The load of all keys or values reads them whole. -/
theorem loadK (M : Memref sig .tc .vmem S4096x128 .f32) (f : BufTy.Contents (Elt F) M.view.ty) :
    View.readAt (Elt F) M.view (Rect.unit (s := S4096x128) ![0, 0] S4096x128.size inb_S4096x128_S4096x128_0_0).toLoadRect f = View.read (Elt F) M.view f := by
  have hz : (![0, 0] : Fin 2 → ℕ) = fun _ => 0 := by funext a; fin_cases a <;> rfl
  exact View.ld_unit_zero (S := S4096x128) hz _ _

/-- The query block's load reads it whole. -/
theorem loadQ (M : Memref sig .tc .vmem S256x128 .f32) (f : BufTy.Contents (Elt F) M.view.ty) :
    View.readAt (Elt F) M.view (Rect.unit (s := S256x128) ![0, 0] S256x128.size inb_S256x128_S256x128_0_0).toLoadRect f = View.read (Elt F) M.view f := by
  have hz : (![0, 0] : Fin 2 → ℕ) = fun _ => 0 := by funext a; fin_cases a <;> rfl
  exact View.ld_unit_zero (S := S256x128) hz _ _

/-- The word the body loads of the biases is its head's. -/
theorem loadBias (i : grid0.Coords) (M : Memref sig .tc .smem S8 .f32) (f : BufTy.Contents (Elt F) M.view.ty)
    (x : (Rect.unit (s := S8) (k0_off1 i) S1.size (k0_off1_inb i)).shape.Idx) :
    View.readAt (Elt F) M.view (Rect.unit (s := S8) (k0_off1 i) S1.size (k0_off1_inb i)).toLoadRect f x = biasOf (View.read (Elt F) M.view f) i := by
  refine congrArg (View.read (Elt F) M.view f) (funext fun a => Fin.ext ?_)
  have hx : (x 0).val < 1 := (x 0).isLt
  have ho : k0_off1 i 0 = (i 1).val := congrFun (off1_eq i) 0
  fin_cases a
  refine (Rect.idx_unit_val (s := S8) (k0_off1 i) S1.size (k0_off1_inb i) x 0).trans ?_
  rw [ho]
  change (i 1).val + (x 0).val = (i 1).val
  omega

/-- The stored block is the descent from the loaded query block and bias. -/
theorem out_of {q' q : FVec F S256x128 .bf16} {b' b : Elt F .f32} {K V : Vec F S4096x128 .bf16} {j : ℕ} (hq : q' = q) (hb : b' = b) :
    k0_pay13 (F := F) (descendB q' b' K V j (j / 4)).1 = outB q b K V j := by
  subst hq hb; rfl

set_option maxHeartbeats 4000000 in
/-- A later query block whose head is the diagonal block alone. -/
theorem run1 (i : grid0.Coords) (h1 : ¬ firstOf i = 1#1) (h2 : k0_cond2 i = 1#1) (h3 : k0_cond3 i = 1#1)
    (xb : Vec F S8 .f32) (q : Vec F S256x128 .f32) (kf vf : Vec F S4096x128 .f32) (K V : Vec F S4096x128 .bf16) :
    BodyRun i K V xb q kf vf (Kept K V) := by
  intro c E arg3 harg3 arg4 harg4 arg5 harg5 arg6 harg6 arg7 harg7 arg8 harg8 arg9 harg9 Q
  simp only [cc0_sb_prompt_eq_skeleton]; unfold cc0_sb_prompt_skel
  unfold Kept owns
  iintro ⟨⟨%f3, %hf3, H3⟩, ⟨%f4, %hf4, H4⟩, ⟨%f5, %hf5, H5⟩, ⟨%f6, %hf6, H6⟩, ⟨%d7, %f7, -, H7⟩, ⟨⟨%f8, %hf8, H8⟩, ⟨%f9, %hf9, H9⟩⟩, Hk⟩
  subst hf3 hf4 hf8 hf9
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    refine (stored arg7 f7 _).trans ?_
    refine Eq.trans (congrArg (fun s => k0_pay13 (F := F) s.1) (loops_eq Variants.none c none i arg3 harg3 arg4 harg4 arg5 harg5 arg6 harg6 arg7 harg7 arg8 harg8 arg9 harg9 _ _ _ _ f8 f9 _ _ ?_)) ?_
    · unfold headB
      rw [head0 i h2 h3]
      dsimp only
      rw [← rows_of_load f8 _ (k0_off2_inb i h2 h3) _ (off2_eq i), ← rows_of_load f9 _ (k0_off2_inb i h2 h3) _ (off2_eq i)]
      rfl
    · exact out_of (congrArg (k0_pay111 (F := F)) (loadQ arg4 f4)) (loadBias i arg3 f3 _)
  isplitl [H8]
  · iexists f8; isplitr; · ipureintro; rfl
    iexact H8
  iexists f9; isplitr; · ipureintro; rfl
  iexact H9

set_option maxHeartbeats 4000000 in
/-- A later query block whose head is two blocks. -/
theorem run2 (i : grid0.Coords) (h1 : ¬ firstOf i = 1#1) (h2 : k0_cond2 i = 1#1) (h3 : ¬ k0_cond3 i = 1#1)
    (xb : Vec F S8 .f32) (q : Vec F S256x128 .f32) (kf vf : Vec F S4096x128 .f32) (K V : Vec F S4096x128 .bf16) :
    BodyRun i K V xb q kf vf (Kept K V) := by
  intro c E arg3 harg3 arg4 harg4 arg5 harg5 arg6 harg6 arg7 harg7 arg8 harg8 arg9 harg9 Q
  simp only [cc0_sb_prompt_eq_skeleton]; unfold cc0_sb_prompt_skel
  unfold Kept owns
  iintro ⟨⟨%f3, %hf3, H3⟩, ⟨%f4, %hf4, H4⟩, ⟨%f5, %hf5, H5⟩, ⟨%f6, %hf6, H6⟩, ⟨%d7, %f7, -, H7⟩, ⟨⟨%f8, %hf8, H8⟩, ⟨%f9, %hf9, H9⟩⟩, Hk⟩
  subst hf3 hf4 hf8 hf9
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    refine (stored arg7 f7 _).trans ?_
    refine Eq.trans (congrArg (fun s => k0_pay13 (F := F) s.1) (loops_eq Variants.none c none i arg3 harg3 arg4 harg4 arg5 harg5 arg6 harg6 arg7 harg7 arg8 harg8 arg9 harg9 _ _ _ _ f8 f9 _ _ ?_)) ?_
    · unfold headB
      rw [head1 i h2 h3]
      dsimp only
      refine Eq.trans (b := headOf2 _ _ (ldRows f8 _ (k0_off3_inb i h2 h3 0)) (ldRows f8 _ (k0_off3_inb i h2 h3 1)) (ldRows f9 _ (k0_off3_inb i h2 h3 0)) (ldRows f9 _ (k0_off3_inb i h2 h3 1))) rfl ?_
      rw [rows_of_load f8 _ (k0_off3_inb i h2 h3 0) _ (off3_eq i h3 0),
        rows_of_load f9 _ (k0_off3_inb i h2 h3 0) _ (off3_eq i h3 0),
        rows_of_load f8 _ (k0_off3_inb i h2 h3 1) _ (off3_eq i h3 1),
        rows_of_load f9 _ (k0_off3_inb i h2 h3 1) _ (off3_eq i h3 1)]
      rfl
    · exact out_of (congrArg (k0_pay111 (F := F)) (loadQ arg4 f4)) (loadBias i arg3 f3 _)
  isplitl [H8]
  · iexists f8; isplitr; · ipureintro; rfl
    iexact H8
  iexists f9; isplitr; · ipureintro; rfl
  iexact H9

set_option maxHeartbeats 4000000 in
/-- A later query block whose head is three blocks. -/
theorem run3 (i : grid0.Coords) (h1 : ¬ firstOf i = 1#1) (h2 : ¬ k0_cond2 i = 1#1) (h4 : k0_cond4 i = 1#1)
    (xb : Vec F S8 .f32) (q : Vec F S256x128 .f32) (kf vf : Vec F S4096x128 .f32) (K V : Vec F S4096x128 .bf16) :
    BodyRun i K V xb q kf vf (Kept K V) := by
  intro c E arg3 harg3 arg4 harg4 arg5 harg5 arg6 harg6 arg7 harg7 arg8 harg8 arg9 harg9 Q
  simp only [cc0_sb_prompt_eq_skeleton]; unfold cc0_sb_prompt_skel
  unfold Kept owns
  iintro ⟨⟨%f3, %hf3, H3⟩, ⟨%f4, %hf4, H4⟩, ⟨%f5, %hf5, H5⟩, ⟨%f6, %hf6, H6⟩, ⟨%d7, %f7, -, H7⟩, ⟨⟨%f8, %hf8, H8⟩, ⟨%f9, %hf9, H9⟩⟩, Hk⟩
  subst hf3 hf4 hf8 hf9
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    refine (stored arg7 f7 _).trans ?_
    refine Eq.trans (congrArg (fun s => k0_pay13 (F := F) s.1) (loops_eq Variants.none c none i arg3 harg3 arg4 harg4 arg5 harg5 arg6 harg6 arg7 harg7 arg8 harg8 arg9 harg9 _ _ _ _ f8 f9 _ _ ?_)) ?_
    · unfold headB
      rw [head2 i h2 h4]
      dsimp only
      refine Eq.trans (b := headOf3 _ _ (ldRows f8 _ (k0_off4_inb i h2 h4 0)) (ldRows f8 _ (k0_off4_inb i h2 h4 1)) (ldRows f8 _ (k0_off4_inb i h2 h4 2)) (ldRows f9 _ (k0_off4_inb i h2 h4 0)) (ldRows f9 _ (k0_off4_inb i h2 h4 1)) (ldRows f9 _ (k0_off4_inb i h2 h4 2))) rfl ?_
      rw [rows_of_load f8 _ (k0_off4_inb i h2 h4 0) _ (off4_eq i h4 0),
        rows_of_load f9 _ (k0_off4_inb i h2 h4 0) _ (off4_eq i h4 0),
        rows_of_load f8 _ (k0_off4_inb i h2 h4 1) _ (off4_eq i h4 1),
        rows_of_load f9 _ (k0_off4_inb i h2 h4 1) _ (off4_eq i h4 1),
        rows_of_load f8 _ (k0_off4_inb i h2 h4 2) _ (off4_eq i h4 2),
        rows_of_load f9 _ (k0_off4_inb i h2 h4 2) _ (off4_eq i h4 2)]
      rfl
    · exact out_of (congrArg (k0_pay111 (F := F)) (loadQ arg4 f4)) (loadBias i arg3 f3 _)
  isplitl [H8]
  · iexists f8; isplitr; · ipureintro; rfl
    iexact H8
  iexists f9; isplitr; · ipureintro; rfl
  iexact H9

set_option maxHeartbeats 4000000 in
/-- A later query block whose head is four blocks. -/
theorem run4 (i : grid0.Coords) (h1 : ¬ firstOf i = 1#1) (h2 : ¬ k0_cond2 i = 1#1) (h4 : ¬ k0_cond4 i = 1#1)
    (xb : Vec F S8 .f32) (q : Vec F S256x128 .f32) (kf vf : Vec F S4096x128 .f32) (K V : Vec F S4096x128 .bf16) :
    BodyRun i K V xb q kf vf (Kept K V) := by
  intro c E arg3 harg3 arg4 harg4 arg5 harg5 arg6 harg6 arg7 harg7 arg8 harg8 arg9 harg9 Q
  simp only [cc0_sb_prompt_eq_skeleton]; unfold cc0_sb_prompt_skel
  unfold Kept owns
  iintro ⟨⟨%f3, %hf3, H3⟩, ⟨%f4, %hf4, H4⟩, ⟨%f5, %hf5, H5⟩, ⟨%f6, %hf6, H6⟩, ⟨%d7, %f7, -, H7⟩, ⟨⟨%f8, %hf8, H8⟩, ⟨%f9, %hf9, H9⟩⟩, Hk⟩
  subst hf3 hf4 hf8 hf9
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    refine (stored arg7 f7 _).trans ?_
    refine Eq.trans (congrArg (fun s => k0_pay13 (F := F) s.1) (loops_eq Variants.none c none i arg3 harg3 arg4 harg4 arg5 harg5 arg6 harg6 arg7 harg7 arg8 harg8 arg9 harg9 _ _ _ _ f8 f9 _ _ ?_)) ?_
    · unfold headB
      rw [head3 i h2 h4]
      dsimp only
      refine Eq.trans (b := headOf4 _ _ (ldRows f8 _ (k0_off5_inb i h2 h4 0)) (ldRows f8 _ (k0_off5_inb i h2 h4 1)) (ldRows f8 _ (k0_off5_inb i h2 h4 2)) (ldRows f8 _ (k0_off5_inb i h2 h4 3)) (ldRows f9 _ (k0_off5_inb i h2 h4 0)) (ldRows f9 _ (k0_off5_inb i h2 h4 1)) (ldRows f9 _ (k0_off5_inb i h2 h4 2)) (ldRows f9 _ (k0_off5_inb i h2 h4 3))) rfl ?_
      rw [rows_of_load f8 _ (k0_off5_inb i h2 h4 0) _ (off5_eq i h2 h4 0),
        rows_of_load f9 _ (k0_off5_inb i h2 h4 0) _ (off5_eq i h2 h4 0),
        rows_of_load f8 _ (k0_off5_inb i h2 h4 1) _ (off5_eq i h2 h4 1),
        rows_of_load f9 _ (k0_off5_inb i h2 h4 1) _ (off5_eq i h2 h4 1),
        rows_of_load f8 _ (k0_off5_inb i h2 h4 2) _ (off5_eq i h2 h4 2),
        rows_of_load f9 _ (k0_off5_inb i h2 h4 2) _ (off5_eq i h2 h4 2),
        rows_of_load f8 _ (k0_off5_inb i h2 h4 3) _ (off5_eq i h2 h4 3),
        rows_of_load f9 _ (k0_off5_inb i h2 h4 3) _ (off5_eq i h2 h4 3)]
      rfl
    · exact out_of (congrArg (k0_pay111 (F := F)) (loadQ arg4 f4)) (loadBias i arg3 f3 _)
  isplitl [H8]
  · iexists f8; isplitr; · ipureintro; rfl
    iexact H8
  iexists f9; isplitr; · ipureintro; rfl
  iexact H9

set_option maxHeartbeats 4000000 in
/-- The first query block. -/
theorem run0 (i : grid0.Coords) (h1 : firstOf i = 1#1) (h2 : k0_cond2 i = 1#1) (h3 : k0_cond3 i = 1#1)
    (xb : Vec F S8 .f32) (q : Vec F S256x128 .f32) (kf vf : Vec F S4096x128 .f32) :
    BodyRun i (roundOf kf) (roundOf vf) xb q kf vf Fresh := by
  intro c E arg3 harg3 arg4 harg4 arg5 harg5 arg6 harg6 arg7 harg7 arg8 harg8 arg9 harg9 Q
  simp only [cc0_sb_prompt_eq_skeleton]; unfold cc0_sb_prompt_skel
  unfold Fresh owns
  iintro ⟨⟨%f3, %hf3, H3⟩, ⟨%f4, %hf4, H4⟩, ⟨%f5, %hf5, H5⟩, ⟨%f6, %hf6, H6⟩, ⟨%d7, %f7, -, H7⟩, ⟨⟨%d8, %f8, -, H8⟩, ⟨%d9, %f9, -, H9⟩⟩, Hk⟩
  subst hf3 hf4 hf5 hf6
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  have e8 : View.read (Elt F) arg8.view (arg8.view.writes (Elt F) arg8.view.junk (run0.sl.H8_1 c arg5 f5)) = roundOf (View.read (Elt F) arg5.view f5) :=
    (filled arg8 _ _).trans ((shapeCast_self _ _).trans (congrArg (roundOf (F := F)) (loadK arg5 f5)))
  have e9 : View.read (Elt F) arg9.view (arg9.view.writes (Elt F) arg9.view.junk (run0.sl.H9_1 c arg6 f6)) = roundOf (View.read (Elt F) arg6.view f6) :=
    (filled arg9 _ _).trans ((shapeCast_self _ _).trans (congrArg (roundOf (F := F)) (loadK arg6 f6)))
  isplitl [H7]
  · iexists _; isplitr
    swap; · iexact H7
    ipureintro
    refine (stored arg7 f7 _).trans ?_
    rw [← e8, ← e9]
    refine Eq.trans (congrArg (fun s => k0_pay13 (F := F) s.1) (loops_eq Variants.none c none i arg3 harg3 arg4 harg4 arg5 harg5 arg6 harg6 arg7 harg7 arg8 harg8 arg9 harg9 _ _ _ _ _ _ _ _ ?_)) ?_
    · unfold headB
      rw [head0 i h2 h3]
      dsimp only
      rw [← rows_of_load _ _ (k0_off2_inb i h2 h3) _ (off2_eq i), ← rows_of_load _ _ (k0_off2_inb i h2 h3) _ (off2_eq i)]
      rfl
    · exact out_of (congrArg (k0_pay111 (F := F)) (loadQ arg4 f4)) (loadBias i arg3 f3 _)
  isplitl [H8]
  · iexists _; isplitr; swap; · iexact H8
    ipureintro; exact e8
  iexists _; isplitr; swap; · iexact H9
  ipureintro; exact e9

end Cert.KernelIdeal.Hand
end
-- ==== Proof.Run.lean ====
/-
  The run of the whole grid: the body's cases joined at a generic point, the scratch buffers tracked from point to
  point, and from them the launch and the frame.
-/
module

public import proofs.«01_k».proof.Proof.Body
public import proofs.«01_k».proof.Proof.Gen.KernelIdeal.Frame
public import Idealize.ShloMosaic.Lib.Claim

@[expose] public section

set_option maxRecDepth 8192

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A later query block, whatever its head group. -/
theorem run_later (i : grid0.Coords) (h1 : ¬ firstOf i = 1#1)
    (xb : Vec F S8 .f32) (q : Vec F S256x128 .f32) (kf vf : Vec F S4096x128 .f32) (K V : Vec F S4096x128 .bf16) :
    BodyRun i K V xb q kf vf (Kept K V) := by
  by_cases h2 : k0_cond2 i = 1#1
  · by_cases h3 : k0_cond3 i = 1#1
    · exact run1 i h1 h2 h3 xb q kf vf K V
    · exact run2 i h1 h2 h3 xb q kf vf K V
  · by_cases h4 : k0_cond4 i = 1#1
    · exact run3 i h1 h2 h4 xb q kf vf K V
    · exact run4 i h1 h2 h4 xb q kf vf K V

/-- The rounded keys and values of the head that point `t` works on. -/
def keysAt (c : Dev nD) (t : Fin cfg0.N) : Vec F S4096x128 .bf16 := roundOf (iblk m c 2 t)
def valsAt (c : Dev nD) (t : Fin cfg0.N) : Vec F S4096x128 .bf16 := roundOf (iblk m c 3 t)

/-- The output block of point `t`. -/
def outAt (c : Dev nD) (t : Fin cfg0.N) : Vec F S256x128 .bf16 :=
  outB (queryOf (iblk m c 1 t)) (biasOf (iblk m c 0 t) (grid0.coords t)) (keysAt m c t) (valsAt m c t) ((grid0.coords t) 2).val

/-- The scratch buffers before point number `n`: some contents, which inside a head are the rounded keys and values
    of the point before. -/
def held (c : Dev nD) (n : ℕ) : sProp 𝕄 :=
  iprop(∃ K V : Vec F S4096x128 .bf16, ⌜n % 16 ≠ 0 → ∀ s : Fin cfg0.N, s.val + 1 = n → K = keysAt m c s ∧ V = valsAt m c s⌝
    ∗ owns (c : Thread nD τ) (Memref.whole cc0_scratch0) fullShare K ∗ owns (c : Thread nD τ) (Memref.whole cc0_scratch1) fullShare V)

/-- The proof data: each input's block stays in its buffer, the output's is the point's block, the scratch is tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := iprop(held m c t.val ∗ ∃ r, prngReg c r)
  q w := Pipeline.shareOf spec0 w
  owed _ := 0

/-- The arrays of the proof data are the ones the region finds. -/
theorem A_eq (c : Dev nD) (w : Fin cfg0.W) : (dats m 0 c).A w = V m c (Pipeline.arrRef spec0 w) := by dsimp only [dats]

/-- What the proof data says the body leaves. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- What the body finds in each input's buffer: its block. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- The block of keys is the one a fetch would bring. -/
theorem fetched2 (c : Dev nD) (t : Fin cfg0.N) (d) : (dats m 0 c).fetched 2 t d = iblk m c 2 t := by
  unfold Dat.fetched Dat.blockOf iblk; rw [A_eq]; rfl
theorem fetched3 (c : Dev nD) (t : Fin cfg0.N) (d) : (dats m 0 c).fetched 3 t d = iblk m c 3 t := by
  unfold Dat.fetched Dat.blockOf iblk; rw [A_eq]; rfl

/-- Inside a head the keys and values are those of the point before. -/
theorem same_head (c : Dev nD) (t s : Fin cfg0.N) (h : t.val % 16 ≠ 0) (hs : s.val + 1 = t.val) :
    keysAt m c s = keysAt m c t ∧ valsAt m c s = valsAt m c t := by
  have hst : (⟨t.val - 1, Nat.lt_of_le_of_lt (Nat.sub_le _ _) t.isLt⟩ : Fin cfg0.N) = s := Fin.ext (by change t.val - 1 = s.val; omega)
  have f2 : (cfg0.win 2).fetch t = false := by rw [← Bool.not_eq_true]; exact fun e => h ((fetch0_2 t).1 e)
  have f3 : (cfg0.win 3).fetch t = false := by rw [← Bool.not_eq_true]; exact fun e => h ((fetch0_3 t).1 e)
  obtain ⟨-, e2⟩ := (cfg0.win 2).index_eq_of_fetch rfl t f2
  obtain ⟨-, e3⟩ := (cfg0.win 3).index_eq_of_fetch rfl t f3
  rw [hst] at e2 e3
  constructor
  · exact congrArg roundOf ((fetched2 m c s (iblk m c 2 t)).symm.trans (((dats m 0 c).fetched_congr 2 e2.symm rfl _).trans (fetched2 m c t _)))
  · exact congrArg roundOf ((fetched3 m c s (iblk m c 3 t)).symm.trans (((dats m 0 c).fetched_congr 3 e3.symm rfl _).trans (fetched3 m c t _)))

/-- A point is its head's first exactly when its number is a multiple of sixteen. -/
theorem first_point : ∀ t : Fin grid0.N, firstOf (grid0.coords t) = 1#1 ↔ t.val % 16 = 0 := by decide +kernel

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point, from the scratch as the point before left it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = iprop(held m c (t.val + 1) ∗ ∃ r, prngReg c r) from rfl,
    show (dats m 0 c).Φ t.castSucc = iprop(held m c t.val ∗ ∃ r, prngReg c r) from rfl,
    show (dats m 0 c).owesAt () t.succ = (dats m 0 c).owesAt () t.castSucc from rfl, after0, after1, after2, after3, after4]
  have next : (t.val + 1) % 16 ≠ 0 → ∀ s : Fin cfg0.N, s.val + 1 = t.val + 1 → keysAt m c t = keysAt m c s ∧ valsAt m c t = valsAt m c s := by
    intro _ s hs
    obtain rfl : s = t := Fin.ext (by omega)
    exact ⟨rfl, rfl⟩
  unfold held
  iintro ⟨⟨⟨%K, %W, %hK, HK, HV⟩, Hr⟩, Ho, ⟨%d0, H0⟩, ⟨%d1, H1⟩, ⟨%d2, H2⟩, ⟨%d3, H3⟩, ⟨%d4, H4⟩⟩
  by_cases h : firstOf (grid0.coords t) = 1#1
  · obtain ⟨h2, h3⟩ := first_head _ h
    iapply (run0 (grid0.coords t) h h2 h3 (iblk m c 0 t) (iblk m c 1 t) (iblk m c 2 t) (iblk m c 3 t) c Set.univ _ _ _ _ _ _ _ _ _ _ _ _ _ _ _)
    isplitl [H0]; · iexact H0
    isplitl [H1]; · iexact H1
    isplitl [H2]; · iexact H2
    isplitl [H3]; · iexact H3
    isplitl [H4]; · iexists _; iexact H4
    isplitl [HK HV]
    · unfold Fresh
      isplitl [HK]; · iexists _; iexact HK
      iexists _; iexact HV
    iintro ⟨H0, H1, H2, H3, H4, HK, HV⟩
    isplitl [Hr HK HV]
    · isplitl [HK HV]
      · iexists (keysAt m c t); iexists (valsAt m c t)
        isplitr; · ipureintro; exact next
        isplitl [HK]; · iexact HK
        iexact HV
      iexact Hr
    isplitl [Ho]; · iexact Ho
    isplitl [H0]; · iexact H0
    isplitl [H1]; · iexact H1
    isplitl [H2]; · iexact H2
    isplitl [H3]; · iexact H3
    iexact H4
  · have h16 : t.val % 16 ≠ 0 := fun e => h ((first_point t).2 e)
    obtain ⟨e1, e2⟩ := hK h16 ⟨t.val - 1, Nat.lt_of_le_of_lt (Nat.sub_le _ _) t.isLt⟩ (by change t.val - 1 + 1 = t.val; omega)
    obtain ⟨e3, e4⟩ := same_head m c t ⟨t.val - 1, Nat.lt_of_le_of_lt (Nat.sub_le _ _) t.isLt⟩ h16 (by change t.val - 1 + 1 = t.val; omega)
    rw [e3] at e1
    rw [e4] at e2
    subst e1 e2
    iapply (run_later (grid0.coords t) h (iblk m c 0 t) (iblk m c 1 t) (iblk m c 2 t) (iblk m c 3 t) (keysAt m c t) (valsAt m c t) c Set.univ _ _ _ _ _ _ _ _ _ _ _ _ _ _ _)
    isplitl [H0]; · iexact H0
    isplitl [H1]; · iexact H1
    isplitl [H2]; · iexact H2
    isplitl [H3]; · iexact H3
    isplitl [H4]; · iexists _; iexact H4
    isplitl [HK HV]
    · unfold Kept
      isplitl [HK]; · iexact HK
      iexact HV
    iintro ⟨H0, H1, H2, H3, H4, HK, HV⟩
    isplitl [Hr HK HV]
    · isplitl [HK HV]
      · iexists (keysAt m c t); iexists (valsAt m c t)
        isplitr; · ipureintro; exact next
        isplitl [HK]; · iexact HK
        iexact HV
      iexact Hr
    isplitl [Ho]; · iexact Ho
    isplitl [H0]; · iexact H0
    isplitl [H1]; · iexact H1
    isplitl [H2]; · iexact H2
    isplitl [H3]; · iexact H3
    iexact H4

/-- The table's row at a point's slots is the body there. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- A scratch buffer held whole is its memref owned. -/
theorem own0 (c : Dev nD) (f : Buf (Elt F) ((c : Thread nD τ).loc cc0_scratch0)) :
    (((c : Thread nD τ).loc cc0_scratch0) ↦{fullShare} f : sProp 𝕄) ⊢ owns (c : Thread nD τ) (Memref.whole cc0_scratch0) fullShare f :=
  Entails.of_eq (owns_whole (c : Thread nD τ) cc0_scratch0 fullShare f).symm
theorem own1 (c : Dev nD) (f : Buf (Elt F) ((c : Thread nD τ).loc cc0_scratch1)) :
    (((c : Thread nD τ).loc cc0_scratch1) ↦{fullShare} f : sProp 𝕄) ⊢ owns (c : Thread nD τ) (Memref.whole cc0_scratch1) fullShare f :=
  Entails.of_eq (owns_whole (c : Thread nD τ) cc0_scratch1 fullShare f).symm

/-- And conversely. -/
theorem disown0 (c : Dev nD) (f : Buf (Elt F) ((c : Thread nD τ).loc cc0_scratch0)) :
    (owns (c : Thread nD τ) (Memref.whole cc0_scratch0) fullShare f : sProp 𝕄) ⊢ (((c : Thread nD τ).loc cc0_scratch0) ↦{fullShare} f) :=
  Entails.of_eq (owns_whole (c : Thread nD τ) cc0_scratch0 fullShare f)
theorem disown1 (c : Dev nD) (f : Buf (Elt F) ((c : Thread nD τ).loc cc0_scratch1)) :
    (owns (c : Thread nD τ) (Memref.whole cc0_scratch1) fullShare f : sProp 𝕄) ⊢ (((c : Thread nD τ).loc cc0_scratch1) ↦{fullShare} f) :=
  Entails.of_eq (owns_whole (c : Thread nD τ) cc0_scratch1 fullShare f)

/-- The region starts with the scratch at anything, -/
theorem enter (c : Dev nD) : (Pipeline.ΦA spec0 c : sProp 𝕄) ⊢ (dats m 0 c).Φ 0 := by
  rw [show (dats m 0 c).Φ 0 = iprop(held m c 0 ∗ ∃ r, prngReg c r) from rfl]
  unfold Pipeline.ΦA held
  rw [scopedRest0_eq]
  iintro ⟨⟨⟨%f, Hf⟩, ⟨%g, Hg⟩⟩, Hr⟩
  ihave Hf := (own0 c f) $$ Hf
  ihave Hg := (own1 c g) $$ Hg
  isplitl [Hf Hg]
  · iexists f; iexists g
    isplitr; · ipureintro; exact fun h => absurd rfl h
    isplitl [Hf]; · iexact Hf
    iexact Hg
  iexact Hr

/-- and ends so. -/
theorem leave (c : Dev nD) : (dats m 0 c).Φ (Fin.last cfg0.N) ⊢ (Pipeline.ΦA spec0 c : sProp 𝕄) := by
  rw [show (dats m 0 c).Φ (Fin.last cfg0.N) = iprop(held m c (Fin.last cfg0.N).val ∗ ∃ r, prngReg c r) from rfl]
  unfold Pipeline.ΦA held
  rw [scopedRest0_eq]
  iintro ⟨⟨%K, %W, -, HK, HV⟩, Hr⟩
  ihave Hf := (disown0 c K) $$ HK
  ihave Hg := (disown1 c W) $$ HV
  isplitl [Hf Hg]
  · isplitl [Hf]
    · iexists K; iexact Hf
    iexists W; iexact Hg
  iexact Hr

set_option backward.isDefEq.respectTransparency.types false in
/-- The launch: every fair execution ends, with the arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Keys.lean ====
/-
  Stick-breaking weights over the extended reals, with no program in sight: the log share kept past a key, its twin in
  base 2, and the equation of the two weights.
-/
module

public import Idealize.ShloMosaic.PureOps.Ideal.Laws
public import Idealize.ShloMosaic.Lib.ValueIdx

@[expose] public section

noncomputable section

namespace Cert.StickBreaking

open Idealize.ShloMosaic Idealize.ShloMosaic.ValueIdx

/-- `log2 e`. -/
def lam : EReal := (((Real.log 2)⁻¹ : ℝ) : EReal)

theorem log_two_pos : 0 < Real.log 2 := Real.log_pos (by norm_num)
theorem lam_nonneg : 0 ≤ lam := EReal.coe_nonneg.mpr (inv_nonneg.mpr log_two_pos.le)
theorem lam_ne_top : lam ≠ ⊤ := EReal.coe_ne_top _
theorem bot_mul_lam : (⊥ : EReal) * lam = ⊥ := EReal.bot_mul_coe_of_pos (inv_pos.mpr log_two_pos)
theorem top_mul_lam : (⊤ : EReal) * lam = ⊤ := EReal.top_mul_coe_of_pos (inv_pos.mpr log_two_pos)
theorem coe_mul_lam (r : ℝ) : (r : EReal) * lam = ((r / Real.log 2 : ℝ) : EReal) := by
  rw [lam, ← EReal.coe_mul, div_eq_mul_inv]

/-- The scale of the scores, the word's rational. -/
def sigma : EReal := ((11863283 / 134217728 : ℝ) : EReal)

/-- Small numbers as signed words compare as numbers. -/
theorem slt_small (a b : ℕ) (ha : a < 4096) (hb : b < 4096) :
    IntOp.cmpi .slt (BitVec.ofNat 32 a) (BitVec.ofNat 32 b) = if a < b then 1#1 else 0#1 := by
  have ha : (BitVec.ofNat 32 a).toInt = a := by rw [BitVec.toInt_eq_toNat_of_lt] <;> rw [BitVec.toNat_ofNat, Nat.mod_eq_of_lt] <;> omega
  have hb : (BitVec.ofNat 32 b).toInt = b := by rw [BitVec.toInt_eq_toNat_of_lt] <;> rw [BitVec.toNat_ofNat, Nat.mod_eq_of_lt] <;> omega
  have h : (BitVec.ofNat 32 a).slt (BitVec.ofNat 32 b) = decide (a < b) := by
    rw [BitVec.slt, ha, hb]; simp
  simp only [IntOp.cmpi]
  rw [h]
  by_cases hab : a < b <;> simp [hab]

/-- The larger and the smaller of two reals, among the extended reals. -/
theorem coe_max (x y : ℝ) : ((max x y : ℝ) : EReal) = max (x : EReal) y := EReal.coe_strictMono.monotone.map_max
theorem coe_min (x y : ℝ) : ((min x y : ℝ) : EReal) = min (x : EReal) y := EReal.coe_strictMono.monotone.map_min

/-- Sums pass through the scaling by `log2 e`. -/
theorem add_mul_lam (x y : EReal) : (x + y) * lam = x * lam + y * lam :=
  EReal.right_distrib_of_nonneg_of_ne_top lam_nonneg lam_ne_top x y
theorem sum_mul_lam {ι : Type} (s : Finset ι) (f : ι → EReal) : ∑ i ∈ s, f i * lam = (∑ i ∈ s, f i) * lam := by
  classical
  induction s using Finset.induction_on with
  | empty => simp
  | insert a s ha ih => rw [Finset.sum_insert ha, Finset.sum_insert ha, ih, add_mul_lam]

/-- `- softplus z`: the log of the share kept past a key of score `z`. -/
def keep (z : EReal) : EReal := -(max z 0 + Ideal.log1p (Ideal.exp (-(max z (-z)))))

/-- The same in base 2, as computed from a score in base 2. -/
def keep2 (x : EReal) : EReal := min (0 - x) 0 - Ideal.log (1 + Ideal.exp2 (min x (0 - x))) * lam

theorem keep_bot : keep ⊥ = 0 := by
  have h : Ideal.log1p 0 = 0 := by
    rw [Ideal.log1p, add_zero, ← EReal.coe_one, Ideal.log_coe]; simp
  rw [keep]; simp [h]
theorem keep_top : keep ⊤ = ⊥ := by
  have h : Ideal.log1p 0 = 0 := by
    rw [Ideal.log1p, add_zero, ← EReal.coe_one, Ideal.log_coe]; simp
  rw [keep]; simp [h]
theorem log1p_exp (r : ℝ) : Ideal.log1p (Ideal.exp (r : EReal)) = ((Real.log (1 + Real.exp r) : ℝ) : EReal) := by
  rw [Ideal.log1p, Ideal.exp_coe, ← EReal.coe_one, ← EReal.coe_add, Ideal.log_coe, if_neg]
  have := Real.exp_pos r; linarith
theorem keep_coe (r : ℝ) : keep r = ((-(max r 0 + Real.log (1 + Real.exp (-(max r (-r))))) : ℝ) : EReal) := by
  rw [keep, ← EReal.coe_neg, ← EReal.coe_zero, ← coe_max, ← coe_max, ← EReal.coe_neg, log1p_exp, ← EReal.coe_add,
    ← EReal.coe_neg]

/-- A log share kept is never `⊤`. -/
theorem keep_ne_top (z : EReal) : keep z ≠ ⊤ := by
  induction z with
  | bot => simp [keep_bot]
  | top => simp [keep_top]
  | coe r => rw [keep_coe]; exact EReal.coe_ne_top _

theorem rpow_two_div (r : ℝ) : Real.rpow 2 (r / Real.log 2) = Real.exp r := by
  show (2 : ℝ) ^ (r / Real.log 2) = _
  rw [Real.rpow_def_of_pos (by norm_num), mul_div_cancel₀ _ log_two_pos.ne']

/-- The base-2 log share of a base-2 score is the log share scaled. -/
theorem keep2_mul (z : EReal) : keep2 (z * lam) = keep z * lam := by
  have h1 : Ideal.log 1 = 0 := by rw [← EReal.coe_one, Ideal.log_coe]; simp
  induction z with
  | bot => rw [bot_mul_lam, keep_bot, keep2]; simp [h1]
  | top => rw [top_mul_lam, keep_top, keep2, bot_mul_lam]; simp [h1]
  | coe r =>
    rw [keep_coe, coe_mul_lam, coe_mul_lam, keep2, ← EReal.coe_zero, ← EReal.coe_sub, ← coe_min, ← coe_min, Ideal.exp2_coe,
      ← EReal.coe_one, ← EReal.coe_add, Ideal.log_coe]
    have hm : min (r / Real.log 2) (0 - r / Real.log 2) = -(max r (-r)) / Real.log 2 := by
      rw [zero_sub, ← neg_div, min_div_div_right log_two_pos.le, ← min_neg_neg, neg_neg, min_comm]
    have hk : min (0 - r / Real.log 2) 0 = -(max r 0) / Real.log 2 := by
      rw [zero_sub, ← neg_div, ← min_neg_neg, neg_zero, ← min_div_div_right log_two_pos.le, zero_div]
    rw [hm, rpow_two_div, if_neg (by have := Real.exp_pos (-(max r (-r))); linarith), coe_mul_lam, ← EReal.coe_sub, hk]
    congr 1
    ring

/-- The weight of a key of score `z`, the later keys keeping `D` (logs): the base-2 form is the formula's. -/
theorem weight_eq (z D : EReal) (hD : D ≠ ⊤) :
    Ideal.exp2 ((z * lam + keep z * lam) + D * lam) = Ideal.exp (keep (-z) + (keep z + D) - keep z) := by
  induction z with
  | bot =>
    have h : (⊥ : EReal) + (0 + D) - 0 = ⊥ := by simp
    rw [bot_mul_lam, EReal.bot_add, EReal.bot_add, EReal.neg_bot, keep_top, keep_bot, h]; rfl
  | top =>
    rw [keep_top, bot_mul_lam, EReal.add_bot, EReal.bot_add, EReal.bot_add, EReal.add_bot, sub_eq_add_neg, EReal.bot_add]; rfl
  | coe r =>
    rw [keep_coe, ← EReal.coe_neg, keep_coe]
    induction D with
    | bot => rw [bot_mul_lam, EReal.add_bot, EReal.add_bot, EReal.add_bot, sub_eq_add_neg, EReal.bot_add]; rfl
    | top => exact absurd rfl hD
    | coe d =>
      rw [coe_mul_lam, coe_mul_lam, coe_mul_lam, ← EReal.coe_add, ← EReal.coe_add, ← EReal.coe_add, ← EReal.coe_add, ← EReal.coe_sub,
        Ideal.exp2_coe, Ideal.exp_coe, ← add_div, ← add_div, rpow_two_div]
      congr 2
      rw [neg_neg, max_comm (-r) r]
      have h : r = max r 0 - max (-r) 0 := by
        rcases le_total r 0 with h | h
        · rw [max_eq_right h, max_eq_left (by linarith)]; ring
        · rw [max_eq_left h, max_eq_right (by linarith)]; ring
      linarith

/-- Log shares plus their own differences are the log shares: a difference is zero, or `⊥` where the share is `⊥` too. -/
theorem add_sub_self (x : EReal) (h : x ≠ ⊤) : x + (x - x) = x := by
  induction x with
  | bot => rw [EReal.bot_add]
  | top => exact absurd rfl h
  | coe r => rw [← EReal.coe_sub, sub_self, EReal.coe_zero, add_zero]
theorem sum_add_sub_self {ι : Type} (s : Finset ι) (f : ι → EReal) (h : ∀ i, f i ≠ ⊤) : ∑ i ∈ s, f i + ∑ i ∈ s, (f i - f i) = ∑ i ∈ s, f i := by
  rw [← Finset.sum_add_distrib]
  exact Finset.sum_congr rfl fun i _ => add_sub_self _ (h i)

/-- A sum of terms none of which is `⊤` is not `⊤`. -/
theorem sum_ne_top {ι : Type} (s : Finset ι) (f : ι → EReal) (h : ∀ i, f i ≠ ⊤) : ∑ i ∈ s, f i ≠ ⊤ := by
  classical
  induction s using Finset.induction_on with
  | empty => simp
  | insert a s ha ih => rw [Finset.sum_insert ha]; exact EReal.add_ne_top (h a) ih

/-! One query's row: the scores `z` of the keys, `p` the query's place. -/

section Row

variable (z : ℕ → EReal) (p : ℕ)

/-- The log share kept past key `s`, zero from the query on. -/
def kept (s : ℕ) : EReal := if s < p then keep (z s) else 0

/-- The weight of key `s` of `n` keys. -/
def weight (n s : ℕ) : EReal := if s < p then Ideal.exp (keep (-(z s)) + (∑ u ∈ Finset.Ico s n, kept z p u) - kept z p s) else 0

theorem kept_ne_top (s : ℕ) : kept z p s ≠ ⊤ := by
  unfold kept; split
  · exact keep_ne_top _
  · simp

/-- The base-2 weight of key `s`, the later keys' base-2 log shares in two sums, one up to `e` and one from `e` up to `f` past
    the query: it is the formula's weight. -/
theorem weight_split (n s e f : ℕ) (hs : s < p) (he : s + 1 ≤ e) (hf : e ≤ f) (hp : p ≤ f) (hn : f ≤ n) :
    Ideal.exp2 (((z s * lam + keep2 (z s * lam)) + ∑ u ∈ Finset.Ico (s + 1) e, kept z p u * lam)
      + ∑ u ∈ Finset.Ico e f, kept z p u * lam) = weight z p n s := by
  have h0 : ∑ u ∈ Finset.Ico f n, kept z p u = 0 := Finset.sum_eq_zero fun u hu => by
    rw [kept, if_neg (by have := (Finset.mem_Ico.mp hu).1; omega)]
  have hsum : ∑ u ∈ Finset.Ico s n, kept z p u
      = keep (z s) + (∑ u ∈ Finset.Ico (s + 1) e, kept z p u + ∑ u ∈ Finset.Ico e f, kept z p u) := by
    rw [Finset.sum_Ico_consecutive _ he hf, Finset.sum_eq_sum_Ico_succ_bot (by omega),
      ← Finset.sum_Ico_consecutive _ (show s + 1 ≤ f by omega) hn, h0, add_zero, kept, if_pos hs]
  rw [weight, if_pos hs, hsum, keep2_mul, sum_mul_lam, sum_mul_lam, add_assoc, ← add_mul_lam (∑ u ∈ Finset.Ico (s + 1) e, kept z p u),
    weight_eq _ _ (EReal.add_ne_top (sum_ne_top _ _ (kept_ne_top z p)) (sum_ne_top _ _ (kept_ne_top z p))), kept, if_pos hs]

end Row

/-! The whole array, as the formula states it: `x` holds each row's queries, keys and values side by side. -/

section Formula

variable (x : (⟨2, ![8192, 7168]⟩ : Shape).Idx → EReal) (bias : (⟨1, ![8]⟩ : Shape).Idx → EReal)

/-- The element of row `r` and column `c`. -/
def cell (r c : ℕ) : EReal := x (ix2 ⟨r % 8192, Nat.mod_lt _ (by decide)⟩ ⟨c % 7168, Nat.mod_lt _ (by decide)⟩)

/-- The score of key `s` for query `p`, in sequence `b` and head `h`. -/
def scoreOf (b h p s : ℕ) : EReal :=
  (∑ c : Fin 128, cell x (4096 * b + p) (4096 + 128 * h + c.val) * cell x (4096 * b + s % 4096) (5120 + 128 * h + c.val)) * sigma
    + bias (ix1 ⟨h % 8, Nat.mod_lt _ (by decide)⟩)

/-- The attention's output at row `r` and column `c`. -/
def attend (r c : ℕ) : EReal := ∑ s : Fin 4096, cell x (4096 * (r / 4096) + s.val) (6144 + c)
  * weight (scoreOf x bias (r / 4096) (c / 128) (r % 4096)) (r % 4096) 4096 s.val

/-- An element by its index. -/
theorem eq_cell (i : (⟨2, ![8192, 7168]⟩ : Shape).Idx) (r c : ℕ) (hr : (i 0).val = r) (hc : (i 1).val = c) : x i = cell x r c := by
  subst hr hc
  exact congrArg x (funext fun a => match a with
    | ⟨0, _⟩ => Fin.ext (Nat.mod_eq_of_lt (i 0).isLt).symm
    | ⟨1, _⟩ => Fin.ext (Nat.mod_eq_of_lt (i 1).isLt).symm)

end Formula

end Cert.StickBreaking

end
-- ==== Proof.Parts.lean ====
/-
  The parts of a block read at an index, over the extended reals: scores, log shares, their sums over later keys, the
  weights and the weighted values.
-/
module

public import proofs.«01_k».proof.Proof.Block
public import proofs.«01_k».proof.Proof.Keys
public import Idealize.ShloMosaic.Lib.Pipeline.Value
public import Idealize.ShloMosaic.Lib.ValueIdx
public import Idealize.ShloMosaic.Lib.MatmulPlain
public import Idealize.ShloMosaic.PureOps.Ideal.Laws

@[expose] public section

noncomputable section

namespace Cert.KernelIdeal.Hand

open Idealize.ShloMosaic Idealize.ShloMosaic.TcCoe Idealize.ShloMosaic.ValueIdx
open Cert.KernelIdeal.Gen Cert.StickBreaking

theorem named_log2e : Named.named (F := Ideal) κ "log2e" (φ := .f32) 0x3FB8AA3B#32 = lam :=
  IdealRules.named_const.ideal_named_scalar _ _ _ _ rfl
theorem named_scale : Named.named (F := Ideal) κ "scale_log2e" (φ := .f32) 0x3E0293EE#32 = sigma * lam := by
  rw [sigma, lam, ← EReal.coe_mul]
  exact IdealRules.named_const.ideal_named_scalar _ _ _ _ rfl
theorem ofBits_one : Ideal.ofBits .f32 0x3F800000#32 = 1 := by
  simp [Ideal.ofBits, Ideal.ieee, -EReal.coe_mul]; norm_num

/-- A score in base 2: the score scaled by `log2 e`. -/
theorem zB_apply (q : FVec Ideal S256x128 .bf16) (b : Elt Ideal .f32) (k : Vec Ideal S256x128 .bf16) (i r : Fin 256) :
    zB q b k (ix2 i r) = ((∑ c : Fin 128, q (ix2 i c) * k (ix2 r c)) * sigma + b) * lam := by
  have hm : matmul dot_S256x128_S256x128_S256x256_1_1_0_0_n_n none q k (constant S256x256 .f32 0x00000000#32) (ix2 i r)
      = ∑ c : Fin 128, q (ix2 i c) * k (ix2 r c) :=
    (Ideal.matmul_transposedRhs_apply (M := 256) (K := 128) (N := 256) none q k _ i r).trans
      (by rw [show constant (F := Ideal) S256x256 .f32 0x00000000#32 (ix2 i r) = 0 from Ideal.ofBits_zero_f32, zero_add])
  show matmul dot_S256x128_S256x128_S256x256_1_1_0_0_n_n none q k (constant S256x256 .f32 0x00000000#32) (ix2 i r)
      * Named.named (F := Ideal) κ "scale_log2e" (φ := .f32) 0x3E0293EE#32 + (b : EReal) * Named.named (F := Ideal) κ "log2e" (φ := .f32) 0x3FB8AA3B#32 = _
  rw [hm, named_scale, named_log2e, add_mul_lam, mul_assoc]

/-- A log share in base 2. -/
theorem keepB_apply (z : FVec Ideal S256x256 .f32) (x : S256x256.Idx) : keepB z x = keep2 (z x) := by
  show min (Ideal.ofBits .f32 0x00000000#32 - z x) (Ideal.ofBits .f32 0x00000000#32)
    - Ideal.log (Ideal.ofBits .f32 0x3F800000#32 + Ideal.exp2 (min (z x) (Ideal.ofBits .f32 0x00000000#32 - z x)))
      * Named.named (F := Ideal) κ "log2e" (φ := .f32) 0x3FB8AA3B#32 = _
  rw [Ideal.ofBits_zero_f32, ofBits_one, named_log2e, keep2]

/-- The diagonal mask keeps the keys before the query. -/
theorem onB_apply (x : FVec Ideal S256x256 .f32) (i r : Fin 256) : onB x (ix2 i r) = if r.val < i.val then x (ix2 i r) else 0 := by
  have hm : maskB (ix2 i r) = if r.val < i.val then 1#1 else 0#1 := by
    rw [← slt_small _ _ (by omega) (by omega)]
    show IntOp.cmpi .slt (iota .tc S256x256 32 [1] iota_S256x256_d1_w32 (ix2 i r)) (iota .tc S256x256 32 [0] iota_S256x256_d0_w32 (ix2 i r)) = _
    rw [iota_single_apply, iota_single_apply]
  show Scalar.select (maskB (ix2 i r)) (x (ix2 i r)) (Ideal.ofBits .f32 0x00000000#32) = _
  rw [hm, Ideal.ofBits_zero_f32]
  split
  · rw [select_one]
  · rw [select_zero]

/-- The triangle's entries. -/
theorem triU_apply (a b : Fin 256) : triU (F := Ideal) (ix2 a b) = if b.val < a.val then 1 else 0 := by
  have hm : cmpi .sgt (iota .tc S256x256 32 [0] iota_S256x256_d0_w32) (iota .tc S256x256 32 [1] iota_S256x256_d1_w32) (ix2 a b)
      = if b.val < a.val then 1#1 else 0#1 := by
    rw [← slt_small _ _ (by omega) (by omega)]
    show IntOp.cmpi .sgt (iota .tc S256x256 32 [0] iota_S256x256_d0_w32 (ix2 a b)) (iota .tc S256x256 32 [1] iota_S256x256_d1_w32 (ix2 a b)) = _
    rw [iota_single_apply, iota_single_apply]
    rfl
  show Scalar.select (cmpi .sgt (iota .tc S256x256 32 [0] iota_S256x256_d0_w32) (iota .tc S256x256 32 [1] iota_S256x256_d1_w32) (ix2 a b))
    (Ideal.ofBits .f32 0x3F800000#32) (Ideal.ofBits .f32 0x00000000#32) = _
  rw [hm, Ideal.ofBits_zero_f32, ofBits_one]
  split
  · rw [select_one]
  · rw [select_zero]

/-- A sum over the later places of 256. -/
theorem sum_later (o : ℕ) (f : ℕ → EReal) (s : Fin 256) :
    ∑ r : Fin 256, (f (o + r.val) * (if s.val < r.val then 1 else 0)) = ∑ u ∈ Finset.Ico (o + s.val + 1) (o + 256), f u := by
  have h1 : ∀ r : Fin 256, f (o + r.val) * (if s.val < r.val then 1 else 0) = (fun n : ℕ => if s.val < n then f (o + n) else 0) r.val := fun r => by
    dsimp only
    split
    · rw [mul_one]
    · rw [mul_zero]
  rw [Finset.sum_congr rfl fun r _ => h1 r, Fin.sum_univ_eq_sum_range (fun n : ℕ => if s.val < n then f (o + n) else 0) 256, ← Finset.sum_filter]
  have hs : Finset.filter (fun n => s.val < n) (Finset.range 256) = Finset.Ico (s.val + 1) 256 := by
    ext n; simp only [Finset.mem_filter, Finset.mem_range, Finset.mem_Ico]; omega
  rw [hs, Finset.sum_Ico_add f, show s.val + 1 + o = o + s.val + 1 by omega, Nat.add_comm 256 o]

/-- A sum over all places of 256. -/
theorem sum_all (o : ℕ) (f : ℕ → EReal) : ∑ r : Fin 256, f (o + r.val) = ∑ u ∈ Finset.Ico o (o + 256), f u := by
  rw [Fin.sum_univ_eq_sum_range (fun n : ℕ => f (o + n)) 256, Finset.range_eq_Ico, Finset.sum_Ico_add f, Nat.zero_add, Nat.add_comm 256 o]

/-- The log shares of the later keys of the block, summed. -/
theorem laterB_apply (l : FVec Ideal S256x256 .f32) (i : Fin 256) (o : ℕ) (f : ℕ → EReal) (hf : ∀ u, f u ≠ ⊤)
    (hl : ∀ r : Fin 256, l (ix2 i r) = f (o + r.val)) (s : Fin 256) :
    laterB l (ix2 i s) = ∑ u ∈ Finset.Ico (o + s.val + 1) (o + 256), f u := by
  have hm : laterB l (ix2 i s) = ∑ c : Fin 512, concatenate S256x512 1 [⟨S256x256, (l : FVec Ideal S256x256 .bf16)⟩, ⟨S256x256, fun x => l x - l x⟩]
        concatenates_S256x256_S256x256_S256x512_d1 (ix2 i c)
      * concatenate S512x256 0 [⟨S256x256, triU (F := Ideal)⟩, ⟨S256x256, triU⟩] concatenates_S256x256_S256x256_S512x256_d0 (ix2 c s) :=
    (Ideal.matmul_plain_apply (M := 256) (K := 512) (N := 256) none _ _ _ i s).trans
      (by rw [show constant (F := Ideal) S256x256 .f32 0x00000000#32 (ix2 i s) = 0 from Ideal.ofBits_zero_f32, zero_add]; rfl)
  rw [hm]
  refine (Fin.sum_univ_add (a := 256) (b := 256) _).trans ?_
  have hhi : ∀ r : Fin 256, concatenate S256x512 1 [⟨S256x256, (l : FVec Ideal S256x256 .bf16)⟩, ⟨S256x256, fun x => l x - l x⟩]
        concatenates_S256x256_S256x256_S256x512_d1 (ix2 i (Fin.castAdd 256 r)) = f (o + r.val) := fun r =>
    (concatenate_pair_apply_left 1 _ _ concatenates_S256x256_S256x256_S256x512_d1 _ rfl (ix2 i r) (fun b => match b with | ⟨0, _⟩ => rfl | ⟨1, _⟩ => rfl)).trans (hl r)
  have hlo : ∀ r : Fin 256, concatenate S256x512 1 [⟨S256x256, (l : FVec Ideal S256x256 .bf16)⟩, ⟨S256x256, fun x => l x - l x⟩]
        concatenates_S256x256_S256x256_S256x512_d1 (ix2 i (Fin.natAdd 256 r)) = f (o + r.val) - f (o + r.val) := fun r => by
    refine (concatenate_pair_apply_right 1 _ _ concatenates_S256x256_S256x256_S256x512_d1 _ rfl rfl (ix2 i r) (fun b hb => match b with | ⟨0, _⟩ => rfl | ⟨1, _⟩ => absurd rfl hb) ?_).trans ?_
    · show r.val + 256 = 256 + r.val; omega
    · show l (ix2 i r) - l (ix2 i r) = _
      rw [hl r]
  have uhi : ∀ r : Fin 256, concatenate S512x256 0 [⟨S256x256, triU (F := Ideal)⟩, ⟨S256x256, triU⟩] concatenates_S256x256_S256x256_S512x256_d0
      (ix2 (Fin.castAdd 256 r) s) = if s.val < r.val then 1 else 0 := fun r =>
    (concatenate_pair_apply_left 0 _ _ concatenates_S256x256_S256x256_S512x256_d0 _ rfl (ix2 r s) (fun b => match b with | ⟨0, _⟩ => rfl | ⟨1, _⟩ => rfl)).trans (triU_apply r s)
  have ulo : ∀ r : Fin 256, concatenate S512x256 0 [⟨S256x256, triU (F := Ideal)⟩, ⟨S256x256, triU⟩] concatenates_S256x256_S256x256_S512x256_d0
      (ix2 (Fin.natAdd 256 r) s) = if s.val < r.val then 1 else 0 := fun r => by
    refine (concatenate_pair_apply_right 0 _ _ concatenates_S256x256_S256x256_S512x256_d0 _ rfl rfl (ix2 r s) (fun b hb => match b with | ⟨0, _⟩ => absurd rfl hb | ⟨1, _⟩ => rfl) ?_).trans (triU_apply r s)
    show r.val + 256 = 256 + r.val; omega
  rw [Finset.sum_congr rfl fun r _ => congrArg₂ (· * ·) (hhi r) (uhi r), Finset.sum_congr rfl fun r _ => congrArg₂ (· * ·) (hlo r) (ulo r)]
  have hsub : ∀ r : Fin 256, (f (o + r.val) - f (o + r.val)) * (if s.val < r.val then 1 else 0)
      = f (o + r.val) * (if s.val < r.val then 1 else 0) - f (o + r.val) * (if s.val < r.val then 1 else 0) := fun r => by
    split
    · rw [mul_one, mul_one]
    · rw [mul_zero, mul_zero, sub_zero]
  rw [Finset.sum_congr rfl fun r _ => hsub r, sum_add_sub_self, sum_later]
  intro r
  split
  · rw [mul_one]; exact hf _
  · rw [mul_zero]; exact EReal.zero_ne_top

/-- The log shares of a block summed into the carry. -/
theorem carryB_apply (c : FVec Ideal S256x1 .f32) (l : FVec Ideal S256x256 .f32) (i : Fin 256) (o : ℕ) (f : ℕ → EReal)
    (hl : ∀ r : Fin 256, l (ix2 i r) = f (o + r.val)) :
    carryB c l (ix2 i 0) = c (ix2 i 0) + ∑ u ∈ Finset.Ico o (o + 256), f u := by
  refine congrArg (c (ix2 i 0) + ·) ((shapeCast_apply _ shapeCasts_S256_S256x1 (ix2 i 0) (ix1 i)
    (by rw [Shape.rowMajor_val_one, Shape.rowMajor_val_two]; show i.val = i.val * 1 + 0; omega)).trans
    ((Ideal.multiReduction_add_single l _ reduces_S256x256_S256 (.inl rfl) rfl (ix1 i)).trans ?_))
  rw [← sum_all]
  refine Finset.sum_congr rfl fun r _ => ?_
  have hi : reduces_S256x256_S256.lift (ix1 i) r = (ix2 i r : S256x256.Idx) := funext fun a => match a with | ⟨0, _⟩ => rfl | ⟨1, _⟩ => rfl
  exact (congrArg l hi).trans (hl r)

/-- A weight in base 2, over the block's later keys and the carry. -/
theorem weightB_apply (z l : FVec Ideal S256x256 .f32) (c : FVec Ideal S256x1 .f32) (i s : Fin 256) :
    weightB z l c (ix2 i s) = Ideal.exp2 (((z (ix2 i s) + keep2 (z (ix2 i s))) + laterB l (ix2 i s)) + c (ix2 i 0)) := by
  have hb : broadcastTo S256x256 c broadcasts_S256x1_S256x256 (ix2 i s) = c (ix2 i 0) :=
    broadcastTo_apply c broadcasts_S256x1_S256x256 (ix2 i s) (ix2 i 0) (fun a => match a with | ⟨0, _⟩ => rfl | ⟨1, _⟩ => rfl)
  rw [← keepB_apply, ← hb]
  rfl

/-- Weights times values. -/
theorem valB_apply (a : FVec Ideal S256x256 .f32) (v : Vec Ideal S256x128 .bf16) (i : Fin 256) (d : Fin 128) :
    valB a v (ix2 i d) = ∑ r : Fin 256, a (ix2 i r) * v (ix2 r d) :=
  (Ideal.matmul_plain_apply (M := 256) (K := 256) (N := 128) none _ _ _ i d).trans
    (by rw [show constant (F := Ideal) S256x128 .f32 0x00000000#32 (ix2 i d) = 0 from Ideal.ofBits_zero_f32, zero_add]; rfl)

end Cert.KernelIdeal.Hand

end
-- ==== Proof.Descent.lean ====
/-
  The descent of a query block over the extended reals: after the blocks from the diagonal down to block `n`, the carry
  of each query is the sum of the log shares of the keys from `256 n` on, and its row the weighted values of those keys.
  So the stored block is the formula's.
-/
module

public import proofs.«01_k».proof.Proof.Parts

@[expose] public section

noncomputable section

namespace Cert.KernelIdeal.Hand

open Idealize.ShloMosaic Idealize.ShloMosaic.TcCoe Idealize.ShloMosaic.ValueIdx
open Cert.KernelIdeal.Gen Cert.StickBreaking

variable (q : FVec Ideal S256x128 .bf16) (b : Elt Ideal .f32) (K V : Vec Ideal S4096x128 .bf16) (j : ℕ)

/-- Key number `s` among 4096. -/
abbrev keyAt (s : ℕ) : Fin 4096 := ⟨s % 4096, Nat.mod_lt _ (by decide)⟩

/-- The score of key `s` for query `i` of the block. -/
def score (i : Fin 256) (s : ℕ) : EReal := (∑ c : Fin 128, q (ix2 i c) * K (ix2 (keyAt s) c)) * sigma + b

/-- The base-2 log share of key `s` for query `i` of block `j`, and the key's weighted value. -/
def share (i : Fin 256) (s : ℕ) : EReal := kept (score q b K i) (256 * j + i.val) s * lam
def term (i : Fin 256) (d : Fin 128) (s : ℕ) : EReal := weight (score q b K i) (256 * j + i.val) 4096 s * V (ix2 (keyAt s) d)

theorem rowsB_apply (X : Vec Ideal S4096x128 .bf16) (t : ℕ) (r : Fin 256) (c : Fin 128) : rowsB X t (ix2 r c) = X (ix2 (keyAt (256 * t + r.val)) c) :=
  congrArg X (funext fun a => match a with | ⟨0, _⟩ => rfl | ⟨1, _⟩ => rfl)

theorem zB_rows (t : ℕ) (i r : Fin 256) : zB q b (rowsB K t) (ix2 i r) = score q b K i (256 * t + r.val) * lam := by
  rw [zB_apply, score]
  refine congrArg (fun x => (x * sigma + b) * lam) (Finset.sum_congr rfl fun c _ => ?_)
  rw [rowsB_apply]

theorem share_ne_top (i : Fin 256) (s : ℕ) : share q b K j i s ≠ ⊤ := by
  unfold share kept
  split
  · rw [← keep2_mul, keep2_mul]
    have h := keep_ne_top (score q b K i s)
    revert h
    generalize keep (score q b K i s) = x
    intro h
    induction x with
    | bot => rw [bot_mul_lam]; exact bot_ne_top
    | top => exact absurd rfl h
    | coe r => rw [coe_mul_lam]; exact EReal.coe_ne_top _
  · rw [zero_mul]; exact EReal.zero_ne_top

/-- The log shares of the diagonal block and of an earlier block. -/
theorem keepD_rows (i r : Fin 256) : onB (keepB (zB q b (rowsB K j))) (ix2 i r) = share q b K j i (256 * j + r.val) := by
  rw [onB_apply, keepB_apply, zB_rows, keep2_mul, share, kept]
  by_cases h : r.val < i.val
  · rw [if_pos h, if_pos (by omega)]
  · rw [if_neg h, if_neg (by omega), zero_mul]
theorem keepE_rows (t : ℕ) (ht : t < j) (i r : Fin 256) : keepB (zB q b (rowsB K t)) (ix2 i r) = share q b K j i (256 * t + r.val) := by
  rw [keepB_apply, zB_rows, keep2_mul, share, kept, if_pos (by omega)]

/-- The carry after the blocks down to `t`: the log shares of the keys from block `t` on. -/
def CarryAt (t : ℕ) (c : FVec Ideal S256x1 .f32) : Prop := ∀ i : Fin 256, c (ix2 i 0) = ∑ u ∈ Finset.Ico (256 * t) (256 * (j + 1)), share q b K j i u

theorem zeroCarry_at (i : Fin 256) : zeroCarry (F := Ideal) (ix2 i 0) = 0 := Ideal.ofBits_zero_f32

theorem carryD_at : CarryAt q b K j j (carryD q b (rowsB K j) zeroCarry) := fun i => by
  rw [carryD, carryB_apply _ _ i (256 * j) (share q b K j i) (keepD_rows q b K j i), zeroCarry_at, zero_add, Nat.mul_add, Nat.mul_one]
theorem carryE_at (t : ℕ) (ht : t < j) (c : FVec Ideal S256x1 .f32) (hc : CarryAt q b K j (t + 1) c) :
    CarryAt q b K j t (carryE q b (rowsB K t) c) := fun i => by
  rw [carryE, carryB_apply _ _ i (256 * t) (share q b K j i) (keepE_rows q b K j t ht i), hc i, add_comm,
    show 256 * (t + 1) = 256 * t + 256 by omega, Finset.sum_Ico_consecutive _ (by omega) (by omega)]

/-- One block's weighted values, and all from block `t` on. -/
def part (t : ℕ) (i : Fin 256) (d : Fin 128) : EReal := ∑ u ∈ Finset.Ico (256 * t) (256 * t + 256), term q b K V j i d u
def span (t : ℕ) (i : Fin 256) (d : Fin 128) : EReal := ∑ u ∈ Finset.Ico (256 * t) (256 * (j + 1)), term q b K V j i d u

theorem span_top (i : Fin 256) (d : Fin 128) : span q b K V j j i d = part q b K V j j i d := by
  rw [span, part, Nat.mul_add, Nat.mul_one]
theorem span_step (t : ℕ) (ht : t < j) (i : Fin 256) (d : Fin 128) : span q b K V j t i d = span q b K V j (t + 1) i d + part q b K V j t i d := by
  rw [span, span, part, add_comm (∑ u ∈ Finset.Ico (256 * (t + 1)) _, _), show 256 * (t + 1) = 256 * t + 256 by omega, Finset.sum_Ico_consecutive _ (by omega) (by omega)]

/-- A base-2 weight, the carry given, is the formula's. -/
theorem weight_at (hj : j < 16) (t : ℕ) (ht : t ≤ j) (c : FVec Ideal S256x1 .f32) (i r : Fin 256)
    (hc : c (ix2 i 0) = ∑ u ∈ Finset.Ico (256 * (t + 1)) (256 * (j + 1)), share q b K j i u) (hr : 256 * t + r.val < 256 * j + i.val)
    (l : FVec Ideal S256x256 .f32) (hl : ∀ r : Fin 256, l (ix2 i r) = share q b K j i (256 * t + r.val)) :
    weightB (zB q b (rowsB K t)) l c (ix2 i r) = weight (score q b K i) (256 * j + i.val) 4096 (256 * t + r.val) := by
  rw [weightB_apply, laterB_apply l i (256 * t) (share q b K j i) (share_ne_top q b K j i) hl r, hc, zB_rows]
  exact weight_split (score q b K i) (256 * j + i.val) 4096 (256 * t + r.val) (256 * (t + 1)) (256 * (j + 1)) hr (by omega) (by omega) (by omega) (by omega)

theorem valD_at (hj : j < 16) (i : Fin 256) (d : Fin 128) :
    valD q b (rowsB K j) (rowsB V j) zeroCarry (ix2 i d) = part q b K V j j i d := by
  rw [valD, valB_apply, part, ← sum_all]
  refine Finset.sum_congr rfl fun r _ => ?_
  rw [onB_apply, rowsB_apply, term]
  by_cases h : r.val < i.val
  · rw [if_pos h, weight_at q b K j hj j le_rfl zeroCarry i r (by rw [zeroCarry_at, Finset.Ico_self, Finset.sum_empty]) (by omega) _ (keepD_rows q b K j i)]
  · rw [if_neg h, weight, if_neg (by omega)]
theorem valE_at (hj : j < 16) (t : ℕ) (ht : t < j) (c : FVec Ideal S256x1 .f32) (hc : CarryAt q b K j (t + 1) c) (i : Fin 256) (d : Fin 128) :
    valE q b (rowsB K t) (rowsB V t) c (ix2 i d) = part q b K V j t i d := by
  rw [valE, valB_apply, part, ← sum_all]
  refine Finset.sum_congr rfl fun r _ => ?_
  rw [rowsB_apply, term, weight_at q b K j hj t ht.le c i r (hc i) (by omega) _ (keepE_rows q b K j t ht i)]

/-- What the descent holds after the blocks down to `t`. -/
def DoneAt (t : ℕ) (s : FVec Ideal S256x128 .f32 × FVec Ideal S256x1 .f32) : Prop :=
  (∀ (i : Fin 256) (d : Fin 128), s.1 (ix2 i d) = span q b K V j t i d) ∧ CarryAt q b K j t s.2

theorem zeroAcc_at (i : Fin 256) (d : Fin 128) : zeroAcc (F := Ideal) (ix2 i d) = 0 := Ideal.ofBits_zero_f32

/-- A head group's state. -/
theorem headB_at (hj : j < 16) : DoneAt q b K V j (j - j % 4) (headB q b K V j) := by
  have c0 := carryD_at q b K j
  rcases (show j % 4 = 0 ∨ j % 4 = 1 ∨ j % 4 = 2 ∨ j % 4 = 3 by omega) with h | h | h | h
  · rw [headB, h]
    refine ⟨fun i d => ?_, c0⟩
    show zeroAcc (ix2 i d) + valD q b (rowsB K j) (rowsB V j) zeroCarry (ix2 i d) = _
    rw [zeroAcc_at, zero_add, valD_at q b K V j hj, Nat.sub_zero, span_top]
  · rw [headB, h]
    obtain ⟨n, rfl⟩ : ∃ n, j = n + 1 := ⟨j - 1, by omega⟩
    simp only [Nat.add_sub_cancel]
    refine ⟨fun i d => ?_, carryE_at q b K (n + 1) n (by omega) _ c0⟩
    show zeroAcc (ix2 i d) + (valD q b _ _ zeroCarry (ix2 i d) + valE q b _ _ _ (ix2 i d)) = _
    rw [zeroAcc_at, zero_add, valD_at q b K V (n + 1) hj, valE_at q b K V (n + 1) hj n (by omega) _ c0,
      span_step q b K V (n + 1) n (by omega), span_top]
  · rw [headB, h]
    obtain ⟨n, rfl⟩ : ∃ n, j = n + 2 := ⟨j - 2, by omega⟩
    simp only [Nat.add_sub_cancel, show n + 2 - 1 = n + 1 by omega]
    have c1 := carryE_at q b K (n + 2) (n + 1) (by omega) _ c0
    refine ⟨fun i d => ?_, carryE_at q b K (n + 2) n (by omega) _ c1⟩
    show zeroAcc (ix2 i d) + ((valD q b _ _ zeroCarry (ix2 i d) + valE q b _ _ _ (ix2 i d)) + valE q b _ _ _ (ix2 i d)) = _
    rw [zeroAcc_at, zero_add, valD_at q b K V (n + 2) hj, valE_at q b K V (n + 2) hj (n + 1) (by omega) _ c0,
      valE_at q b K V (n + 2) hj n (by omega) _ c1,
      span_step q b K V (n + 2) n (by omega), span_step q b K V (n + 2) (n + 1) (by omega), span_top]
  · rw [headB, h]
    obtain ⟨n, rfl⟩ : ∃ n, j = n + 3 := ⟨j - 3, by omega⟩
    simp only [Nat.add_sub_cancel, show n + 3 - 1 = n + 2 by omega, show n + 3 - 2 = n + 1 by omega]
    have c1 := carryE_at q b K (n + 3) (n + 2) (by omega) _ c0
    have c2 := carryE_at q b K (n + 3) (n + 1) (by omega) _ c1
    refine ⟨fun i d => ?_, carryE_at q b K (n + 3) n (by omega) _ c2⟩
    show zeroAcc (ix2 i d) + (((valD q b _ _ zeroCarry (ix2 i d) + valE q b _ _ _ (ix2 i d)) + valE q b _ _ _ (ix2 i d)) + valE q b _ _ _ (ix2 i d)) = _
    rw [zeroAcc_at, zero_add, valD_at q b K V (n + 3) hj, valE_at q b K V (n + 3) hj (n + 2) (by omega) _ c0,
      valE_at q b K V (n + 3) hj (n + 1) (by omega) _ c1, valE_at q b K V (n + 3) hj n (by omega) _ c2,
      span_step q b K V (n + 3) n (by omega), span_step q b K V (n + 3) (n + 1) (by omega), span_step q b K V (n + 3) (n + 2) (by omega), span_top]

/-- A group of four takes the state four blocks down. -/
theorem groupB_at (hj : j < 16) (n : ℕ) (hn : n + 4 ≤ j) (s : FVec Ideal S256x128 .f32 × FVec Ideal S256x1 .f32) (hs : DoneAt q b K V j (n + 4) s) :
    DoneAt q b K V j n (groupB q b K V (n + 3) s) := by
  obtain ⟨ha, hc⟩ := hs
  rw [groupB]
  simp only [Nat.add_sub_cancel, show n + 3 - 1 = n + 2 by omega, show n + 3 - 2 = n + 1 by omega]
  have c1 := carryE_at q b K j (n + 3) (by omega) _ hc
  have c2 := carryE_at q b K j (n + 2) (by omega) _ c1
  have c3 := carryE_at q b K j (n + 1) (by omega) _ c2
  refine ⟨fun i d => ?_, carryE_at q b K j n (by omega) _ c3⟩
  show s.1 (ix2 i d) + (((valE q b _ _ _ (ix2 i d) + valE q b _ _ _ (ix2 i d)) + valE q b _ _ _ (ix2 i d)) + valE q b _ _ _ (ix2 i d)) = _
  rw [ha, valE_at q b K V j hj (n + 3) (by omega) _ hc, valE_at q b K V j hj (n + 2) (by omega) _ c1,
    valE_at q b K V j hj (n + 1) (by omega) _ c2, valE_at q b K V j hj n (by omega) _ c3,
    span_step q b K V j n (by omega), span_step q b K V j (n + 1) (by omega), span_step q b K V j (n + 2) (by omega), span_step q b K V j (n + 3) (by omega)]
  simp only [add_assoc]

/-- The descent after `k` groups. -/
theorem descendB_at (hj : j < 16) (k : ℕ) (hk : 4 * k ≤ j - j % 4) : DoneAt q b K V j (j - j % 4 - 4 * k) (descendB q b K V j k) := by
  induction k with
  | zero => exact headB_at q b K V j hj
  | succ k ih =>
    obtain ⟨n, hn⟩ : ∃ n, j - j % 4 - 4 * k = n + 4 := ⟨j - j % 4 - 4 * k - 4, by omega⟩
    have h := groupB_at q b K V j hj n (by omega) _ (hn ▸ ih (by omega))
    rw [descendB, show j - j % 4 - 1 - 4 * k = n + 3 by omega, show j - j % 4 - 4 * (k + 1) = n by omega]
    exact h

/-- The stored block: each query's row is its weighted values. -/
theorem outB_apply (hj : j < 16) (i : Fin 256) (d : Fin 128) :
    outB q b K V j (ix2 i d) = ∑ s : Fin 4096, V (ix2 s d) * weight (score q b K i) (256 * j + i.val) 4096 s.val := by
  have h := (descendB_at q b K V j hj (j / 4) (by omega)).1 i d
  rw [show j - j % 4 - 4 * (j / 4) = 0 by omega] at h
  refine h.trans ?_
  have h0 : ∑ u ∈ Finset.Ico (256 * (j + 1)) 4096, term q b K V j i d u = 0 := Finset.sum_eq_zero fun u hu => by
    rw [term, weight, if_neg (by have := (Finset.mem_Ico.mp hu).1; omega), zero_mul]
  rw [span, ← add_zero (∑ u ∈ _, _), ← h0, Finset.sum_Ico_consecutive _ (by omega) (by omega), Nat.mul_zero, ← Finset.range_eq_Ico,
    ← Fin.sum_univ_eq_sum_range (term q b K V j i d) 4096]
  refine Finset.sum_congr rfl fun s _ => ?_
  rw [term, mul_comm, show keyAt s.val = s from Fin.ext (Nat.mod_eq_of_lt s.isLt)]

end Cert.KernelIdeal.Hand

end
-- ==== Proof.Array.lean ====
/-
  The output array after the whole grid: every block written is the attention of its rows and head, and the blocks
  cover the array.
-/
module

public import proofs.«01_k».proof.Proof.Run
public import proofs.«01_k».proof.Proof.Descent
public import Idealize.ShloMosaic.Lib.Pipeline.ValueKit

@[expose] public section

set_option maxRecDepth 8192

noncomputable section

namespace Cert.KernelIdeal.Hand

open Idealize.ShloMosaic hiding ix1 ix2 eq_ix2
open Idealize.ShloMosaic.TcCoe Idealize.ShloMosaic.ValueIdx
open Idealize.SL.Sem
open Idealize.ShloMosaic.Pipeline (Dat)
open Cert.KernelIdeal.Gen Cert.StickBreaking

variable (m : (ℓ : Loc nD τ sig) → Buf (Elt Ideal) ℓ)

/-- The block every window reads or writes at a point: sequence, head, query block. -/
theorem index0 : ∀ t : Fin cfg0.N, win0_0.index t = ![0] := (by decide +kernel : ∀ t : Fin grid0.N, _)
theorem index1 : ∀ t : Fin cfg0.N, win0_1.index t = ![(grid0.coords t 0).val * 16 + (grid0.coords t 2).val, 32 + (grid0.coords t 1).val] :=
  (by decide +kernel : ∀ t : Fin grid0.N, _)
theorem index2 : ∀ t : Fin cfg0.N, win0_2.index t = ![(grid0.coords t 0).val, 40 + (grid0.coords t 1).val] :=
  (by decide +kernel : ∀ t : Fin grid0.N, _)
theorem index3 : ∀ t : Fin cfg0.N, win0_3.index t = ![(grid0.coords t 0).val, 48 + (grid0.coords t 1).val] :=
  (by decide +kernel : ∀ t : Fin grid0.N, _)
theorem index4 : ∀ t : Fin cfg0.N, win0_4.index t = ![(grid0.coords t 0).val * 16 + (grid0.coords t 2).val, (grid0.coords t 1).val] :=
  (by decide +kernel : ∀ t : Fin grid0.N, _)

/-- A query of a point's block, a key and a value of its head, as cells of the projection. -/
theorem query_cell (c : Dev nD) (t : Fin cfg0.N) (i : Fin 256) (d : Fin 128) :
    iblk m c 1 t (ix2 i d : S256x128.Idx) = cell (m ((c : Thread nD τ).loc main_arg0))
      (4096 * (grid0.coords t 0).val + (256 * (grid0.coords t 2).val + i.val)) (4096 + 128 * (grid0.coords t 1).val + d.val) := by
  refine eq_cell _ _ _ _ ?_ ?_
  · blk_simp [index1 t]; change ((grid0.coords t 0).val * 16 + (grid0.coords t 2).val) * 256 + i.val = _; omega
  · blk_simp [index1 t]; change (32 + (grid0.coords t 1).val) * 128 + d.val = _; omega
theorem key_cell (c : Dev nD) (t : Fin cfg0.N) (s : Fin 4096) (d : Fin 128) :
    iblk m c 2 t (ix2 s d : S4096x128.Idx) = cell (m ((c : Thread nD τ).loc main_arg0))
      (4096 * (grid0.coords t 0).val + s.val) (5120 + 128 * (grid0.coords t 1).val + d.val) := by
  refine eq_cell _ _ _ _ ?_ ?_
  · blk_simp [index2 t]; change (grid0.coords t 0).val * 4096 + s.val = _; omega
  · blk_simp [index2 t]; change (40 + (grid0.coords t 1).val) * 128 + d.val = _; omega
theorem value_cell (c : Dev nD) (t : Fin cfg0.N) (s : Fin 4096) (d : Fin 128) :
    iblk m c 3 t (ix2 s d : S4096x128.Idx) = cell (m ((c : Thread nD τ).loc main_arg0))
      (4096 * (grid0.coords t 0).val + s.val) (6144 + (128 * (grid0.coords t 1).val + d.val)) := by
  refine eq_cell _ _ _ _ ?_ ?_
  · blk_simp [index3 t]; change (grid0.coords t 0).val * 4096 + s.val = _; omega
  · blk_simp [index3 t]; change (48 + (grid0.coords t 1).val) * 128 + d.val = _; omega

/-- The bias of a point's head. -/
theorem bias_cell (c : Dev nD) (t : Fin cfg0.N) :
    biasOf (iblk m c 0 t) (grid0.coords t) = (m ((c : Thread nD τ).loc main_arg1) : S8.Idx → EReal) (ix1 ⟨(grid0.coords t 1).val % 8, Nat.mod_lt _ (by decide)⟩) := by
  have hh : (grid0.coords t 1).val < 8 := (grid0.coords t 1).isLt
  unfold biasOf
  refine congrArg (m ((c : Thread nD τ).loc main_arg1) : S8.Idx → EReal) (funext fun a => Fin.ext ?_)
  fin_cases a
  blk_simp [index0 t]
  exact (Nat.mod_eq_of_lt hh).symm

/-- An element of a point's output block is the attention's at its row and column. -/
theorem out_cell (c : Dev nD) (t : Fin cfg0.N) (i : Fin 256) (d : Fin 128) :
    outAt m c t (ix2 i d) = attend (m ((c : Thread nD τ).loc main_arg0)) (m ((c : Thread nD τ).loc main_arg1))
      (4096 * (grid0.coords t 0).val + (256 * (grid0.coords t 2).val + i.val)) (128 * (grid0.coords t 1).val + d.val) := by
  have hb : (grid0.coords t 0).val < 2 := (grid0.coords t 0).isLt
  have hh : (grid0.coords t 1).val < 8 := (grid0.coords t 1).isLt
  have hj : (grid0.coords t 2).val < 16 := (grid0.coords t 2).isLt
  have hi : i.val < 256 := i.isLt
  have hd : d.val < 128 := d.isLt
  unfold outAt attend
  rw [show (4096 * (grid0.coords t 0).val + (256 * (grid0.coords t 2).val + i.val)) / 4096 = (grid0.coords t 0).val by omega,
    show (4096 * (grid0.coords t 0).val + (256 * (grid0.coords t 2).val + i.val)) % 4096 = 256 * (grid0.coords t 2).val + i.val by omega,
    show (128 * (grid0.coords t 1).val + d.val) / 128 = (grid0.coords t 1).val by omega, outB_apply _ _ _ _ _ hj i d]
  have hs : score (queryOf (iblk m c 1 t)) (biasOf (iblk m c 0 t) (grid0.coords t)) (keysAt m c t) i
      = scoreOf (m ((c : Thread nD τ).loc main_arg0)) (m ((c : Thread nD τ).loc main_arg1)) (grid0.coords t 0).val (grid0.coords t 1).val
          (256 * (grid0.coords t 2).val + i.val) := funext fun s => by
    unfold score scoreOf
    refine congrArg₂ (· + ·) (congrArg (· * sigma) (Finset.sum_congr rfl fun e _ => congrArg₂ (· * ·) ?_ ?_)) (bias_cell m c t)
    · exact query_cell m c t i e
    · exact key_cell m c t (keyAt s) e
  rw [hs]
  exact Finset.sum_congr rfl fun s _ => congrArg (· * _) (value_cell m c t s d)

/-- The output array ends holding the attention. -/
theorem final (c : Dev nD) : (dats m 0 c).arrAt 4 cfg0.N
    = fun i : S8192x1024.Idx => attend (m ((c : Thread nD τ).loc main_arg0)) (m ((c : Thread nD τ).loc main_arg1)) (i 0).val (i 1).val := by
  refine (dats m 0 c).arrAt_eq_of_covers 4 _ (by decide +kernel) fun t hf y => ?_
  rw [after4]
  blk_simp [index4 t]
  refine (congrArg (outAt m c t) (eq_ix2 (y : S256x128.Idx))).trans ((out_cell m c t _ _).trans ?_)
  refine congrArg₂ (attend _ _) ?_ ?_
  · change _ = ((grid0.coords t 0).val * 16 + (grid0.coords t 2).val) * 256 + (y 0).val; omega
  · change _ = (grid0.coords t 1).val * 128 + (y 1).val; omega

end Cert.KernelIdeal.Hand

end
-- ==== Proof.Formula.lean ====
/-
  The reference read at an index: its masked log shares, their running sum from the right, the weights and the
  weighted values are the formula's.
-/
module

public import proofs.«01_k».proof.Proof.Gen.ReferenceIdeal.Read
public import proofs.«01_k».proof.Proof.Keys

@[expose] public section

noncomputable section

namespace Cert.ReferenceIdeal.Hand

open Idealize.ShloMosaic Idealize.ShloMosaic.TcCoe Idealize.ShloMosaic.ValueIdx
open Cert.ReferenceIdeal Cert.ReferenceIdeal.Gen Cert.ReferenceIdeal.Read Cert.StickBreaking

/-- A left fold of additions is the sum. -/
theorem foldl_add {n : ℕ} (g : Fin n → EReal) (l : List (Fin n)) (a : EReal) : l.foldl (fun r k => r + g k) a = a + (l.map g).sum := by
  induction l generalizing a with
  | nil => simp
  | cons k l ih => rw [List.foldl_cons, ih, List.map_cons, List.sum_cons, add_assoc]

/-- A window along the last axis, by its place there. -/
def along : (⟨4, ![1, 1, 1, 4096]⟩ : Shape).Idx ≃ Fin 4096 where
  toFun w := w 3
  invFun k := ix4 (0 : Fin 1) (0 : Fin 1) (0 : Fin 1) k
  left_inv w := funext fun a => match a with
    | ⟨0, _⟩ => Subsingleton.elim (α := Fin 1) _ _
    | ⟨1, _⟩ => Subsingleton.elim (α := Fin 1) _ _
    | ⟨2, _⟩ => Subsingleton.elim (α := Fin 1) _ _
    | ⟨3, _⟩ => rfl
  right_inv _ := rfl

/-- The running sum from the right, at an index: the sum of the entries from there on. -/
theorem sum_from (y : S2x8x4096x4096.Idx → EReal) (v : EReal) (hv : v = 0)
    (h : S2x8x4096x4096.ReduceWindows ![1, 1, 1, 4096] ![1, 1, 1, 1] ![0, 0, 0, 0] ![0, 0, 0, 4095] S2x8x4096x4096)
    (i : S2x8x4096x4096.Idx) (f : ℕ → EReal) (hf : ∀ s : Fin 4096, y (ix4 (i 0) (i 1) (i 2) s) = f s.val) :
    Ideal.hostReduceWindowAdd ![1, 1, 1, 4096] ![1, 1, 1, 1] ![0, 0, 0, 0] ![0, 0, 0, 4095] h y v i = ∑ s ∈ Finset.Ico (i 3).val 4096, f s := by
  subst hv
  have h3 : (i 3).val < 4096 := (i 3).isLt
  unfold Ideal.hostReduceWindowAdd Host.reduceWindow
  refine (foldl_add _ _ _).trans ?_
  rw [zero_add, ← Fin.sum_univ_def, ← Equiv.sum_comp (Shape.rowMajor ⟨4, ![1, 1, 1, 4096]⟩), ← Equiv.sum_comp along.symm]
  refine (Finset.sum_congr rfl fun k _ => (?_ : _ = (fun n : ℕ => if (i 3).val + n < 4096 then f ((i 3).val + n) else 0) k.val)).trans ?_
  · simp only [Equiv.symm_apply_apply]
    split
    · next hin =>
      have hlt : (i 3).val * 1 + k.val - 0 < 4096 := (hin 3).2
      rw [if_pos (by omega), ← show f ((⟨(i 3).val + k.val, by omega⟩ : Fin 4096).val) = f ((i 3).val + k.val) from rfl, ← hf]
      refine congrArg y (funext fun a => Fin.ext ?_)
      match a with
      | ⟨0, _⟩ => show (i 0).val * 1 + 0 - 0 = (i 0).val; omega
      | ⟨1, _⟩ => show (i 1).val * 1 + 0 - 0 = (i 1).val; omega
      | ⟨2, _⟩ => show (i 2).val * 1 + 0 - 0 = (i 2).val; omega
      | ⟨3, _⟩ => show (i 3).val * 1 + k.val - 0 = (i 3).val + k.val; omega
    · next hin =>
      rw [if_neg fun hlt => hin fun a => ?_]
      match a with
      | ⟨0, _⟩ => exact ⟨Nat.zero_le _, by show (i 0).val * 1 + 0 - 0 < 2; have : (i 0).val < 2 := (i 0).isLt; omega⟩
      | ⟨1, _⟩ => exact ⟨Nat.zero_le _, by show (i 1).val * 1 + 0 - 0 < 8; have : (i 1).val < 8 := (i 1).isLt; omega⟩
      | ⟨2, _⟩ => exact ⟨Nat.zero_le _, by show (i 2).val * 1 + 0 - 0 < 4096; have : (i 2).val < 4096 := (i 2).isLt; omega⟩
      | ⟨3, _⟩ => exact ⟨Nat.zero_le _, by show (i 3).val * 1 + k.val - 0 < 4096; omega⟩
  · rw [Fin.sum_univ_eq_sum_range (fun n : ℕ => if (i 3).val + n < 4096 then f ((i 3).val + n) else 0) 4096, ← Finset.sum_filter]
    have hs : Finset.filter (fun n => (i 3).val + n < 4096) (Finset.range 4096) = Finset.Ico 0 (4096 - (i 3).val) := by
      ext n; simp only [Finset.mem_filter, Finset.mem_range, Finset.mem_Ico]; omega
    rw [hs, Finset.sum_Ico_add f, Nat.zero_add, Nat.sub_add_cancel h3.le]

variable (x0 : (⟨S8192x7168, .f32⟩ : BufTy).Contents (Elt Ideal)) (x1 : (⟨S8, .f32⟩ : BufTy).Contents (Elt Ideal))

theorem une_self (x : EReal) : Ideal.cmp .une x x = 0#1 := by simp [Ideal.cmp]

/-- The softplus of the reference, negated: the log share. -/
theorem softplus_neg (y u v w : EReal) (hu : u = 0) (hv : v = 0) :
    -(Scalar.select (Ideal.cmp .une (y - v) (y - v)) w (max y u + Ideal.log1p (Ideal.exp (-(max (y - v) (-(y - v))))))) = keep y := by
  rw [une_self, select_zero, hu, hv, sub_zero, keep]

/-- The queries, keys and values at an index. -/
theorem query_apply (j : S2x4096x8x128.Idx) : val_main_v2 (F := Ideal) x0 j = cell x0 (4096 * (j 0).val + (j 1).val) (4096 + 128 * (j 2).val + (j 3).val) := by
  rw [val_main_v2_apply, val_main_v1_apply, val_main_v0_apply]
  have h0 : (j 0).val < 2 := (j 0).isLt
  have h1 : (j 1).val < 4096 := (j 1).isLt
  have h2 : (j 2).val < 8 := (j 2).isLt
  have h3 : (j 3).val < 128 := (j 3).isLt
  refine eq_cell x0 _ _ _ ?_ ?_ <;> dsimp <;> omega
theorem key_apply (j : S2x4096x8x128.Idx) : val_main_v4 (F := Ideal) x0 j = cell x0 (4096 * (j 0).val + (j 1).val) (5120 + 128 * (j 2).val + (j 3).val) := by
  rw [val_main_v4_apply, val_main_v3_apply, val_main_v0_apply]
  have h0 : (j 0).val < 2 := (j 0).isLt
  have h1 : (j 1).val < 4096 := (j 1).isLt
  have h2 : (j 2).val < 8 := (j 2).isLt
  have h3 : (j 3).val < 128 := (j 3).isLt
  refine eq_cell x0 _ _ _ ?_ ?_ <;> dsimp <;> omega
theorem value_apply (j : S2x4096x8x128.Idx) : val_main_v6 (F := Ideal) x0 j = cell x0 (4096 * (j 0).val + (j 1).val) (6144 + 128 * (j 2).val + (j 3).val) := by
  rw [val_main_v6_apply, val_main_v5_apply, val_main_v0_apply]
  have h0 : (j 0).val < 2 := (j 0).isLt
  have h1 : (j 1).val < 4096 := (j 1).isLt
  have h2 : (j 2).val < 8 := (j 2).isLt
  have h3 : (j 3).val < 128 := (j 3).isLt
  refine eq_cell x0 _ _ _ ?_ ?_ <;> dsimp <;> omega

theorem ofBits_sigma : Ideal.ofBits .f32 0x3DB504F3#32 = sigma := by
  simp [Ideal.ofBits, Ideal.ieee, sigma, -EReal.coe_mul]; norm_num

/-- The scores of the reference. -/
theorem score_apply (i : S2x8x4096x4096.Idx) :
    val_main_v12 (F := Ideal) x0 x1 i = scoreOf x0 x1 (i 0).val (i 1).val (i 2).val (i 3).val := by
  have h3 : (i 3).val < 4096 := (i 3).isLt
  have h1 : (i 1).val < 8 := (i 1).isLt
  rw [val_main_v12_apply, val_main_v10_apply, val_main_v9_apply, val_main_cst_apply, val_main_v8_apply, val_main_v11_apply, val_main_v7_apply, scoreOf]
  refine congrArg₂ (fun a b : EReal => a + b) (congrArg₂ (fun a b : EReal => a * b) (Finset.sum_congr rfl fun c _ => ?_) ofBits_sigma) ?_
  · rw [query_apply, key_apply, Nat.mod_eq_of_lt h3]
  · exact congrArg x1 (funext fun a => match a with | ⟨0, _⟩ => Fin.ext (Nat.mod_eq_of_lt h1).symm)

/-- The mask: a key counts before its query. -/
theorem mask_apply (i : S4096x4096.Idx) : val_main_v19 (F := Ideal) i = if (i 1).val < (i 0).val then 1#1 else 0#1 := by
  rw [val_main_v19_apply, val_main_v17_apply, val_main_v15_apply, val_main_v14_apply, val_main_v18_apply, val_main_v16_apply, val_main_v13_apply]
  exact slt_small _ _ (i 1).isLt (i 0).isLt

/-- The masked log shares. -/
theorem kept_apply (i : S2x8x4096x4096.Idx) :
    val_main_v22 (F := Ideal) x0 x1 i = kept (scoreOf x0 x1 (i 0).val (i 1).val (i 2).val) (i 2).val (i 3).val := by
  have hz : val_main_v21 (F := Ideal) x0 x1 i = keep (scoreOf x0 x1 (i 0).val (i 1).val (i 2).val (i 3).val) := by
    rw [← score_apply, ← neg_neg (val_main_v12 (F := Ideal) x0 x1 i)]
    exact softplus_neg _ _ _ _ Ideal.ofBits_zero_f32 Ideal.ofBits_zero_f32
  have h0 : val_main_call1_v2 (F := Ideal) i = 0 := Ideal.ofBits_zero_f32
  rw [val_main_v22_apply, hz, h0, val_main_call1_v1_apply, mask_apply, kept]
  show Scalar.select (if (i 3).val < (i 2).val then 1#1 else 0#1) _ _ = _
  split
  · rw [select_one]
  · rw [select_zero]

/-- The reference's weights are the formula's. -/
theorem weight_apply (i : S2x8x4096x4096.Idx) :
    val_main_v28 (F := Ideal) x0 x1 i = weight (scoreOf x0 x1 (i 0).val (i 1).val (i 2).val) (i 2).val 4096 (i 3).val := by
  have hs : val_main_v23 (F := Ideal) x0 x1 i = keep (-(scoreOf x0 x1 (i 0).val (i 1).val (i 2).val (i 3).val)) := by
    rw [← score_apply]
    exact softplus_neg _ _ _ _ Ideal.ofBits_zero_f32 Ideal.ofBits_zero_f32
  have hc : val_main_v24 (F := Ideal) x0 x1 i
      = ∑ s ∈ Finset.Ico (i 3).val 4096, kept (scoreOf x0 x1 (i 0).val (i 1).val (i 2).val) (i 2).val s := by
    unfold val_main_v24 Host.reduceWindowAdd
    rw [Ideal.hostReduceWindowAdd_def]
    exact sum_from _ _ Ideal.ofBits_zero_f32 _ i (fun s => kept (scoreOf x0 x1 (i 0).val (i 1).val (i 2).val) (i 2).val s)
      (fun s => kept_apply x0 x1 (ix4 (i 0) (i 1) (i 2) s))
  have h0 : val_main_call4_v2 (F := Ideal) i = 0 := Ideal.ofBits_zero_f32
  have hm : val_main_call4_v1 (F := Ideal) i = if (i 3).val < (i 2).val then 1#1 else 0#1 := by
    rw [val_main_call4_v1_apply, mask_apply]
  have he : val_main_v27 (F := Ideal) x0 x1 i = Ideal.exp (val_main_v23 (F := Ideal) x0 x1 i + val_main_v24 (F := Ideal) x0 x1 i - val_main_v22 (F := Ideal) x0 x1 i) := rfl
  rw [val_main_v28_apply, h0, hm, he, hs, hc, kept_apply, weight]
  split
  · rw [select_one]
  · rw [select_zero]

/-- The reference's result at an index. -/
theorem result_apply (i : S8192x1024.Idx) : val_main_v32 (F := Ideal) x0 x1 i = attend x0 x1 (i 0).val (i 1).val := by
  have h0 : (i 0).val < 8192 := (i 0).isLt
  have h1 : (i 1).val < 1024 := (i 1).isLt
  refine (show _ = val_main_v31 (F := Ideal) x0 x1 i from rfl).trans ?_
  rw [val_main_v31_apply, val_main_v30_apply, val_main_v29_apply, attend]
  refine Finset.sum_congr rfl fun s _ => ?_
  rw [value_apply, weight_apply]
  dsimp
  rw [show ((i 0).val * 1024 + (i 1).val) / 4194304 = (i 0).val / 4096 by omega,
    show ((i 0).val * 1024 + (i 1).val) / 1024 % 4096 = (i 0).val % 4096 by omega,
    show ((i 0).val * 1024 + (i 1).val) / 128 % 8 = (i 1).val / 128 by omega,
    show 6144 + 128 * ((i 1).val / 128) + ((i 0).val * 1024 + (i 1).val) % 128 = 6144 + (i 1).val by omega]

end Cert.ReferenceIdeal.Hand

end
-- ==== Proof.Ffn.Block.lean ====
/-
  One grid point of the convolutional feed-forward kernel, as functions of the blocks it is given: the two halves of the
  up projection, the three shifted views of a half that the convolution reads (its first rows from the rows before the
  tile), the accumulated down projection, and the last rows handed to the next tile.
-/
module

public import proofs.«01_k».proof.Proof.Gen.Kernel2Ideal.Skeleton
public import Idealize.ShloMosaic.Lib.WritesUnit
public import Idealize.ShloMosaic.Lib.Pipeline.ValueKit
public import Idealize.ShloMosaic.Lib.ValueLayout

@[expose] public section

set_option maxRecDepth 8192

noncomputable section

namespace Cert.Kernel2Ideal.Hand

open Idealize.ShloMosaic hiding ix1 ix2 ix3 ix4 eq_ix2 eq_ix3 eq_ix4
open Idealize.ShloMosaic.ValueIdx Idealize.ShloMosaic.TcCoe
open Cert.Kernel2Ideal.Gen

variable {F : FTy → Type} [FloatOps F]

/-- Whether the point is the first column block of its tile, as the body computes it. -/
abbrev rowOf (i : grid0.Coords) : BitVec 1 := Scalar.cmpi .ne (Scalar.extui (Scalar.cmpi .eq (BitVec.ofNat 32 (i 1).val) 0#32) : BitVec 32) 0#32
/-- Whether the point is the first of the grid, as the body computes it. -/
abbrev startOf (i : grid0.Coords) : BitVec 1 := Scalar.cmpi .ne (Scalar.extui (Scalar.andi (Scalar.cmpi .eq (BitVec.ofNat 32 (i 0).val) 0#32) (Scalar.cmpi .eq (BitVec.ofNat 32 (i 1).val) 0#32)) : BitVec 32) 0#32
/-- The tile's number within its sequence, as the body computes it. -/
abbrev tileOf (i : grid0.Coords) : BitVec 32 :=
  let r := Scalar.remsi (BitVec.ofNat 32 (i 0).val) 8#32
  Scalar.select (Scalar.andi (Scalar.xori (Scalar.cmpi .slt r 0#32) 0#1) (Scalar.cmpi .ne r 0#32)) (Scalar.addi r 8#32) r
/-- Whether the tile is the first of its sequence, as the body computes it. -/
abbrev headOf (i : grid0.Coords) : BitVec 1 := Scalar.cmpi .eq (tileOf i) 0#32

theorem row_iff : ∀ i : grid0.Coords, rowOf i = 1#1 ↔ (i 1).val = 0 := by decide +kernel
theorem start_iff : ∀ i : grid0.Coords, startOf i = 1#1 ↔ (i 0).val = 0 ∧ (i 1).val = 0 := by decide +kernel
theorem head_iff : ∀ i : grid0.Coords, headOf i = 1#1 ↔ (i 0).val % 8 = 0 := by decide +kernel
theorem last_iff : ∀ i : grid0.Coords, k0_cond3 i = 1#1 ↔ (i 1).val = 10 := by decide +kernel
theorem off1_eq : ∀ i : grid0.Coords, k0_off1 i = ![(i 1).val, 0, 0, 0] := by decide +kernel
theorem off2_eq : ∀ i : grid0.Coords, k0_off2 i = ![(i 1).val, 1, 0, 0] := by decide +kernel
theorem off3_eq : ∀ i : grid0.Coords, k0_off3 i = ![(i 1).val, 0, 0, 256] := by decide +kernel
theorem off4_eq : ∀ i : grid0.Coords, k0_off4 i = ![(i 1).val, 1, 0, 256] := by decide +kernel

/-- The up projection's left and right half of a column block. -/
def uLo (xb : Vec F S512x2048 .bf16) (w : Vec F S2048x512 .bf16) : FVec F S512x256 .f32 :=
  k0_pay6 xb (View.ld w (Rect.unit (s := S2048x512) ![0, 0] S2048x256.size inb_S2048x512_S2048x256_0_0))
def uHi (xb : Vec F S512x2048 .bf16) (w : Vec F S2048x512 .bf16) : FVec F S512x256 .f32 :=
  k0_pay8 xb (View.ld w (Rect.unit (s := S2048x512) ![0, 256] S2048x256.size inb_S2048x512_S2048x256_0_256))

/-- The last eight rows of a column block, from its two halves. -/
def tailOf (u₀ u₁ : FVec F S512x256 .f32) : Vec F S1x8x512 .f32 := fun y =>
  if h : (y 2).val < 256 then u₀ (ix2 (⟨504 + (y 1).val, by have : (y 1).val < 8 := (y 1).isLt; omega⟩ : Fin 512) (⟨(y 2).val, h⟩ : Fin 256))
  else u₁ (ix2 (⟨504 + (y 1).val, by have : (y 1).val < 8 := (y 1).isLt; omega⟩ : Fin 512) (⟨(y 2).val - 256, by have : (y 2).val < 512 := (y 2).isLt; omega⟩ : Fin 256))

theorem tailOf_lo (u₀ u₁ : FVec F S512x256 .f32) (r : Fin 8) (c : Fin 512) (h : c.val < 256) :
    tailOf u₀ u₁ (ix3 (0 : Fin 1) r c) = u₀ (ix2 (⟨504 + r.val, by omega⟩ : Fin 512) (⟨c.val, h⟩ : Fin 256)) := dif_pos h
theorem tailOf_hi (u₀ u₁ : FVec F S512x256 .f32) (r : Fin 8) (c : Fin 512) (h : ¬ c.val < 256) :
    tailOf u₀ u₁ (ix3 (0 : Fin 1) r c) = u₁ (ix2 (⟨504 + r.val, by omega⟩ : Fin 512) (⟨c.val - 256, by omega⟩ : Fin 256)) := dif_neg h

/-- The rows before a tile: the history block at the first tile of a sequence, what the tile before left otherwise. -/
def priorOf (i : grid0.Coords) (h : Vec F S1x8x512 .f32) (K : Vec F S11x2x8x512 .f32) (s : Fin 2) : Vec F S1x8x512 .f32 := fun y =>
  Scalar.select (headOf i) (h y) (K (ix4 (⟨(i 1).val, (i 1).isLt⟩ : Fin 11) s (⟨(y 1).val, (y 1).isLt⟩ : Fin 8) (⟨(y 2).val, (y 2).isLt⟩ : Fin 512)))

/-- The carried rows after a point: its block's rows are its tails. -/
def carryOf (i : grid0.Coords) (tg tv : Vec F S1x8x512 .f32) (K : Vec F S11x2x8x512 .f32) : Vec F S11x2x8x512 .f32 := fun y =>
  if (y 0).val = (i 1).val then
    (if (y 1).val = 0 then tg else tv) (ix3 (0 : Fin 1) (⟨(y 2).val, (y 2).isLt⟩ : Fin 8) (⟨(y 3).val, (y 3).isLt⟩ : Fin 512))
  else K y

/-- The half of the rows before a tile that starts at column `o`, as the body stores it. -/
def histOf (p : Vec F S1x8x512 .f32) (o : ℕ) (ho : o ≤ 256) : FVec F S1x1x8x256 .f32 := fun y =>
  p (ix3 (0 : Fin 1) (⟨(y 2).val, (y 2).isLt⟩ : Fin 8) (⟨o + (y 3).val, by have : (y 3).val < 256 := (y 3).isLt; omega⟩ : Fin 512))

/-- A half of the up projection, as the body stores it. -/
def rowsOf (u : FVec F S512x256 .f32) : FVec F S1x1x512x256 .f32 := fun y =>
  u (ix2 (⟨(y 2).val, (y 2).isLt⟩ : Fin 512) (⟨(y 3).val, (y 3).isLt⟩ : Fin 256))

/-- The rows from `o` on of eight rows followed by a half. -/
def tapOf (o : ℕ) (ho : o ≤ 8) (H : FVec F S1x1x8x256 .f32) (U : FVec F S1x1x512x256 .f32) : FVec F S1x1x512x256 .f32 := fun y =>
  if h : (y 2).val + o < 8 then H (ix4 (0 : Fin 1) (0 : Fin 1) (⟨(y 2).val + o, h⟩ : Fin 8) (⟨(y 3).val, (y 3).isLt⟩ : Fin 256))
  else U (ix4 (0 : Fin 1) (0 : Fin 1) (⟨(y 2).val + o - 8, by have : (y 2).val < 512 := (y 2).isLt; omega⟩ : Fin 512) (⟨(y 3).val, (y 3).isLt⟩ : Fin 256))

/-- The view of a half that tap `o - 6` of the convolution reads. -/
abbrev tap (o : ℕ) (ho : o ≤ 8) (p : Vec F S1x8x512 .f32) (c : ℕ) (hc : c ≤ 256) (u : FVec F S512x256 .f32) : FVec F S1x1x512x256 .f32 :=
  tapOf o ho (histOf p c hc) (rowsOf u)

/-- The accumulator after a point. -/
def accOf (xb : Vec F S512x2048 .bf16) (wg wv : Vec F S2048x512 .bf16) (cwg cwv : Vec F S3x512 .f32) (cbg cbv : Vec F S1x512 .f32)
    (pg pv : Vec F S1x8x512 .f32) (wd : Vec F S512x2048 .bf16) (acc : Vec F S512x2048 .f32) : FVec F S512x2048 .f32 :=
  k0_pay1 (k0_pay41
    (k0_pay25
      (k0_pay16
        (k0_pay15 (tap 6 (by decide) pg 0 (by decide) (uLo xb wg)) (View.ld cwg (Rect.unit (s := S3x512) ![0, 0] S1x256.size inb_S3x512_S1x256_0_0)))
        (tap 7 (by decide) pg 0 (by decide) (uLo xb wg)) (View.ld cwg (Rect.unit (s := S3x512) ![1, 0] S1x256.size inb_S3x512_S1x256_1_0))
        (tap 8 (by decide) pg 0 (by decide) (uLo xb wg)) (View.ld cwg (Rect.unit (s := S3x512) ![2, 0] S1x256.size inb_S3x512_S1x256_2_0))
        (View.ld cbg (Rect.unit (s := S1x512) ![0, 0] S1x256.size inb_S1x512_S1x256_0_0)))
      (k0_pay23 (tap 6 (by decide) pv 0 (by decide) (uLo xb wv)) (View.ld cwv (Rect.unit (s := S3x512) ![0, 0] S1x256.size inb_S3x512_S1x256_0_0))
        (tap 7 (by decide) pv 0 (by decide) (uLo xb wv)) (View.ld cwv (Rect.unit (s := S3x512) ![1, 0] S1x256.size inb_S3x512_S1x256_1_0)))
      (k0_pay24 (tap 8 (by decide) pv 0 (by decide) (uLo xb wv)) (View.ld cwv (Rect.unit (s := S3x512) ![2, 0] S1x256.size inb_S3x512_S1x256_2_0)))
      (View.ld cbv (Rect.unit (s := S1x512) ![0, 0] S1x256.size inb_S1x512_S1x256_0_0))
      (View.ld wd (Rect.unit (s := S512x2048) ![0, 0] S256x2048.size inb_S512x2048_S256x2048_0_0)))
    (k0_pay34
      (k0_pay32 (tap 6 (by decide) pg 256 (by decide) (uHi xb wg)) (View.ld cwg (Rect.unit (s := S3x512) ![0, 256] S1x256.size inb_S3x512_S1x256_0_256))
        (tap 7 (by decide) pg 256 (by decide) (uHi xb wg)) (View.ld cwg (Rect.unit (s := S3x512) ![1, 256] S1x256.size inb_S3x512_S1x256_1_256))
        (tap 8 (by decide) pg 256 (by decide) (uHi xb wg)) (View.ld cwg (Rect.unit (s := S3x512) ![2, 256] S1x256.size inb_S3x512_S1x256_2_256)))
      (k0_pay33 (View.ld cbg (Rect.unit (s := S1x512) ![0, 256] S1x256.size inb_S1x512_S1x256_0_256))))
    (k0_pay40 (tap 6 (by decide) pv 256 (by decide) (uHi xb wv)) (View.ld cwv (Rect.unit (s := S3x512) ![0, 256] S1x256.size inb_S3x512_S1x256_0_256)))
    (tap 7 (by decide) pv 256 (by decide) (uHi xb wv)) (View.ld cwv (Rect.unit (s := S3x512) ![1, 256] S1x256.size inb_S3x512_S1x256_1_256))
    (tap 8 (by decide) pv 256 (by decide) (uHi xb wv)) (View.ld cwv (Rect.unit (s := S3x512) ![2, 256] S1x256.size inb_S3x512_S1x256_2_256))
    (View.ld cbv (Rect.unit (s := S1x512) ![0, 256] S1x256.size inb_S1x512_S1x256_0_256))
    (View.ld wd (Rect.unit (s := S512x2048) ![256, 0] S256x2048.size inb_S512x2048_S256x2048_256_0))
    acc)

/-- The rounded rows, the accumulator and the carried rows as a point uses them: made afresh at the first column block,
    and, for the carried rows, at the first point. -/
def xbOf (i : grid0.Coords) (x : Vec F S512x2048 .f32) (xb : Vec F S512x2048 .bf16) : Vec F S512x2048 .bf16 := if rowOf i = 1#1 then k0_pay3 x else xb
def zeroOf (i : grid0.Coords) (acc : Vec F S512x2048 .f32) : Vec F S512x2048 .f32 := if rowOf i = 1#1 then k0_pay4 else acc
def keptOf (i : grid0.Coords) (K : Vec F S11x2x8x512 .f32) : Vec F S11x2x8x512 .f32 := if startOf i = 1#1 then k0_pay5 else K

/-! ## What the body's stores and loads hold -/

/-- An index of a shape of one row, by its coordinates. -/
theorem at3 {n m : ℕ} (y : (⟨3, ![1, n, m]⟩ : Shape).Idx) : y = ix3 (0 : Fin 1) (⟨(y 1).val, (y 1).isLt⟩ : Fin n) (⟨(y 2).val, (y 2).isLt⟩ : Fin m) := by
  have h0 : (y 0).val < 1 := (y 0).isLt
  funext a; fin_cases a
  · exact Fin.ext (by change (y 0).val = 0; omega)
  · rfl
  · rfl
theorem at4 {n m : ℕ} (y : (⟨4, ![1, 1, n, m]⟩ : Shape).Idx) : y = ix4 (0 : Fin 1) (0 : Fin 1) (⟨(y 2).val, (y 2).isLt⟩ : Fin n) (⟨(y 3).val, (y 3).isLt⟩ : Fin m) := by
  have h0 : (y 0).val < 1 := (y 0).isLt
  have h1 : (y 1).val < 1 := (y 1).isLt
  funext a; fin_cases a
  · exact Fin.ext (by change (y 0).val = 0; omega)
  · exact Fin.ext (by change (y 1).val = 0; omega)
  · rfl
  · rfl

/-- Two leading unit axes added to, and dropped from, a matrix. -/
theorem cast_add2 {n m : ℕ} {α : Type} (x : (⟨2, ![n, m]⟩ : Shape).Idx → α) (h : (⟨2, ![n, m]⟩ : Shape).ShapeCasts ⟨4, ![1, 1, n, m]⟩) (y : (⟨4, ![1, 1, n, m]⟩ : Shape).Idx) :
    shapeCast ⟨4, ![1, 1, n, m]⟩ x h y = x (ix2 (⟨(y 2).val, (y 2).isLt⟩ : Fin n) (⟨(y 3).val, (y 3).isLt⟩ : Fin m)) := by
  have h0 : (y 0).val = 0 := by have : (y 0).val < 1 := (y 0).isLt; omega
  have h1 : (y 1).val = 0 := by have : (y 1).val < 1 := (y 1).isLt; omega
  refine shapeCast_apply x h _ _ ?_
  rw [Shape.rowMajor_val_four, Shape.rowMajor_val_two]
  change (y 2).val * m + (y 3).val = (((y 0).val * 1 + (y 1).val) * n + (y 2).val) * m + (y 3).val
  rw [h0, h1]; simp
theorem cast_drop2 {n m : ℕ} {α : Type} (x : (⟨4, ![1, 1, n, m]⟩ : Shape).Idx → α) (h : (⟨4, ![1, 1, n, m]⟩ : Shape).ShapeCasts ⟨2, ![n, m]⟩) (r : Fin n) (c : Fin m) :
    shapeCast ⟨2, ![n, m]⟩ x h (ix2 r c) = x (ix4 (0 : Fin 1) (0 : Fin 1) r c) := by
  refine shapeCast_apply x h _ _ ?_
  rw [Shape.rowMajor_val_four, Shape.rowMajor_val_two]
  change ((0 * 1 + 0) * n + r.val) * m + c.val = r.val * m + c.val
  simp

/-- The last rows of a half, as the carried rows hold them and as the output holds them. -/
theorem tail4 (u : FVec F S512x256 .f32) (y : S1x1x8x256.Idx) :
    k0_pay11 u y = u (ix2 (⟨504 + (y 2).val, by have : (y 2).val < 8 := (y 2).isLt; omega⟩ : Fin 512) (⟨(y 3).val, (y 3).isLt⟩ : Fin 256)) := by
  refine (cast_add2 (k0_pay10 u) shapeCasts_S8x256_S1x1x8x256 y).trans ?_
  exact extractStridedSlice_apply _ u slices_S512x256_o504_0_S8x256 _ _ fun a => match a with
    | ⟨0, _⟩ => rfl
    | ⟨1, _⟩ => (Nat.zero_add _).symm
theorem tail3 (u : FVec F S512x256 .f32) (y : S1x8x256.Idx) :
    k0_pay12 u y = u (ix2 (⟨504 + (y 1).val, by have : (y 1).val < 8 := (y 1).isLt; omega⟩ : Fin 512) (⟨(y 2).val, (y 2).isLt⟩ : Fin 256)) := by
  refine (congrArg (k0_pay12 u) (at3 y)).trans ?_
  refine (shapeCast_ab_1ab_apply (k0_pay10 u) shapeCasts_S8x256_S1x8x256 0 _ _).trans ?_
  exact extractStridedSlice_apply _ u slices_S512x256_o504_0_S8x256 _ _ fun a => match a with
    | ⟨0, _⟩ => rfl
    | ⟨1, _⟩ => (Nat.zero_add _).symm

/-- A half as it is stored. -/
theorem rows_eq (u : FVec F S512x256 .f32) : k0_pay14 u = rowsOf u := by
  funext y
  unfold k0_pay14
  rw [shapeCast_comp]
  exact cast_add2 (n := 512) (m := 256) u _ y

/-- The rows before a tile as they are stored. -/
theorem prior_eq (i : grid0.Coords) (s : Fin 2) (o : ℕ) (ho : o ≤ 256) (h : Vec F S1x8x512 .f32) (K : Vec F S11x2x8x512 .f32)
    (off : Fin 4 → ℕ) (hoff : off = ![(i 1).val, s.val, 0, o]) (inbK : ∀ a, off a + S1x1x8x256.size a ≤ S11x2x8x512.size a)
    (inbh : ∀ a, (![0, 0, o] : Fin 3 → ℕ) a + S1x8x256.size a ≤ S1x8x512.size a)
    (a : Vec F S1x8x256 .f32) (b : Vec F S1x1x8x256 .f32)
    (ha : a = View.ld h (Rect.unit (s := S1x8x512) ![0, 0, o] S1x8x256.size inbh)) (hb : b = View.ld K (Rect.unit (s := S11x2x8x512) off S1x1x8x256.size inbK)) :
    k0_pay13 (tileOf i) a b = histOf (priorOf i h K s) o ho := by
  subst ha hb hoff
  funext y
  refine (cast_add2 _ shapeCasts_S8x256_S1x1x8x256 y).trans ?_
  unfold histOf priorOf
  have e1 : ∀ (A B : FVec F S8x256 .f32) (q : S8x256.Idx), (Scalar.select (headOf i) A B) q = Scalar.select (headOf i) (A q) (B q) := by
    intro A B q; unfold Scalar.select; split <;> rfl
  refine (e1 _ _ _).trans ?_
  congr 1
  · refine (shapeCast_1ab_ab_apply _ shapeCasts_S1x8x256_S8x256 _ _).trans ?_
    refine congrArg h (funext fun d => Fin.ext ?_)
    fin_cases d
    · rfl
    · change 0 + 1 * (y 2).val = (y 2).val; omega
    · change o + 1 * (y 3).val = o + (y 3).val; omega
  · refine (cast_drop2 _ shapeCasts_S1x1x8x256_S8x256 _ _).trans ?_
    refine congrArg K (funext fun d => Fin.ext ?_)
    fin_cases d
    · rfl
    · rfl
    · change 0 + 1 * (y 2).val = (y 2).val; omega
    · change o + 1 * (y 3).val = o + (y 3).val; omega

/-- A load of rows `o …` of a half's strip, after the rows before the tile and the half were stored in it. -/
theorem tap_load (M : Memref sig .tc .vmem S2x1x520x512 .f32) (L : List (View.Piece (Elt F) S2x1x520x512 .f32)) (s o c : ℕ) (ho : o ≤ 8) (hc : c ≤ 256)
    (iU : ∀ a, (![s, 0, 8, c] : Fin 4 → ℕ) a + S1x1x512x256.size a ≤ S2x1x520x512.size a)
    (iH : ∀ a, (![s, 0, 0, c] : Fin 4 → ℕ) a + S1x1x8x256.size a ≤ S2x1x520x512.size a)
    (iL : ∀ a, (![s, 0, o, c] : Fin 4 → ℕ) a + S1x1x512x256.size a ≤ S2x1x520x512.size a)
    (U : FVec F S1x1x512x256 .f32) (H : FVec F S1x1x8x256 .f32) (u : FVec F S512x256 .f32) (p : Vec F S1x8x512 .f32)
    (hU : U = rowsOf u) (hH : H = histOf p c hc) :
    M.view.readCov (Val := Elt F) ((⟨Rect.unit (s := S2x1x520x512) ![s, 0, 8, c] S1x1x512x256.size iU, U⟩ : View.Piece (Elt F) S2x1x520x512 .f32)
        :: (⟨Rect.unit (s := S2x1x520x512) ![s, 0, 0, c] S1x1x8x256.size iH, H⟩ : View.Piece (Elt F) S2x1x520x512 .f32) :: L)
      (Rect.unit (s := S2x1x520x512) ![s, 0, o, c] S1x1x512x256.size iL).toLoadRect = tap o ho p c hc u := by
  subst hU hH
  funext y
  have h0 : (y 0).val = 0 := by have : (y 0).val < 1 := (y 0).isLt; omega
  have h1 : (y 1).val = 0 := by have : (y 1).val < 1 := (y 1).isLt; omega
  have h2 : (y 2).val < 512 := (y 2).isLt
  have v : ∀ a, ((Rect.unit (s := S2x1x520x512) ![s, 0, o, c] S1x1x512x256.size iL).idx y a).val = (![s, 0, o, c] : Fin 4 → ℕ) a + (y a).val :=
    fun a => Rect.idx_unit_val (s := S2x1x520x512) _ _ iL y a
  change M.view.read (Elt F) (M.view.writes (Elt F) M.view.junk _) ((Rect.unit (s := S2x1x520x512) ![s, 0, o, c] S1x1x512x256.size iL).idx y) = _
  unfold tap tapOf
  by_cases h : (y 2).val + o < 8
  · rw [dif_pos h]
    refine (View.read_writes_cons_unit_of_not_mem M.view _ iU _ _ _ rfl 2 (Or.inl ?_)).trans ?_
    · rw [v 2]; change o + (y 2).val < 8; omega
    refine View.read_writes_cons_unit_of_mem M.view _ iH _ _ _ (ix4 (0 : Fin 1) (0 : Fin 1) (⟨(y 2).val + o, h⟩ : Fin 8) (⟨(y 3).val, (y 3).isLt⟩ : Fin 256)) rfl fun a => ?_
    rw [v a]
    fin_cases a
    · change s + (y 0).val = s + 0; omega
    · change 0 + (y 1).val = 0 + 0; omega
    · change o + (y 2).val = 0 + ((y 2).val + o); omega
    · rfl
  · rw [dif_neg h]
    refine View.read_writes_cons_unit_of_mem M.view _ iU _ _ _ (ix4 (0 : Fin 1) (0 : Fin 1) (⟨(y 2).val + o - 8, by omega⟩ : Fin 512) (⟨(y 3).val, (y 3).isLt⟩ : Fin 256)) rfl fun a => ?_
    rw [v a]
    fin_cases a
    · change s + (y 0).val = s + 0; omega
    · change 0 + (y 1).val = 0 + 0; omega
    · change o + (y 2).val = 8 + ((y 2).val + o - 8); omega
    · rfl

end Cert.Kernel2Ideal.Hand
-- ==== Proof.Ffn.Body.lean ====
/-
  The feed-forward kernel's body at a grid point, all its cases at once: what each buffer holds after it.
-/
module

public import proofs.«01_k».proof.Proof.Ffn.Block
public import proofs.«01_k».proof.Proof.Gen.Kernel2Ideal.Frame

@[expose] public section

set_option maxRecDepth 8192

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F]

local notation "𝕄" => MT nD τ sig Unit (Elt F) ℕ (UR sig nD τ) ℕ

/-- A load of a whole matrix buffer reads what it holds; and, read back, a store of all of it is the payload. -/
theorem load_whole {n m : ℕ} {e : EltTy} (M : Memref sig .tc .vmem ⟨2, ![n, m]⟩ e) (f : BufTy.Contents (Elt F) M.view.ty)
    (inb : ∀ a, (![0, 0] : Fin 2 → ℕ) a + (⟨2, ![n, m]⟩ : Shape).size a ≤ (⟨2, ![n, m]⟩ : Shape).size a) :
    View.readAt (Elt F) M.view (Rect.unit (s := ⟨2, ![n, m]⟩) ![0, 0] (⟨2, ![n, m]⟩ : Shape).size inb).toLoadRect f = View.read (Elt F) M.view f := by
  have hz : (![0, 0] : Fin 2 → ℕ) = fun _ => 0 := by funext a; fin_cases a <;> rfl
  exact View.ld_unit_zero (S := ⟨2, ![n, m]⟩) hz _ _
theorem stored_whole {n m : ℕ} {e : EltTy} (M : Memref sig .tc .vmem ⟨2, ![n, m]⟩ e) (f : BufTy.Contents (Elt F) M.view.ty)
    (inb : ∀ a, (![0, 0] : Fin 2 → ℕ) a + (⟨2, ![n, m]⟩ : Shape).size a ≤ (⟨2, ![n, m]⟩ : Shape).size a) (x : Vec F ⟨2, ![n, m]⟩ e) :
    View.read (Elt F) M.view (M.view.writes (Elt F) f [⟨Rect.unit (s := ⟨2, ![n, m]⟩) ![0, 0] (⟨2, ![n, m]⟩ : Shape).size inb, x⟩]) = x := by
  funext y
  refine View.read_writes_cons_unit_of_mem M.view f inb x [] y y rfl fun a => ?_
  fin_cases a
  · exact (Nat.zero_add _).symm
  · exact (Nat.zero_add _).symm

/-- What a buffer reads after a store made under a condition. -/
theorem stored_if {n m : ℕ} {e : EltTy} {p : Prop} [Decidable p] (M : Memref sig .tc .vmem ⟨2, ![n, m]⟩ e) (f : BufTy.Contents (Elt F) M.view.ty)
    (inb : ∀ a, (![0, 0] : Fin 2 → ℕ) a + (⟨2, ![n, m]⟩ : Shape).size a ≤ (⟨2, ![n, m]⟩ : Shape).size a) (x y z : Vec F ⟨2, ![n, m]⟩ e) (hx : x = y)
    (hz : View.read (Elt F) M.view f = z) :
    View.read (Elt F) M.view (if _ : p then M.view.writes (Elt F) f [⟨Rect.unit (s := ⟨2, ![n, m]⟩) ![0, 0] (⟨2, ![n, m]⟩ : Shape).size inb, x⟩] else f) = if p then y else z := by
  subst hx hz
  split
  · exact stored_whole M f inb x
  · rfl

/-- The carried rows, zeroed at the grid's first point. -/
theorem stored_carry {p : Prop} [Decidable p] (M : Memref sig .tc .vmem S11x2x8x512 .f32) (f : BufTy.Contents (Elt F) M.view.ty) (x : Vec F S11x2x8x512 .f32) :
    View.read (Elt F) M.view (if _ : p then M.view.writes (Elt F) f [⟨Rect.unit (s := S11x2x8x512) ![0, 0, 0, 0] S11x2x8x512.size inb_S11x2x8x512_S11x2x8x512_0_0_0_0, x⟩] else f)
      = if p then x else View.read (Elt F) M.view f := by
  split
  · funext y
    refine View.read_writes_cons_unit_of_mem M.view f _ x [] y y rfl fun a => ?_
    fin_cases a <;> exact (Nat.zero_add _).symm
  · rfl

/-- The output of last rows, after its two halves are stored. -/
theorem stored_tail (M : Memref sig .tc .vmem S1x8x512 .f32) (f : BufTy.Contents (Elt F) M.view.ty) (u₀ u₁ : FVec F S512x256 .f32) :
    View.read (Elt F) M.view (M.view.writes (Elt F) f
      [⟨Rect.unit (s := S1x8x512) ![0, 0, 256] S1x8x256.size inb_S1x8x512_S1x8x256_0_0_256, k0_pay12 u₁⟩,
        ⟨Rect.unit (s := S1x8x512) ![0, 0, 0] S1x8x256.size inb_S1x8x512_S1x8x256_0_0_0, k0_pay12 u₀⟩]) = tailOf u₀ u₁ := by
  funext y
  have b0 : (y 0).val < 1 := (y 0).isLt
  have b2 : (y 2).val < 512 := (y 2).isLt
  unfold tailOf
  by_cases h : (y 2).val < 256
  · rw [dif_pos h]
    refine (View.read_writes_cons_unit_of_not_mem M.view f _ _ _ _ rfl 2 (Or.inl h)).trans ?_
    refine (View.read_writes_cons_unit_of_mem M.view f _ _ _ _ (ValueIdx.ix3 (0 : Fin 1) (⟨(y 1).val, (y 1).isLt⟩ : Fin 8) (⟨(y 2).val, h⟩ : Fin 256)) rfl fun a => ?_).trans (tail3 u₀ _)
    fin_cases a
    · change (y 0).val = 0 + 0; omega
    · exact (Nat.zero_add _).symm
    · exact (Nat.zero_add _).symm
  · rw [dif_neg h]
    refine (View.read_writes_cons_unit_of_mem M.view f _ _ _ _ (ValueIdx.ix3 (0 : Fin 1) (⟨(y 1).val, (y 1).isLt⟩ : Fin 8) (⟨(y 2).val - 256, by omega⟩ : Fin 256)) rfl fun a => ?_).trans (tail3 u₁ _)
    fin_cases a
    · change (y 0).val = 0 + 0; omega
    · exact (Nat.zero_add _).symm
    · change (y 2).val = 256 + ((y 2).val - 256); omega

/-- The carried rows, after a point's four stores. -/
theorem stored_rows (i : grid0.Coords) (M : Memref sig .tc .vmem S11x2x8x512 .f32) (f : BufTy.Contents (Elt F) M.view.ty) (K : Vec F S11x2x8x512 .f32)
    (hK : View.read (Elt F) M.view f = K) (g₀ g₁ v₀ v₁ : FVec F S512x256 .f32) :
    View.read (Elt F) M.view (M.view.writes (Elt F) f
      [⟨Rect.unit (s := S11x2x8x512) (k0_off4 i) S1x1x8x256.size (k0_off4_inb i), k0_pay11 v₁⟩,
        ⟨Rect.unit (s := S11x2x8x512) (k0_off3 i) S1x1x8x256.size (k0_off3_inb i), k0_pay11 g₁⟩,
        ⟨Rect.unit (s := S11x2x8x512) (k0_off2 i) S1x1x8x256.size (k0_off2_inb i), k0_pay11 v₀⟩,
        ⟨Rect.unit (s := S11x2x8x512) (k0_off1 i) S1x1x8x256.size (k0_off1_inb i), k0_pay11 g₀⟩]) = carryOf i (tailOf g₀ g₁) (tailOf v₀ v₁) K := by
  subst hK
  funext y
  have b1 : (y 1).val < 2 := (y 1).isLt
  have b3 : (y 3).val < 512 := (y 3).isLt
  unfold carryOf
  by_cases h0 : (y 0).val = (i 1).val
  · rw [if_pos h0]
    by_cases h1 : (y 1).val = 0
    · rw [if_pos h1]
      refine (View.read_writes_cons_unit_of_not_mem M.view f _ _ _ _ (off4_eq i) 1 (Or.inl (by change (y 1).val < 1; omega))).trans ?_
      by_cases h3 : (y 3).val < 256
      · refine (View.read_writes_cons_unit_of_not_mem M.view f _ _ _ _ (off3_eq i) 3 (Or.inl h3)).trans ?_
        refine (View.read_writes_cons_unit_of_not_mem M.view f _ _ _ _ (off2_eq i) 1 (Or.inl (by change (y 1).val < 1; omega))).trans ?_
        refine (View.read_writes_cons_unit_of_mem M.view f _ _ _ _ (ValueIdx.ix4 (0 : Fin 1) (0 : Fin 1) (⟨(y 2).val, (y 2).isLt⟩ : Fin 8) (⟨(y 3).val, h3⟩ : Fin 256)) (off1_eq i) fun a => ?_).trans ?_
        · fin_cases a
          · exact h0
          · change (y 1).val = 0 + 0; omega
          · exact (Nat.zero_add _).symm
          · exact (Nat.zero_add _).symm
        · exact (tail4 g₀ _).trans (tailOf_lo g₀ g₁ _ _ h3).symm
      · refine (View.read_writes_cons_unit_of_mem M.view f _ _ _ _ (ValueIdx.ix4 (0 : Fin 1) (0 : Fin 1) (⟨(y 2).val, (y 2).isLt⟩ : Fin 8) (⟨(y 3).val - 256, by omega⟩ : Fin 256)) (off3_eq i) fun a => ?_).trans ?_
        · fin_cases a
          · exact h0
          · change (y 1).val = 0 + 0; omega
          · exact (Nat.zero_add _).symm
          · change (y 3).val = 256 + ((y 3).val - 256); omega
        · exact (tail4 g₁ _).trans (tailOf_hi g₀ g₁ _ _ h3).symm
    · rw [if_neg h1]
      by_cases h3 : (y 3).val < 256
      · refine (View.read_writes_cons_unit_of_not_mem M.view f _ _ _ _ (off4_eq i) 3 (Or.inl h3)).trans ?_
        refine (View.read_writes_cons_unit_of_not_mem M.view f _ _ _ _ (off3_eq i) 3 (Or.inl h3)).trans ?_
        refine (View.read_writes_cons_unit_of_mem M.view f _ _ _ _ (ValueIdx.ix4 (0 : Fin 1) (0 : Fin 1) (⟨(y 2).val, (y 2).isLt⟩ : Fin 8) (⟨(y 3).val, h3⟩ : Fin 256)) (off2_eq i) fun a => ?_).trans ?_
        · fin_cases a
          · exact h0
          · change (y 1).val = 1 + 0; omega
          · exact (Nat.zero_add _).symm
          · exact (Nat.zero_add _).symm
        · exact (tail4 v₀ _).trans (tailOf_lo v₀ v₁ _ _ h3).symm
      · refine (View.read_writes_cons_unit_of_mem M.view f _ _ _ _ (ValueIdx.ix4 (0 : Fin 1) (0 : Fin 1) (⟨(y 2).val, (y 2).isLt⟩ : Fin 8) (⟨(y 3).val - 256, by omega⟩ : Fin 256)) (off4_eq i) fun a => ?_).trans ?_
        · fin_cases a
          · exact h0
          · change (y 1).val = 1 + 0; omega
          · exact (Nat.zero_add _).symm
          · change (y 3).val = 256 + ((y 3).val - 256); omega
        · exact (tail4 v₁ _).trans (tailOf_hi v₀ v₁ _ _ h3).symm
  · rw [if_neg h0]
    have hm : (y 0).val < (i 1).val ∨ (i 1).val + 1 ≤ (y 0).val := by omega
    refine (View.read_writes_cons_unit_of_not_mem M.view f _ _ _ _ (off4_eq i) 0 hm).trans ?_
    refine (View.read_writes_cons_unit_of_not_mem M.view f _ _ _ _ (off3_eq i) 0 hm).trans ?_
    refine (View.read_writes_cons_unit_of_not_mem M.view f _ _ _ _ (off2_eq i) 0 hm).trans ?_
    exact View.read_writes_cons_unit_of_not_mem M.view f _ _ _ _ (off1_eq i) 0 hm

/-- Payloads of equal text. -/
theorem pay7_eq (x : Vec F S512x2048 .bf16) (w : Vec F S2048x256 .bf16) : k0_pay7 x w = k0_pay6 x w := rfl
theorem pay9_eq (x : Vec F S512x2048 .bf16) (w : Vec F S2048x256 .bf16) : k0_pay9 x w = k0_pay8 x w := rfl
theorem pay19_eq (u : FVec F S512x256 .f32) : k0_pay19 u = k0_pay11 u := rfl
theorem pay28_eq (u : FVec F S512x256 .f32) : k0_pay28 u = k0_pay11 u := rfl
theorem pay36_eq (u : FVec F S512x256 .f32) : k0_pay36 u = k0_pay11 u := rfl
theorem pay20_eq (u : FVec F S512x256 .f32) : k0_pay20 (k0_pay18 u) = k0_pay12 u := rfl
theorem pay29_eq (u : FVec F S512x256 .f32) : k0_pay29 u = k0_pay12 u := rfl
theorem pay37_eq (u : FVec F S512x256 .f32) : k0_pay37 u = k0_pay12 u := rfl
theorem pay22_eq (u : FVec F S512x256 .f32) : k0_pay22 u = rowsOf u := rows_eq u
theorem pay31_eq (u : FVec F S512x256 .f32) : k0_pay31 u = rowsOf u := rows_eq u
theorem pay39_eq (u : FVec F S512x256 .f32) : k0_pay39 u = rowsOf u := rows_eq u
theorem pay21_eq (i : grid0.Coords) (h : Vec F S1x8x256 .f32) (k : Vec F S1x1x8x256 .f32) : k0_pay21 (k0_pay17 (headOf i) h k) = k0_pay13 (tileOf i) h k := rfl
theorem pay30_eq (i : grid0.Coords) (h : Vec F S1x8x256 .f32) (k : Vec F S1x1x8x256 .f32) : k0_pay30 (k0_pay26 (headOf i) h k) = k0_pay13 (tileOf i) h k := rfl
theorem pay38_eq (i : grid0.Coords) (h : Vec F S1x8x256 .f32) (k : Vec F S1x1x8x256 .f32) : k0_pay38 (headOf i) h k = k0_pay13 (tileOf i) h k := rfl

set_option maxHeartbeats 2000000 in
/-- The body at a point. -/
theorem runB (i : grid0.Coords)
    (x : Vec F S512x2048 .f32) (wg : Vec F S2048x512 .bf16) (wv : Vec F S2048x512 .bf16) (cwg : Vec F S3x512 .f32) (cwv : Vec F S3x512 .f32) (cbg : Vec F S1x512 .f32) (cbv : Vec F S1x512 .f32) (hg : Vec F S1x8x512 .f32) (hv : Vec F S1x8x512 .f32) (wd : Vec F S512x2048 .bf16) (g : Vec F S1x2048 .f32) (b : Vec F S1x2048 .f32)
    (y : Vec F S512x2048 .f32) (xb : Vec F S512x2048 .bf16) (acc : Vec F S512x2048 .f32) (K : Vec F S11x2x8x512 .f32)
    (c : Dev nD) (E : Set ℕ) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x8x512 .f32) (harg9 : arg9.IsWhole) (arg10 : Memref sig .tc .vmem S1x8x512 .f32) (harg10 : arg10.IsWhole) (arg11 : Memref sig .tc .vmem S512x2048 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S512x2048 .f32) (harg14 : arg14.IsWhole) (arg15 : Memref sig .tc .vmem S1x8x512 .f32) (harg15 : arg15.IsWhole) (arg16 : Memref sig .tc .vmem S1x8x512 .f32) (harg16 : arg16.IsWhole) (arg17 : Memref sig .tc .vmem S512x2048 .bf16) (harg17 : arg17.IsWhole) (arg18 : Memref sig .tc .vmem S512x2048 .f32) (harg18 : arg18.IsWhole) (arg19 : Memref sig .tc .vmem S2x1x520x512 .f32) (harg19 : arg19.IsWhole) (arg20 : Memref sig .tc .vmem S11x2x8x512 .f32) (harg20 : arg20.IsWhole)
    (Q : PUnit → sProp 𝕄) :
    iprop(owns (c : Thread nD τ) arg2 fullShare x ∗ owns (c : Thread nD τ) arg3 fullShare wg ∗ owns (c : Thread nD τ) arg4 fullShare wv ∗ owns (c : Thread nD τ) arg5 fullShare cwg ∗ owns (c : Thread nD τ) arg6 fullShare cwv ∗ owns (c : Thread nD τ) arg7 fullShare cbg ∗ owns (c : Thread nD τ) arg8 fullShare cbv ∗ owns (c : Thread nD τ) arg9 fullShare hg ∗ owns (c : Thread nD τ) arg10 fullShare hv ∗ owns (c : Thread nD τ) arg11 fullShare wd ∗ owns (c : Thread nD τ) arg12 fullShare g ∗ owns (c : Thread nD τ) arg13 fullShare b ∗ owns (c : Thread nD τ) arg14 fullShare y ∗ (∃ d, owns (c : Thread nD τ) arg15 fullShare d) ∗ (∃ d, owns (c : Thread nD τ) arg16 fullShare d)
        ∗ owns (c : Thread nD τ) arg17 fullShare xb ∗ owns (c : Thread nD τ) arg18 fullShare acc ∗ (∃ d, owns (c : Thread nD τ) arg19 fullShare d) ∗ owns (c : Thread nD τ) arg20 fullShare K
        ∗ (iprop(owns (c : Thread nD τ) arg2 fullShare x ∗ owns (c : Thread nD τ) arg3 fullShare wg ∗ owns (c : Thread nD τ) arg4 fullShare wv ∗ owns (c : Thread nD τ) arg5 fullShare cwg ∗ owns (c : Thread nD τ) arg6 fullShare cwv ∗ owns (c : Thread nD τ) arg7 fullShare cbg ∗ owns (c : Thread nD τ) arg8 fullShare cbv ∗ owns (c : Thread nD τ) arg9 fullShare hg ∗ owns (c : Thread nD τ) arg10 fullShare hv ∗ owns (c : Thread nD τ) arg11 fullShare wd ∗ owns (c : Thread nD τ) arg12 fullShare g ∗ owns (c : Thread nD τ) arg13 fullShare b
        ∗ owns (c : Thread nD τ) arg14 fullShare (if k0_cond3 i = 1#1 then k0_pay2 x (accOf (xbOf i x xb) wg wv cwg cwv cbg cbv (priorOf i hg (keptOf i K) 0) (priorOf i hv (keptOf i K) 1) wd (zeroOf i acc)) g b else y)
        ∗ owns (c : Thread nD τ) arg15 fullShare (tailOf (uLo (xbOf i x xb) wg) (uHi (xbOf i x xb) wg)) ∗ owns (c : Thread nD τ) arg16 fullShare (tailOf (uLo (xbOf i x xb) wv) (uHi (xbOf i x xb) wv)) ∗ owns (c : Thread nD τ) arg17 fullShare (xbOf i x xb) ∗ owns (c : Thread nD τ) arg18 fullShare (accOf (xbOf i x xb) wg wv cwg cwv cbg cbv (priorOf i hg (keptOf i K) 0) (priorOf i hv (keptOf i K) 1) wd (zeroOf i acc))
        ∗ (∃ d, owns (c : Thread nD τ) arg19 fullShare d) ∗ owns (c : Thread nD τ) arg20 fullShare (carryOf i (tailOf (uLo (xbOf i x xb) wg) (uHi (xbOf i x xb) wg)) (tailOf (uLo (xbOf i x xb) wv) (uHi (xbOf i x xb) wv)) (keptOf i K))) -∗ Q ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
  simp only [cc0_conv_ffn_eq_skeleton]; unfold cc0_conv_ffn_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%f17, %hf17, H17⟩, ⟨%f18, %hf18, H18⟩, ⟨%d19, %f19, -, H19⟩, ⟨%f20, %hf20, H20⟩, Hk⟩
  subst hf2 hf3 hf4 hf5 hf6 hf7 hf8 hf9 hf10 hf11 hf12 hf13 hf14 hf17 hf18 hf20
  sl_exec
  sl_step
  have hx := load_whole arg2 f2 inb_S512x2048_S512x2048_0_0
  have hX := stored_if (p := rowOf i = 1#1) arg17 f17 inb_S512x2048_S512x2048_0_0 _ _ _ (congrArg k0_pay3 hx) rfl
  have hX' := (load_whole arg17 _ inb_S512x2048_S512x2048_0_0).trans hX
  have hZ := (load_whole arg18 _ inb_S512x2048_S512x2048_0_0).trans (stored_if (p := rowOf i = 1#1) arg18 f18 inb_S512x2048_S512x2048_0_0 k0_pay4 _ _ rfl rfl)
  have hK := stored_carry (p := startOf i = 1#1) arg20 f20 k0_pay5
  have pr : ∀ (s : Fin 2) (o : ℕ) (ho : o ≤ 256) (M : Memref sig .tc .vmem S1x8x512 .f32) (f : BufTy.Contents (Elt F) M.view.ty) (off : Fin 4 → ℕ) (hoff : off = ![(i 1).val, s.val, 0, o])
      (inbK : ∀ a, off a + S1x1x8x256.size a ≤ S11x2x8x512.size a) (inbh : ∀ a, (![0, 0, o] : Fin 3 → ℕ) a + S1x8x256.size a ≤ S1x8x512.size a),
      k0_pay13 (tileOf i) (View.readAt (Elt F) M.view (Rect.unit (s := S1x8x512) ![0, 0, o] S1x8x256.size inbh).toLoadRect f)
        (View.readAt (Elt F) arg20.view (Rect.unit (s := S11x2x8x512) off S1x1x8x256.size inbK).toLoadRect
          (if _ : startOf i = 1#1 then arg20.view.writes (Elt F) f20 [⟨Rect.unit (s := S11x2x8x512) ![0, 0, 0, 0] S11x2x8x512.size inb_S11x2x8x512_S11x2x8x512_0_0_0_0, k0_pay5⟩] else f20))
        = histOf (priorOf i (View.read (Elt F) M.view f) (keptOf i (View.read (Elt F) arg20.view f20)) s) o ho :=
    fun s o ho M f off hoff inbK inbh => prior_eq i s o ho _ _ off hoff inbK inbh _ _ rfl (congrArg (fun K => View.ld K (Rect.unit (s := S11x2x8x512) off S1x1x8x256.size inbK)) hK)
  have e31 : runB.sl.v31 i = headOf i := rfl
  have e30 : runB.sl.v30 i = tileOf i := rfl
  have e8 : (runB.sl.v8 i c arg2 arg17 f2 f17) = (xbOf i (View.read (Elt F) arg2.view f2) (View.read (Elt F) arg17.view f17)) := hX'
  have er : (runB.sl.r i c arg2 arg3 arg17 f2 f3 f17) = (uLo (xbOf i (View.read (Elt F) arg2.view f2) (View.read (Elt F) arg17.view f17)) (View.read (Elt F) arg3.view f3)) := by
    unfold runB.sl.r
    rw [e8]
    rfl
  have er_1 : (runB.sl.r_1 i c arg2 arg4 arg17 f2 f4 f17) = (uLo (xbOf i (View.read (Elt F) arg2.view f2) (View.read (Elt F) arg17.view f17)) (View.read (Elt F) arg4.view f4)) := by
    unfold runB.sl.r_1
    rw [e8, pay7_eq]
    rfl
  have er_2 : (runB.sl.r_2 i c arg2 arg3 arg17 f2 f3 f17) = (uHi (xbOf i (View.read (Elt F) arg2.view f2) (View.read (Elt F) arg17.view f17)) (View.read (Elt F) arg3.view f3)) := by
    unfold runB.sl.r_2
    rw [e8]
    rfl
  have er_3 : (runB.sl.r_3 i c arg2 arg4 arg17 f2 f4 f17) = (uHi (xbOf i (View.read (Elt F) arg2.view f2) (View.read (Elt F) arg17.view f17)) (View.read (Elt F) arg4.view f4)) := by
    unfold runB.sl.r_3
    rw [e8, pay9_eq]
    rfl
  have h0 := pr 0 0 (by decide) arg9 f9 _ (off1_eq i) (k0_off1_inb i) inb_S1x8x512_S1x8x256_0_0_0
  have h1 := pr 1 0 (by decide) arg10 f10 _ (off2_eq i) (k0_off2_inb i) inb_S1x8x512_S1x8x256_0_0_0
  have h2 := pr 0 256 (by decide) arg9 f9 _ (off3_eq i) (k0_off3_inb i) inb_S1x8x512_S1x8x256_0_0_256
  have h3 := pr 1 256 (by decide) arg10 f10 _ (off4_eq i) (k0_off4_inb i) inb_S1x8x512_S1x8x256_0_0_256
  have ev53 : (runB.sl.v53 i c arg2 arg3 arg9 arg17 arg19 arg20 f2 f3 f9 f17 f20) = tap 6 (by decide) (priorOf i (View.read (Elt F) arg9.view f9) (keptOf i (View.read (Elt F) arg20.view f20)) 0) 0 (by decide) (uLo (xbOf i (View.read (Elt F) arg2.view f2) (View.read (Elt F) arg17.view f17)) (View.read (Elt F) arg3.view f3)) := by
    unfold runB.sl.v53 runB.sl.H19_2
    rw [er, rows_eq, e30]
    exact tap_load arg19 _ 0 6 0 (by decide) (by decide) inb_S2x1x520x512_S1x1x512x256_0_0_8_0 inb_S2x1x520x512_S1x1x8x256_0_0_0_0 inb_S2x1x520x512_S1x1x512x256_0_0_6_0 _ _ _ _ rfl h0
  have ev60 : (runB.sl.v60 i c arg2 arg3 arg9 arg17 arg19 arg20 f2 f3 f9 f17 f20) = tap 7 (by decide) (priorOf i (View.read (Elt F) arg9.view f9) (keptOf i (View.read (Elt F) arg20.view f20)) 0) 0 (by decide) (uLo (xbOf i (View.read (Elt F) arg2.view f2) (View.read (Elt F) arg17.view f17)) (View.read (Elt F) arg3.view f3)) := by
    unfold runB.sl.v60 runB.sl.H19_2
    rw [er, rows_eq, e30]
    exact tap_load arg19 _ 0 7 0 (by decide) (by decide) inb_S2x1x520x512_S1x1x512x256_0_0_8_0 inb_S2x1x520x512_S1x1x8x256_0_0_0_0 inb_S2x1x520x512_S1x1x512x256_0_0_7_0 _ _ _ _ rfl h0
  have ev68 : (runB.sl.v68 i c arg2 arg3 arg9 arg17 arg19 arg20 f2 f3 f9 f17 f20) = tap 8 (by decide) (priorOf i (View.read (Elt F) arg9.view f9) (keptOf i (View.read (Elt F) arg20.view f20)) 0) 0 (by decide) (uLo (xbOf i (View.read (Elt F) arg2.view f2) (View.read (Elt F) arg17.view f17)) (View.read (Elt F) arg3.view f3)) := by
    unfold runB.sl.v68 runB.sl.H19_2
    rw [er, rows_eq, e30]
    exact tap_load arg19 _ 0 8 0 (by decide) (by decide) inb_S2x1x520x512_S1x1x512x256_0_0_8_0 inb_S2x1x520x512_S1x1x8x256_0_0_0_0 inb_S2x1x520x512_S1x1x512x256_0_0_8_0 _ _ _ _ rfl h0
  have ev102 : (runB.sl.v102 i c arg2 arg3 arg4 arg9 arg10 arg17 arg19 arg20 f2 f3 f4 f9 f10 f17 f20) = tap 6 (by decide) (priorOf i (View.read (Elt F) arg10.view f10) (keptOf i (View.read (Elt F) arg20.view f20)) 1) 0 (by decide) (uLo (xbOf i (View.read (Elt F) arg2.view f2) (View.read (Elt F) arg17.view f17)) (View.read (Elt F) arg4.view f4)) := by
    unfold runB.sl.v102 runB.sl.H19_4 runB.sl.r_6
    rw [er_1, pay22_eq, e31, pay21_eq]
    exact tap_load arg19 _ 1 6 0 (by decide) (by decide) inb_S2x1x520x512_S1x1x512x256_1_0_8_0 inb_S2x1x520x512_S1x1x8x256_1_0_0_0 inb_S2x1x520x512_S1x1x512x256_1_0_6_0 _ _ _ _ rfl h1
  have ev109 : (runB.sl.v109 i c arg2 arg3 arg4 arg9 arg10 arg17 arg19 arg20 f2 f3 f4 f9 f10 f17 f20) = tap 7 (by decide) (priorOf i (View.read (Elt F) arg10.view f10) (keptOf i (View.read (Elt F) arg20.view f20)) 1) 0 (by decide) (uLo (xbOf i (View.read (Elt F) arg2.view f2) (View.read (Elt F) arg17.view f17)) (View.read (Elt F) arg4.view f4)) := by
    unfold runB.sl.v109 runB.sl.H19_4 runB.sl.r_6
    rw [er_1, pay22_eq, e31, pay21_eq]
    exact tap_load arg19 _ 1 7 0 (by decide) (by decide) inb_S2x1x520x512_S1x1x512x256_1_0_8_0 inb_S2x1x520x512_S1x1x8x256_1_0_0_0 inb_S2x1x520x512_S1x1x512x256_1_0_7_0 _ _ _ _ rfl h1
  have ev117 : (runB.sl.v117 i c arg2 arg3 arg4 arg9 arg10 arg17 arg19 arg20 f2 f3 f4 f9 f10 f17 f20) = tap 8 (by decide) (priorOf i (View.read (Elt F) arg10.view f10) (keptOf i (View.read (Elt F) arg20.view f20)) 1) 0 (by decide) (uLo (xbOf i (View.read (Elt F) arg2.view f2) (View.read (Elt F) arg17.view f17)) (View.read (Elt F) arg4.view f4)) := by
    unfold runB.sl.v117 runB.sl.H19_4 runB.sl.r_6
    rw [er_1, pay22_eq, e31, pay21_eq]
    exact tap_load arg19 _ 1 8 0 (by decide) (by decide) inb_S2x1x520x512_S1x1x512x256_1_0_8_0 inb_S2x1x520x512_S1x1x8x256_1_0_0_0 inb_S2x1x520x512_S1x1x512x256_1_0_8_0 _ _ _ _ rfl h1
  have ev165 : (runB.sl.v165 i c arg2 arg3 arg4 arg9 arg10 arg17 arg19 arg20 f2 f3 f4 f9 f10 f17 f20) = tap 6 (by decide) (priorOf i (View.read (Elt F) arg9.view f9) (keptOf i (View.read (Elt F) arg20.view f20)) 0) 256 (by decide) (uHi (xbOf i (View.read (Elt F) arg2.view f2) (View.read (Elt F) arg17.view f17)) (View.read (Elt F) arg3.view f3)) := by
    unfold runB.sl.v165 runB.sl.H19_6 runB.sl.r_12
    rw [er_2, pay31_eq, e31, pay30_eq]
    exact tap_load arg19 _ 0 6 256 (by decide) (by decide) inb_S2x1x520x512_S1x1x512x256_0_0_8_256 inb_S2x1x520x512_S1x1x8x256_0_0_0_256 inb_S2x1x520x512_S1x1x512x256_0_0_6_256 _ _ _ _ rfl h2
  have ev172 : (runB.sl.v172 i c arg2 arg3 arg4 arg9 arg10 arg17 arg19 arg20 f2 f3 f4 f9 f10 f17 f20) = tap 7 (by decide) (priorOf i (View.read (Elt F) arg9.view f9) (keptOf i (View.read (Elt F) arg20.view f20)) 0) 256 (by decide) (uHi (xbOf i (View.read (Elt F) arg2.view f2) (View.read (Elt F) arg17.view f17)) (View.read (Elt F) arg3.view f3)) := by
    unfold runB.sl.v172 runB.sl.H19_6 runB.sl.r_12
    rw [er_2, pay31_eq, e31, pay30_eq]
    exact tap_load arg19 _ 0 7 256 (by decide) (by decide) inb_S2x1x520x512_S1x1x512x256_0_0_8_256 inb_S2x1x520x512_S1x1x8x256_0_0_0_256 inb_S2x1x520x512_S1x1x512x256_0_0_7_256 _ _ _ _ rfl h2
  have ev180 : (runB.sl.v180 i c arg2 arg3 arg4 arg9 arg10 arg17 arg19 arg20 f2 f3 f4 f9 f10 f17 f20) = tap 8 (by decide) (priorOf i (View.read (Elt F) arg9.view f9) (keptOf i (View.read (Elt F) arg20.view f20)) 0) 256 (by decide) (uHi (xbOf i (View.read (Elt F) arg2.view f2) (View.read (Elt F) arg17.view f17)) (View.read (Elt F) arg3.view f3)) := by
    unfold runB.sl.v180 runB.sl.H19_6 runB.sl.r_12
    rw [er_2, pay31_eq, e31, pay30_eq]
    exact tap_load arg19 _ 0 8 256 (by decide) (by decide) inb_S2x1x520x512_S1x1x512x256_0_0_8_256 inb_S2x1x520x512_S1x1x8x256_0_0_0_256 inb_S2x1x520x512_S1x1x512x256_0_0_8_256 _ _ _ _ rfl h2
  have ev214 : (runB.sl.v214 i c arg2 arg3 arg4 arg9 arg10 arg17 arg19 arg20 f2 f3 f4 f9 f10 f17 f20) = tap 6 (by decide) (priorOf i (View.read (Elt F) arg10.view f10) (keptOf i (View.read (Elt F) arg20.view f20)) 1) 256 (by decide) (uHi (xbOf i (View.read (Elt F) arg2.view f2) (View.read (Elt F) arg17.view f17)) (View.read (Elt F) arg4.view f4)) := by
    unfold runB.sl.v214 runB.sl.H19_8
    rw [er_3, pay39_eq, e31, pay38_eq]
    exact tap_load arg19 _ 1 6 256 (by decide) (by decide) inb_S2x1x520x512_S1x1x512x256_1_0_8_256 inb_S2x1x520x512_S1x1x8x256_1_0_0_256 inb_S2x1x520x512_S1x1x512x256_1_0_6_256 _ _ _ _ rfl h3
  have ev221 : (runB.sl.v221 i c arg2 arg3 arg4 arg9 arg10 arg17 arg19 arg20 f2 f3 f4 f9 f10 f17 f20) = tap 7 (by decide) (priorOf i (View.read (Elt F) arg10.view f10) (keptOf i (View.read (Elt F) arg20.view f20)) 1) 256 (by decide) (uHi (xbOf i (View.read (Elt F) arg2.view f2) (View.read (Elt F) arg17.view f17)) (View.read (Elt F) arg4.view f4)) := by
    unfold runB.sl.v221 runB.sl.H19_8
    rw [er_3, pay39_eq, e31, pay38_eq]
    exact tap_load arg19 _ 1 7 256 (by decide) (by decide) inb_S2x1x520x512_S1x1x512x256_1_0_8_256 inb_S2x1x520x512_S1x1x8x256_1_0_0_256 inb_S2x1x520x512_S1x1x512x256_1_0_7_256 _ _ _ _ rfl h3
  have ev229 : (runB.sl.v229 i c arg2 arg3 arg4 arg9 arg10 arg17 arg19 arg20 f2 f3 f4 f9 f10 f17 f20) = tap 8 (by decide) (priorOf i (View.read (Elt F) arg10.view f10) (keptOf i (View.read (Elt F) arg20.view f20)) 1) 256 (by decide) (uHi (xbOf i (View.read (Elt F) arg2.view f2) (View.read (Elt F) arg17.view f17)) (View.read (Elt F) arg4.view f4)) := by
    unfold runB.sl.v229 runB.sl.H19_8
    rw [er_3, pay39_eq, e31, pay38_eq]
    exact tap_load arg19 _ 1 8 256 (by decide) (by decide) inb_S2x1x520x512_S1x1x512x256_1_0_8_256 inb_S2x1x520x512_S1x1x8x256_1_0_0_256 inb_S2x1x520x512_S1x1x512x256_1_0_8_256 _ _ _ _ rfl h3
  have e257 : (runB.sl.v257 i c arg18 f18) = zeroOf i (View.read (Elt F) arg18.view f18) := hZ
  have hA : k0_pay1 (runB.sl.r_17 i c arg2 arg3 arg4 arg5 arg6 arg7 arg8 arg9 arg10 arg11 arg17 arg18 arg19 arg20 f2 f3 f4 f5 f6 f7 f8 f9 f10 f11 f17 f18 f20) = accOf (xbOf i (View.read (Elt F) arg2.view f2) (View.read (Elt F) arg17.view f17)) (View.read (Elt F) arg3.view f3) (View.read (Elt F) arg4.view f4)
      (View.read (Elt F) arg5.view f5) (View.read (Elt F) arg6.view f6) (View.read (Elt F) arg7.view f7) (View.read (Elt F) arg8.view f8)
      (priorOf i (View.read (Elt F) arg9.view f9) (keptOf i (View.read (Elt F) arg20.view f20)) 0) (priorOf i (View.read (Elt F) arg10.view f10) (keptOf i (View.read (Elt F) arg20.view f20)) 1)
      (View.read (Elt F) arg11.view f11) (zeroOf i (View.read (Elt F) arg18.view f18)) := by
    unfold runB.sl.r_17 runB.sl.r_11 runB.sl.r_15 runB.sl.r_16 runB.sl.r_13 runB.sl.r_14 runB.sl.r_5 runB.sl.r_9 runB.sl.r_10 runB.sl.r_4
    rw [ev53, ev60, ev68, ev102, ev109, ev117, ev165, ev172, ev180, ev214, ev221, ev229, e257]
    rfl
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    unfold runB.sl.v268 runB.sl.H18_1
    rw [hA]
    refine stored_if (p := k0_cond3 i = 1#1) arg14 f14 inb_S512x2048_S512x2048_0_0 _ _ _ ?_ rfl
    have h12 := load_whole arg12 f12 inb_S1x2048_S1x2048_0_0
    have h13 := load_whole arg13 f13 inb_S1x2048_S1x2048_0_0
    have h18 := (load_whole arg18 (arg18.view.writes (Elt F) arg18.view.junk _) inb_S512x2048_S512x2048_0_0).trans (stored_whole arg18 arg18.view.junk inb_S512x2048_S512x2048_0_0 (accOf (xbOf i (View.read (Elt F) arg2.view f2) (View.read (Elt F) arg17.view f17)) (View.read (Elt F) arg3.view f3) (View.read (Elt F) arg4.view f4)
      (View.read (Elt F) arg5.view f5) (View.read (Elt F) arg6.view f6) (View.read (Elt F) arg7.view f7) (View.read (Elt F) arg8.view f8)
      (priorOf i (View.read (Elt F) arg9.view f9) (keptOf i (View.read (Elt F) arg20.view f20)) 0) (priorOf i (View.read (Elt F) arg10.view f10) (keptOf i (View.read (Elt F) arg20.view f20)) 1)
      (View.read (Elt F) arg11.view f11) (zeroOf i (View.read (Elt F) arg18.view f18))))
    exact congr (congr (congr (congrArg k0_pay2 hx) h18) h12) h13
  isplitl [H15]
  · iexists _; isplitr
    swap; · iexact H15
    ipureintro
    unfold runB.sl.H15_2
    rw [er, er_2, pay29_eq]
    exact stored_tail arg15 f15 _ _
  isplitl [H16]
  · iexists _; isplitr
    swap; · iexact H16
    ipureintro
    unfold runB.sl.H16_2 runB.sl.r_7
    rw [er_1, er_3, pay37_eq, pay20_eq]
    exact stored_tail arg16 f16 _ _
  isplitl [H17]
  · iexists _; isplitr
    swap; · iexact H17
    ipureintro
    exact hX
  isplitl [H18]
  · iexists _; isplitr
    swap; · iexact H18
    ipureintro
    unfold runB.sl.H18_1
    rw [hA]
    exact stored_whole arg18 _ inb_S512x2048_S512x2048_0_0 _
  isplitl [H19]
  · iexists _; iexists _; isplitr
    swap; · iexact H19
    ipureintro
    rfl
  iexists _; isplitr
  swap; · iexact H20
  ipureintro
  unfold runB.sl.H20_4
  rw [er, er_1, er_2, er_3, pay36_eq, pay28_eq, pay19_eq]
  exact stored_rows i arg20 _ _ hK _ _ _ _

end Cert.Kernel2Ideal.Hand
-- ==== Proof.Ffn.Run.lean ====
/-
  The feed-forward kernel's run over the whole grid: what the rounded rows, the accumulator and the carried rows hold
  from point to point, and from them the launch and the frame.
-/
module

public import proofs.«01_k».proof.Proof.Ffn.Body
public import Idealize.ShloMosaic.Lib.Claim

@[expose] public section

set_option maxRecDepth 8192

noncomputable section

namespace Cert.Kernel2Ideal.Hand

open Idealize.ShloMosaic hiding ix1 ix2 ix3 ix4 eq_ix2 eq_ix3 eq_ix4
open Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point computes -/

/-- Point number `n`. -/
def pt (n : ℕ) : Fin cfg0.N := ⟨n % 176, Nat.lt_of_lt_of_eq (Nat.mod_lt _ (by decide)) N_0.symm⟩

/-- The rounded rows of point `t`'s tile. -/
def xAt (c : Dev nD) (t : Fin cfg0.N) : Vec F S512x2048 .bf16 := k0_pay3 (iblk m c 0 t)

/-- The last rows of point `t`'s blocks. -/
def tgAt (c : Dev nD) (t : Fin cfg0.N) : Vec F S1x8x512 .f32 := tailOf (uLo (xAt m c t) (iblk m c 1 t)) (uHi (xAt m c t) (iblk m c 1 t))
def tvAt (c : Dev nD) (t : Fin cfg0.N) : Vec F S1x8x512 .f32 := tailOf (uLo (xAt m c t) (iblk m c 2 t)) (uHi (xAt m c t) (iblk m c 2 t))

/-- The rows before point `t`'s tile: history at the first tile of a sequence, the last rows of the tile before otherwise. -/
def pgAt (c : Dev nD) (t : Fin cfg0.N) : Vec F S1x8x512 .f32 := fun y =>
  Scalar.select (headOf (grid0.coords t)) ((iblk m c 7 t : Vec F S1x8x512 .f32) y) (tgAt m c (pt (t.val - 11)) (ix3 (0 : Fin 1) (⟨(y 1).val, (y 1).isLt⟩ : Fin 8) (⟨(y 2).val, (y 2).isLt⟩ : Fin 512)))
def pvAt (c : Dev nD) (t : Fin cfg0.N) : Vec F S1x8x512 .f32 := fun y =>
  Scalar.select (headOf (grid0.coords t)) ((iblk m c 8 t : Vec F S1x8x512 .f32) y) (tvAt m c (pt (t.val - 11)) (ix3 (0 : Fin 1) (⟨(y 1).val, (y 1).isLt⟩ : Fin 8) (⟨(y 2).val, (y 2).isLt⟩ : Fin 512)))

/-- The accumulator after point `t`, from what it held before. -/
def stepAt (c : Dev nD) (t : Fin cfg0.N) (z : Vec F S512x2048 .f32) : Vec F S512x2048 .f32 :=
  accOf (xAt m c t) (iblk m c 1 t) (iblk m c 2 t) (iblk m c 3 t) (iblk m c 4 t) (iblk m c 5 t) (iblk m c 6 t) (pgAt m c t) (pvAt m c t) (iblk m c 9 t) z

/-- The accumulator after point number `n`. -/
def accN (c : Dev nD) : ℕ → Vec F S512x2048 .f32
  | 0 => stepAt m c (pt 0) k0_pay4
  | n + 1 => stepAt m c (pt (n + 1)) (if (n + 1) % 11 = 0 then k0_pay4 else accN c n)

/-- The result block as point `t` would store it. -/
def yAt (c : Dev nD) (t : Fin cfg0.N) : Vec F S512x2048 .f32 := k0_pay2 (iblk m c 0 t) (accN m c t.val) (iblk m c 10 t) (iblk m c 11 t)

/-- What the scratch buffers hold before point number `n`: inside a tile the rounded rows and the accumulator of the
    point before, and for each of the eleven points before the last rows of its blocks. -/
structure Holds (c : Dev nD) (n : ℕ) (xb : Vec F S512x2048 .bf16) (acc : Vec F S512x2048 .f32) (K : Vec F S11x2x8x512 .f32) : Prop where
  rows : n % 11 ≠ 0 → xb = xAt m c (pt (n - 1)) ∧ acc = accN m c (n - 1)
  carry : ∀ s : ℕ, s < n → n ≤ s + 11 → ∀ (j : Fin 11), j.val = s % 11 → ∀ (r : Fin 8) (q : Fin 512),
    K (ix4 j (0 : Fin 2) r q) = tgAt m c (pt s) (ix3 (0 : Fin 1) r q) ∧ K (ix4 j (1 : Fin 2) r q) = tvAt m c (pt s) (ix3 (0 : Fin 1) r q)

theorem coord0 : ∀ t : Fin grid0.N, (grid0.coords t 0).val = t.val / 11 := by decide +kernel
theorem coord1 : ∀ t : Fin grid0.N, (grid0.coords t 1).val = t.val % 11 := by decide +kernel

theorem pt_self (t : Fin cfg0.N) : pt t.val = t := Fin.ext (Nat.mod_eq_of_lt (Nat.lt_of_lt_of_eq t.isLt N_0))

/-! ## The proof data -/

/-- The scratch buffers before point number `n`. -/
def held (c : Dev nD) (n : ℕ) : sProp 𝕄 :=
  iprop(∃ (xb : Vec F S512x2048 .bf16) (acc : Vec F S512x2048 .f32) (K : Vec F S11x2x8x512 .f32), ⌜Holds m c n xb acc K⌝
    ∗ owns (c : Thread nD τ) (Memref.whole cc0_scratch0) fullShare xb ∗ owns (c : Thread nD τ) (Memref.whole cc0_scratch1) fullShare acc
    ∗ (∃ d, owns (c : Thread nD τ) (Memref.whole cc0_scratch2) fullShare d) ∗ owns (c : Thread nD τ) (Memref.whole cc0_scratch3) fullShare K)

/-- The proof data: each input's block stays in its buffer, the outputs are the point's blocks, the scratch is tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => yAt m c t
    | ⟨13, _⟩ => tgAt m c t
    | ⟨14, _⟩ => tvAt m c t
  Φ t := iprop(held m c t.val ∗ ∃ r, prngReg c r)
  q w := Pipeline.shareOf spec0 w
  owed _ := 0

/-- The arrays of the proof data are the ones the region finds. -/
theorem A_eq (c : Dev nD) (w : Fin cfg0.W) : (dats m 0 c).A w = V m c (Pipeline.arrRef spec0 w) := by dsimp only [dats]

/-- What the proof data says the body leaves. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = yAt m c t := by dsimp only [dats]
theorem after13 (c : Dev nD) (t : Fin cfg0.N) : (dats m 0 c).after 13 t = tgAt m c t := by dsimp only [dats]
theorem after14 (c : Dev nD) (t : Fin cfg0.N) : (dats m 0 c).after 14 t = tvAt m c t := by dsimp only [dats]

/-- What the body finds in each input's buffer: its block. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d

theorem fetched0 (c : Dev nD) (t : Fin cfg0.N) (d) : (dats m 0 c).fetched 0 t d = iblk m c 0 t := by
  unfold Dat.fetched Dat.blockOf iblk; rw [A_eq]; rfl

/-- Inside a tile the rows are those of the point before. -/
theorem same_tile (c : Dev nD) (t s : Fin cfg0.N) (h : t.val % 11 ≠ 0) (hs : s.val + 1 = t.val) : xAt m c s = xAt m c t := by
  have hst : (⟨t.val - 1, Nat.lt_of_le_of_lt (Nat.sub_le _ _) t.isLt⟩ : Fin cfg0.N) = s := Fin.ext (by change t.val - 1 = s.val; omega)
  have f0 : (cfg0.win 0).fetch t = false := by rw [← Bool.not_eq_true]; exact fun e => h ((fetch0_0 t).1 e)
  obtain ⟨-, e0⟩ := (cfg0.win 0).index_eq_of_fetch rfl t f0
  rw [hst] at e0
  exact congrArg k0_pay3 ((fetched0 m c s (iblk m c 0 t)).symm.trans (((dats m 0 c).fetched_congr 0 e0.symm rfl _).trans (fetched0 m c t _)))

/-! ## One point's step of what the scratch holds -/

theorem row_at (t : Fin cfg0.N) : rowOf (grid0.coords t) = 1#1 ↔ t.val % 11 = 0 := by rw [row_iff, coord1]
theorem start_at (t : Fin cfg0.N) : startOf (grid0.coords t) = 1#1 ↔ t.val = 0 := by
  rw [start_iff, coord0, coord1]; omega
theorem head_at (t : Fin cfg0.N) : headOf (grid0.coords t) = 1#1 ↔ t.val / 11 % 8 = 0 := by rw [head_iff, coord0]

theorem pick {h : BitVec 1} {a b b' : Elt F .f32} (H : h ≠ 1#1 → b = b') : Scalar.select h a b = Scalar.select h a b' := by
  by_cases hh : h = 1#1
  · subst hh; rfl
  · rw [H hh]

variable {m} in
theorem Holds.xb_eq {c : Dev nD} {t : Fin cfg0.N} {xb acc K} (h : Holds m c t.val xb acc K) : xbOf (grid0.coords t) (iblk m c 0 t) xb = xAt m c t := by
  unfold xbOf
  by_cases hr : t.val % 11 = 0
  · rw [if_pos ((row_at t).2 hr)]; rfl
  · rw [if_neg fun e => hr ((row_at t).1 e), (h.rows hr).1]
    have hN : t.val < 176 := Nat.lt_of_lt_of_eq t.isLt N_0
    refine same_tile m c t _ hr ?_
    change (t.val - 1) % 176 + 1 = t.val
    omega

variable {m} in
theorem Holds.acc_eq {c : Dev nD} {t : Fin cfg0.N} {xb acc K} (h : Holds m c t.val xb acc K) :
    stepAt m c t (zeroOf (grid0.coords t) acc) = accN m c t.val := by
  have hp := pt_self t
  obtain ⟨n, hn⟩ := t
  unfold zeroOf
  cases n with
  | zero =>
    rw [if_pos ((row_at _).2 rfl)]
    unfold accN
    rw [hp]
  | succ n =>
    unfold accN
    rw [hp]
    by_cases hr : (n + 1) % 11 = 0
    · rw [if_pos ((row_at _).2 hr), if_pos hr]
    · rw [if_neg fun e => hr ((row_at _).1 e), if_neg hr, (h.rows hr).2]; rfl

variable {m} in
theorem Holds.prior_eq {c : Dev nD} {t : Fin cfg0.N} {xb acc K} (h : Holds m c t.val xb acc K) :
    priorOf (grid0.coords t) (iblk m c 7 t) (keptOf (grid0.coords t) K) 0 = pgAt m c t
      ∧ priorOf (grid0.coords t) (iblk m c 8 t) (keptOf (grid0.coords t) K) 1 = pvAt m c t := by
  have key : headOf (grid0.coords t) ≠ 1#1 → ∀ (r : Fin 8) (q : Fin 512),
      keptOf (grid0.coords t) K (ix4 (⟨(grid0.coords t 1).val, (grid0.coords t 1).isLt⟩ : Fin 11) (0 : Fin 2) r q) = tgAt m c (pt (t.val - 11)) (ix3 (0 : Fin 1) r q)
        ∧ keptOf (grid0.coords t) K (ix4 (⟨(grid0.coords t 1).val, (grid0.coords t 1).isLt⟩ : Fin 11) (1 : Fin 2) r q) = tvAt m c (pt (t.val - 11)) (ix3 (0 : Fin 1) r q) := by
    intro hh r q
    have h8 : t.val / 11 % 8 ≠ 0 := fun e => hh ((head_at t).2 e)
    have hs : ¬ startOf (grid0.coords t) = 1#1 := fun e => h8 (by rw [(start_at t).1 e])
    unfold keptOf
    rw [if_neg hs]
    exact h.carry (t.val - 11) (by omega) (by omega) _ (by change (grid0.coords t 1).val = _; rw [coord1]; omega) r q
  exact ⟨funext fun y => pick fun hh => (key hh _ _).1, funext fun y => pick fun hh => (key hh _ _).2⟩

variable {m} in
theorem Holds.next {c : Dev nD} {t : Fin cfg0.N} {xb acc K} (h : Holds m c t.val xb acc K) :
    Holds m c (t.val + 1) (xAt m c t) (accN m c t.val) (carryOf (grid0.coords t) (tgAt m c t) (tvAt m c t) (keptOf (grid0.coords t) K)) where
  rows _ := by
    rw [Nat.add_sub_cancel, pt_self]; exact ⟨rfl, rfl⟩
  carry s hs hs' j hj r q := by
    unfold carryOf
    by_cases e : s = t.val
    · subst e
      have e0 : j.val = (grid0.coords t 1).val := by rw [hj, coord1]
      rw [pt_self]
      exact ⟨(if_pos e0).trans (congrFun (if_pos rfl) _), (if_pos e0).trans (congrFun (if_neg (show ¬ ((1 : Fin 2).val = 0) by decide)) _)⟩
    · have e0 : ¬ j.val = (grid0.coords t 1).val := by rw [hj, coord1]; omega
      have hst : ¬ startOf (grid0.coords t) = 1#1 := fun e' => by have := (start_at t).1 e'; omega
      have := h.carry s (by omega) (by omega) j hj r q
      unfold keptOf
      rw [if_neg hst]
      exact ⟨(if_neg e0).trans this.1, (if_neg e0).trans this.2⟩

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (dats m 0 c).leavesExact 12 t
    ∗ owns (c : Thread nD τ) (st0_13 t) fullShare ((dats m 0 c).after 13 t)
    ∗ owns (c : Thread nD τ) (st0_14 t) fullShare ((dats m 0 c).after 14 t))

/-- The result's block is handed back as found, but at the last column block, where it is stored. -/
theorem leaves12 (c : Dev nD) (t : Fin cfg0.N) (d) (y : Vec F S512x2048 .f32) (hy : y = yAt m c t) :
    (owns (c : Thread nD τ) (stage0_12 (cfg0.slots t 12)) fullShare (if k0_cond3 (grid0.coords t) = 1#1 then y else (dats m 0 c).before 12 t d) : sProp 𝕄)
      ⊢ (dats m 0 c).leavesExact 12 t := by
  by_cases h : k0_cond3 (grid0.coords t) = 1#1
  · have hi : cfg0.idle 12 (cfg0.grid.coords t) = false := by change (!(k0_cond3 (grid0.coords t) == 1#1)) = false; rw [h]; rfl
    rw [if_pos h, hy]
    unfold Dat.leavesExact
    rw [hi, after12]
  · have hi : cfg0.idle 12 (cfg0.grid.coords t) = true := by
      change (!(k0_cond3 (grid0.coords t) == 1#1)) = true
      rw [Bool.not_eq_true', beq_eq_false_iff_ne]; exact h
    have hf : (cfg0.win 12).flush t = false := by
      rw [← Bool.not_eq_true]
      intro e
      have e' := (flush0_12 t).1 e
      exact h ((last_iff _).2 (by rw [coord1]; exact e'))
    rw [if_neg h, (dats m 0 c).leavesExact_idle 12 t hi hf]
    iintro H
    iexists d
    iexact H

set_option maxHeartbeats 1000000 in
/-- The body at any point, from the scratch as the point before left it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = iprop(held m c (t.val + 1) ∗ ∃ r, prngReg c r) from rfl,
    show (dats m 0 c).Φ t.castSucc = iprop(held m c t.val ∗ ∃ r, prngReg c r) from rfl,
    show (dats m 0 c).owesAt () t.succ = (dats m 0 c).owesAt () t.castSucc from rfl, after0, after1, after2, after3, after4, after5, after6, after7, after8, after9, after10, after11, after13, after14]
  unfold held
  iintro ⟨⟨⟨%xb, %acc, %K, %hH, HX, HA, HE, HK⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (runB (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) xb acc K c Set.univ _ _ _ _ _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [HX]; · iexact HX
  isplitl [HA]; · iexact HA
  isplitl [HE]; · iexact HE
  isplitl [HK]; · iexact HK
  rw [hH.xb_eq, hH.prior_eq.1, hH.prior_eq.2]
  rw [show accOf (xAt m c t) (iblk m c 1 t) (iblk m c 2 t) (iblk m c 3 t) (iblk m c 4 t) (iblk m c 5 t) (iblk m c 6 t) (pgAt m c t) (pvAt m c t) (iblk m c 9 t) (zeroOf (grid0.coords t) acc) = accN m c t.val from hH.acc_eq,
    show tailOf (uLo (xAt m c t) (iblk m c 1 t)) (uHi (xAt m c t) (iblk m c 1 t)) = tgAt m c t from rfl,
    show tailOf (uLo (xAt m c t) (iblk m c 2 t)) (uHi (xAt m c t) (iblk m c 2 t)) = tvAt m c t from rfl]
  iintro ⟨H0, H1, H2, H3, H4, H5, H6, H7, H8, H9, H10, H11, H12, H13, H14, HX, HA, HE, HK⟩
  isplitl [Hr HX HA HE HK]
  · isplitl [HX HA HE HK]
    · iexists (xAt m c t); iexists (accN m c t.val); iexists _
      isplitr; · ipureintro; exact hH.next
      isplitl [HX]; · iexact HX
      isplitl [HA]; · iexact HA
      isplitl [HE]; · iexact HE
      iexact HK
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · ihave H := (leaves12 m c t d12 (k0_pay2 (iblk m c 0 t) (accN m c t.val) (iblk m c 10 t) (iblk m c 11 t)) rfl) $$ H12
    iexact H
  isplitl [H13]; · iexact H13
  iexact H14

/-- The table's row at a point's slots is the body there. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- A scratch buffer held whole is its memref owned, and conversely. -/
theorem own0 (c : Dev nD) (f : Buf (Elt F) ((c : Thread nD τ).loc cc0_scratch0)) :
    (((c : Thread nD τ).loc cc0_scratch0) ↦{fullShare} f : sProp 𝕄) ⊢ owns (c : Thread nD τ) (Memref.whole cc0_scratch0) fullShare f :=
  Entails.of_eq (owns_whole (c : Thread nD τ) cc0_scratch0 fullShare f).symm
theorem disown0 (c : Dev nD) (f : Buf (Elt F) ((c : Thread nD τ).loc cc0_scratch0)) :
    (owns (c : Thread nD τ) (Memref.whole cc0_scratch0) fullShare f : sProp 𝕄) ⊢ (((c : Thread nD τ).loc cc0_scratch0) ↦{fullShare} f) :=
  Entails.of_eq (owns_whole (c : Thread nD τ) cc0_scratch0 fullShare f)

/-- A scratch buffer held whole is its memref owned, and conversely. -/
theorem own1 (c : Dev nD) (f : Buf (Elt F) ((c : Thread nD τ).loc cc0_scratch1)) :
    (((c : Thread nD τ).loc cc0_scratch1) ↦{fullShare} f : sProp 𝕄) ⊢ owns (c : Thread nD τ) (Memref.whole cc0_scratch1) fullShare f :=
  Entails.of_eq (owns_whole (c : Thread nD τ) cc0_scratch1 fullShare f).symm
theorem disown1 (c : Dev nD) (f : Buf (Elt F) ((c : Thread nD τ).loc cc0_scratch1)) :
    (owns (c : Thread nD τ) (Memref.whole cc0_scratch1) fullShare f : sProp 𝕄) ⊢ (((c : Thread nD τ).loc cc0_scratch1) ↦{fullShare} f) :=
  Entails.of_eq (owns_whole (c : Thread nD τ) cc0_scratch1 fullShare f)

/-- A scratch buffer held whole is its memref owned, and conversely. -/
theorem own2 (c : Dev nD) (f : Buf (Elt F) ((c : Thread nD τ).loc cc0_scratch2)) :
    (((c : Thread nD τ).loc cc0_scratch2) ↦{fullShare} f : sProp 𝕄) ⊢ owns (c : Thread nD τ) (Memref.whole cc0_scratch2) fullShare f :=
  Entails.of_eq (owns_whole (c : Thread nD τ) cc0_scratch2 fullShare f).symm
theorem disown2 (c : Dev nD) (f : Buf (Elt F) ((c : Thread nD τ).loc cc0_scratch2)) :
    (owns (c : Thread nD τ) (Memref.whole cc0_scratch2) fullShare f : sProp 𝕄) ⊢ (((c : Thread nD τ).loc cc0_scratch2) ↦{fullShare} f) :=
  Entails.of_eq (owns_whole (c : Thread nD τ) cc0_scratch2 fullShare f)

/-- A scratch buffer held whole is its memref owned, and conversely. -/
theorem own3 (c : Dev nD) (f : Buf (Elt F) ((c : Thread nD τ).loc cc0_scratch3)) :
    (((c : Thread nD τ).loc cc0_scratch3) ↦{fullShare} f : sProp 𝕄) ⊢ owns (c : Thread nD τ) (Memref.whole cc0_scratch3) fullShare f :=
  Entails.of_eq (owns_whole (c : Thread nD τ) cc0_scratch3 fullShare f).symm
theorem disown3 (c : Dev nD) (f : Buf (Elt F) ((c : Thread nD τ).loc cc0_scratch3)) :
    (owns (c : Thread nD τ) (Memref.whole cc0_scratch3) fullShare f : sProp 𝕄) ⊢ (((c : Thread nD τ).loc cc0_scratch3) ↦{fullShare} f) :=
  Entails.of_eq (owns_whole (c : Thread nD τ) cc0_scratch3 fullShare f)

/-- The region starts with the scratch at anything, -/
theorem enter (c : Dev nD) : (Pipeline.ΦA spec0 c : sProp 𝕄) ⊢ (dats m 0 c).Φ 0 := by
  rw [show (dats m 0 c).Φ 0 = iprop(held m c 0 ∗ ∃ r, prngReg c r) from rfl]
  unfold Pipeline.ΦA held
  rw [scopedRest0_eq]
  iintro ⟨⟨⟨%f, Hf⟩, ⟨%g, Hg⟩, ⟨%h, Hh⟩, ⟨%k, Hk⟩⟩, Hr⟩
  ihave Hf := (own0 c f) $$ Hf
  ihave Hg := (own1 c g) $$ Hg
  ihave Hh := (own2 c h) $$ Hh
  ihave Hk := (own3 c k) $$ Hk
  isplitl [Hf Hg Hh Hk]
  · iexists f; iexists g; iexists k
    isplitr
    · ipureintro
      exact ⟨fun h => absurd rfl h, fun s hs => absurd hs (Nat.not_lt_zero s)⟩
    isplitl [Hf]; · iexact Hf
    isplitl [Hg]; · iexact Hg
    isplitl [Hh]; · iexists h; iexact Hh
    iexact Hk
  iexact Hr

/-- and ends so. -/
theorem leave (c : Dev nD) : (dats m 0 c).Φ (Fin.last cfg0.N) ⊢ (Pipeline.ΦA spec0 c : sProp 𝕄) := by
  rw [show (dats m 0 c).Φ (Fin.last cfg0.N) = iprop(held m c (Fin.last cfg0.N).val ∗ ∃ r, prngReg c r) from rfl]
  unfold Pipeline.ΦA held
  rw [scopedRest0_eq]
  iintro ⟨⟨%xb, %acc, %K, -, HX, HA, ⟨%e, HE⟩, HK⟩, Hr⟩
  ihave Hf := (disown0 c xb) $$ HX
  ihave Hg := (disown1 c acc) $$ HA
  ihave Hh := (disown2 c e) $$ HE
  ihave Hk := (disown3 c K) $$ HK
  isplitl [Hf Hg Hh Hk]
  · isplitl [Hf]; · iexists xb; iexact Hf
    isplitl [Hg]; · iexists acc; iexact Hg
    isplitl [Hh]; · iexists e; iexact Hh
    iexists K; iexact Hk
  iexact Hr

set_option backward.isDefEq.respectTransparency.types false in
/-- The launch: every fair execution ends, with the arrays as the proof data says and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch0.to₀ defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The launch without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel2Ideal.Hand

end
-- ==== Proof.Ffn.Math.lean ====
/-
  The convolutional feed-forward block as a formula over the extended reals: the up projection, the causal convolution
  of three taps within a sequence of 4096 rows, the gated activation, the down projection, and the scaled residual's
  layer normalisation.
-/
module

public import Idealize.ShloMosaic.Lib.ValueIdx
public import Idealize.ShloMosaic.PureOps.Ideal.Laws
public import Idealize.ShloMosaic.Lib.IdealHost

@[expose] public section

noncomputable section

namespace Cert.ConvFfn

open Idealize.ShloMosaic
open Idealize.ShloMosaic.ValueIdx

/-- An array's element at a row and a column, zero outside. -/
def rd {a b : ℕ} (X : (⟨2, ![a, b]⟩ : Shape).Idx → EReal) (i j : ℕ) : EReal :=
  if h : i < a ∧ j < b then X (ix2 (⟨i, h.1⟩ : Fin a) (⟨j, h.2⟩ : Fin b)) else 0
/-- A vector's element at a place, zero outside. -/
def rd1 {a : ℕ} (B : (⟨1, ![a]⟩ : Shape).Idx → EReal) (i : ℕ) : EReal :=
  if h : i < a then B (ix1 (⟨i, h⟩ : Fin a)) else 0

theorem rd_at {a b : ℕ} (X : (⟨2, ![a, b]⟩ : Shape).Idx → EReal) (k : (⟨2, ![a, b]⟩ : Shape).Idx) (i j : ℕ)
    (h0 : (k 0).val = i) (h1 : (k 1).val = j) : X k = rd X i j := by
  subst h0; subst h1
  unfold rd
  rw [dif_pos ⟨(k 0).isLt, (k 1).isLt⟩]
  exact congrArg X (eq_ix2 k)
theorem rd1_at {a : ℕ} (B : (⟨1, ![a]⟩ : Shape).Idx → EReal) (k : (⟨1, ![a]⟩ : Shape).Idx) (i : ℕ)
    (h0 : (k 0).val = i) : B k = rd1 B i := by
  subst h0
  have hk : (k 0).val < a := (k 0).isLt
  unfold rd1
  rw [dif_pos hk]
  exact congrArg B (funext fun a => match a with | ⟨0, _⟩ => rfl)
theorem rd_row {a b : ℕ} (X : (⟨2, ![a, b]⟩ : Shape).Idx → EReal) (i j : ℕ) (h : a ≤ i) : rd X i j = 0 := dif_neg fun e => by omega
theorem rd_col {a b : ℕ} (X : (⟨2, ![a, b]⟩ : Shape).Idx → EReal) (i j : ℕ) (h : b ≤ j) : rd X i j = 0 := dif_neg fun e => by omega
theorem rd1_out {a : ℕ} (B : (⟨1, ![a]⟩ : Shape).Idx → EReal) (i : ℕ) (h : a ≤ i) : rd1 B i = 0 := dif_neg fun e => by omega

/-- The column of the gate half, and of the value half, that a hidden unit has; past the end for a padding unit. -/
def gcol (n : ℕ) : ℕ := if n < 5504 then n else 11008
def vcol (n : ℕ) : ℕ := 5504 + n

/-- Gated activation: `g · σ(g) · v`. -/
def glu (g v : EReal) : EReal := g * Ideal.div 1 (1 + Ideal.exp (0 - g)) * v

/-- The mean of a row. -/
def mean (h : Fin 2048 → EReal) : EReal := Ideal.div (∑ k, h k) (Ideal.ofBits .f32 0x45000000#32)

/-- The layer normalisation of a row, scaled and shifted. -/
def norm (h : Fin 2048 → EReal) (g b : EReal) (k : Fin 2048) : EReal :=
  (h k - mean h) * Ideal.rsqrt (mean (fun l => (h l - mean h) * (h l - mean h)) + Ideal.ofBits .f32 0x3727C5AC#32) * g + b

/-- An array of extended reals by its extents. -/
abbrev Mat (a b : ℕ) : Type := (⟨2, ![a, b]⟩ : Shape).Idx → EReal
abbrev Row (a : ℕ) : Type := (⟨1, ![a]⟩ : Shape).Idx → EReal

variable (X : Mat 8192 2048) (U : Mat 2048 11008) (W : Mat 3 11008) (B : Row 11008) (D : Mat 5504 2048) (G H : Row 2048)

/-- The up projection of a row. -/
def proj (r n : ℕ) : EReal := ∑ k : Fin 2048, rd X r k.val * rd U k.val n

/-- The up projection `p` rows before, zero before a sequence's start. -/
def prev (p r n : ℕ) : EReal := if r % 4096 < p then 0 else proj X U (r - p) n

/-- The convolution. -/
def conv (r n : ℕ) : EReal := prev X U 2 r n * rd W 0 n + prev X U 1 r n * rd W 1 n + prev X U 0 r n * rd W 2 n + rd1 B n

/-- A hidden unit. -/
def act (r n : ℕ) : EReal := glu (conv X U W B r (gcol n)) (conv X U W B r (vcol n))

/-- The down projection of the first `N` hidden units. -/
def down (N r k : ℕ) : EReal := ∑ n ∈ Finset.range N, act X U W B r n * rd D n k

/-- The block's result before the normalisation: the scaled input plus the down projection. -/
def pre (r : ℕ) (k : Fin 2048) : EReal := Ideal.ofBits .f32 0x3FB504F3#32 * rd X r k.val + down X U W B D 5504 r k.val

/-- The block's result. -/
def out (r : ℕ) (k : Fin 2048) : EReal := norm (pre X U W B D r) (rd1 G k.val) (rd1 H k.val) k

/-- Padding units contribute nothing. -/
theorem down_padded (r k : ℕ) : down X U W B D 5632 r k = down X U W B D 5504 r k := by
  unfold down
  refine (Finset.sum_subset (Finset.range_mono (by decide)) fun n _ hn => ?_).symm
  rw [rd_row D n k (by simpa using hn), mul_zero]

/-- One more block of 512 units. -/
theorem down_block (j r k : ℕ) :
    down X U W B D (512 * j) r k + ∑ q : Fin 512, act X U W B r (512 * j + q.val) * rd D (512 * j + q.val) k = down X U W B D (512 * (j + 1)) r k := by
  unfold down
  rw [Fin.sum_univ_eq_sum_range (fun q => act X U W B r (512 * j + q) * rd D (512 * j + q) k) 512, ← Finset.sum_range_add _ (512 * j) 512, Nat.mul_succ]

end Cert.ConvFfn

end
-- ==== Proof.Ffn.Entry.lean ====
/-
  The blocks the feed-forward kernel reads, as cells of its arguments: the host pads the two halves of the up weights,
  of the convolution's weights and of its bias, and the down weights, with zeros to whole blocks, and starts each
  sequence from zero rows.
-/
module

public import proofs.«01_k».proof.Proof.Ffn.Run
public import proofs.«01_k».proof.Proof.Ffn.Math
public import Idealize.ShloMosaic.Lib.Pipeline.ValueKit
public import Idealize.ShloMosaic.Lib.KernelVsHost

@[expose] public section

set_option maxRecDepth 8192

noncomputable section

namespace Cert.Kernel2Ideal.Hand

open Idealize.ShloMosaic hiding ix1 ix2 ix3 ix4 eq_ix2 eq_ix3 eq_ix4
open Idealize.ShloMosaic.ValueIdx Idealize.ShloMosaic.TcCoe Idealize.ShloMosaic.Tactic
open Idealize.SL.Sem
open Idealize.ShloMosaic.Pipeline (Dat)
open Cert.Kernel2Ideal.Gen Cert.ConvFfn

variable (m : (ℓ : Loc nD τ sig) → Buf (Elt Ideal) ℓ)

/-- The arguments. -/
abbrev argX (c : Dev nD) : S8192x2048.Idx → EReal := m ((c : Thread nD τ).loc main_arg0)
abbrev argU (c : Dev nD) : S2048x11008.Idx → EReal := m ((c : Thread nD τ).loc main_arg1)
abbrev argW (c : Dev nD) : S3x11008.Idx → EReal := m ((c : Thread nD τ).loc main_arg2)
abbrev argB (c : Dev nD) : S11008.Idx → EReal := m ((c : Thread nD τ).loc main_arg3)
abbrev argD (c : Dev nD) : S5504x2048.Idx → EReal := m ((c : Thread nD τ).loc main_arg4)
abbrev argG (c : Dev nD) : S2048.Idx → EReal := m ((c : Thread nD τ).loc main_arg5)
abbrev argH (c : Dev nD) : S2048.Idx → EReal := m ((c : Thread nD τ).loc main_arg6)

/-- The padding value. -/
def padE : S_.Idx → EReal := sitofp (F := Ideal) .f32 (constantI S_ 32 0#32)
theorem padE_eq (i : S_.Idx) : padE i = 0 := sitofp_zero (φ := .f32)

/-! ## What the host leaves in the arrays the kernel reads -/
theorem entry_wg (c : Dev nD) : (V m c main_v2 : S2048x5632.Idx → EReal) = pad S2048x5632 ![0, 0] ![0, 128] ![0, 0] (extractStridedSlice S2048x5504 ![0, 0] (argU m c) slices_S2048x11008_S2048x5504_0_0) padE pads_S2048x5504_S2048x5632_000_01280 h_S_ := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.cons_append, List.nil_append, List.append_nil]
  after_results
  rfl
theorem entry_wv (c : Dev nD) : (V m c main_v5 : S2048x5632.Idx → EReal) = pad S2048x5632 ![0, 0] ![0, 128] ![0, 0] (extractStridedSlice S2048x5504 ![0, 5504] (argU m c) slices_S2048x11008_S2048x5504_0_5504) padE pads_S2048x5504_S2048x5632_000_01280 h_S_ := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.cons_append, List.nil_append, List.append_nil]
  after_results
  rfl
theorem entry_cwg (c : Dev nD) : (V m c main_v7 : S3x5632.Idx → EReal) = pad S3x5632 ![0, 0] ![0, 128] ![0, 0] (extractStridedSlice S3x5504 ![0, 0] (argW m c) slices_S3x11008_S3x5504_0_0) padE pads_S3x5504_S3x5632_000_01280 h_S_ := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.cons_append, List.nil_append, List.append_nil]
  after_results
  rfl
theorem entry_cwv (c : Dev nD) : (V m c main_v9 : S3x5632.Idx → EReal) = pad S3x5632 ![0, 0] ![0, 128] ![0, 0] (extractStridedSlice S3x5504 ![0, 5504] (argW m c) slices_S3x11008_S3x5504_0_5504) padE pads_S3x5504_S3x5632_000_01280 h_S_ := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.cons_append, List.nil_append, List.append_nil]
  after_results
  rfl
theorem entry_cbg (c : Dev nD) : (V m c main_v23 : S1x5632.Idx → EReal) = shapeCast S1x5632 (pad S5632 ![0] ![128] ![0] (extractStridedSlice S5504 ![0] (argB m c) slices_S11008_S5504_0) padE pads_S5504_S5632_01280 h_S_) shapeCasts_S5632_S1x5632 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.cons_append, List.nil_append, List.append_nil]
  after_results
  rfl
theorem entry_cbv (c : Dev nD) : (V m c main_v24 : S1x5632.Idx → EReal) = shapeCast S1x5632 (pad S5632 ![0] ![128] ![0] (extractStridedSlice S5504 ![5504] (argB m c) slices_S11008_S5504_5504) padE pads_S5504_S5632_01280 h_S_) shapeCasts_S5632_S1x5632 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.cons_append, List.nil_append, List.append_nil]
  after_results
  rfl
theorem entry_wd (c : Dev nD) : (V m c main_v15 : S5632x2048.Idx → EReal) = pad S5632x2048 ![0, 0] ![128, 0] ![0, 0] (argD m c) padE pads_S5504x2048_S5632x2048_01280_000 h_S_ := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.cons_append, List.nil_append, List.append_nil]
  after_results
  rfl
theorem entry_hg (c : Dev nD) : (V m c main_v20 : S2x8x5632.Idx → EReal) = pad S2x8x5632 ![0, 6, 0] ![0, 0, 0] ![0, 0, 0] (pad S2x2x5632 ![0, 0, 0] ![0, 0, 128] ![0, 0, 0] (extractStridedSlice S2x2x5504 ![0, 0, 0] (broadcastInDim S2x2x11008 ![] bcast_S_S2x2x11008 (constant (F := Ideal) S_ .f32 0x00000000#32)) slices_S2x2x11008_S2x2x5504_0_0_0) padE pads_S2x2x5504_S2x2x5632_000_000_01280 h_S_) padE pads_S2x2x5632_S2x8x5632_000_600_000 h_S_ := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.cons_append, List.nil_append, List.append_nil]
  after_results
  rfl
theorem entry_hv (c : Dev nD) : (V m c main_v22 : S2x8x5632.Idx → EReal) = pad S2x8x5632 ![0, 6, 0] ![0, 0, 0] ![0, 0, 0] (pad S2x2x5632 ![0, 0, 0] ![0, 0, 128] ![0, 0, 0] (extractStridedSlice S2x2x5504 ![0, 0, 5504] (broadcastInDim S2x2x11008 ![] bcast_S_S2x2x11008 (constant (F := Ideal) S_ .f32 0x00000000#32)) slices_S2x2x11008_S2x2x5504_0_0_5504) padE pads_S2x2x5504_S2x2x5632_000_000_01280 h_S_) padE pads_S2x2x5632_S2x8x5632_000_600_000 h_S_ := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.cons_append, List.nil_append, List.append_nil]
  after_results
  rfl
theorem entry_g (c : Dev nD) : (V m c main_v25 : S1x2048.Idx → EReal) = shapeCast S1x2048 (argG m c) shapeCasts_S2048_S1x2048 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.cons_append, List.nil_append, List.append_nil]
  after_results
  rfl
theorem entry_b (c : Dev nD) : (V m c main_v26 : S1x2048.Idx → EReal) = shapeCast S1x2048 (argH m c) shapeCasts_S2048_S1x2048 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.cons_append, List.nil_append, List.append_nil]
  after_results
  rfl
/-! ## The arrays at an index -/

/-- A column of a padded half: the gate half starts at the array's first column, the value half at column 5504. -/
theorem pad_cols {a : ℕ} (A : (⟨2, ![a, 11008]⟩ : Shape).Idx → EReal) (off : ℕ) (col : ℕ → ℕ) (hin : ∀ n, n < 5504 → col n = off + n) (hout : ∀ n, 5504 ≤ n → 11008 ≤ col n)
    (hs : (⟨2, ![a, 11008]⟩ : Shape).Slices ![0, off] ⟨2, ![a, 5504]⟩) (hp : (⟨2, ![a, 5504]⟩ : Shape).Pads ![0, 0] ![0, 128] ![0, 0] ⟨2, ![a, 5632]⟩)
    (K : (⟨2, ![a, 5632]⟩ : Shape).Idx) :
    pad ⟨2, ![a, 5632]⟩ ![0, 0] ![0, 128] ![0, 0] (extractStridedSlice ⟨2, ![a, 5504]⟩ ![0, off] A hs) padE hp h_S_ K = rd A (K 0).val (col (K 1).val) := by
  by_cases h : (K 1).val < 5504
  · rw [pad_apply_of_inside _ _ _ _ _ hp h_S_ K (ix2 (⟨(K 0).val, (K 0).isLt⟩ : Fin a) (⟨(K 1).val, h⟩ : Fin 5504))
      (fun x => match x with
        | ⟨0, _⟩ => by show (K 0).val = 0 + (K 0).val * (0 + 1); omega
        | ⟨1, _⟩ => by show (K 1).val = 0 + (K 1).val * (0 + 1); omega)]
    have hc : off + 5504 ≤ 11008 := hs.2 1
    rw [extractStridedSlice_apply ![0, off] A hs _ (ix2 (⟨(K 0).val, (K 0).isLt⟩ : Fin a) (⟨off + (K 1).val, by omega⟩ : Fin 11008))
      (fun x => match x with
        | ⟨0, _⟩ => by show (K 0).val = 0 + (K 0).val; omega
        | ⟨1, _⟩ => rfl)]
    exact rd_at A _ _ _ rfl (hin _ h).symm
  · rw [pad_apply_of_not_inside _ _ _ _ _ hp h_S_ K 1 (by
      rintro ⟨-, -, h3⟩
      change ((K 1).val - 0) / (0 + 1) < 5504 at h3
      omega), padE_eq, rd_col A _ _ (hout _ (by omega))]

theorem gcol_in (n : ℕ) (h : n < 5504) : gcol n = 0 + n := by unfold gcol; rw [if_pos h, Nat.zero_add]
theorem gcol_out (n : ℕ) (h : 5504 ≤ n) : 11008 ≤ gcol n := by unfold gcol; rw [if_neg (by omega)]
theorem vcol_out (n : ℕ) (h : 5504 ≤ n) : 11008 ≤ vcol n := by unfold vcol; omega

theorem at_wg (c : Dev nD) (K : S2048x5632.Idx) : V m c main_v2 K = rd (argU m c) (K 0).val (gcol (K 1).val) :=
  (congrFun (entry_wg m c) K).trans (pad_cols _ 0 gcol gcol_in gcol_out _ _ K)
theorem at_wv (c : Dev nD) (K : S2048x5632.Idx) : V m c main_v5 K = rd (argU m c) (K 0).val (vcol (K 1).val) :=
  (congrFun (entry_wv m c) K).trans (pad_cols _ 5504 vcol (fun _ _ => rfl) vcol_out _ _ K)
theorem at_cwg (c : Dev nD) (K : S3x5632.Idx) : V m c main_v7 K = rd (argW m c) (K 0).val (gcol (K 1).val) :=
  (congrFun (entry_cwg m c) K).trans (pad_cols _ 0 gcol gcol_in gcol_out _ _ K)
theorem at_cwv (c : Dev nD) (K : S3x5632.Idx) : V m c main_v9 K = rd (argW m c) (K 0).val (vcol (K 1).val) :=
  (congrFun (entry_cwv m c) K).trans (pad_cols _ 5504 vcol (fun _ _ => rfl) vcol_out _ _ K)

/-- The same of a vector, laid out as a row. -/
theorem pad_row (A : S11008.Idx → EReal) (off : ℕ) (col : ℕ → ℕ) (hin : ∀ n, n < 5504 → col n = off + n) (hout : ∀ n, 5504 ≤ n → 11008 ≤ col n)
    (hs : S11008.Slices ![off] S5504) (K : S1x5632.Idx) :
    shapeCast S1x5632 (pad S5632 ![0] ![128] ![0] (extractStridedSlice S5504 ![off] A hs) padE pads_S5504_S5632_01280 h_S_) shapeCasts_S5632_S1x5632 K = rd1 A (col (K 1).val) := by
  have h0 : (K 0).val < 1 := (K 0).isLt
  have h1 : (K 1).val < 5632 := (K 1).isLt
  rw [shapeCast_apply _ shapeCasts_S5632_S1x5632 K (ix1 (⟨(K 1).val, h1⟩ : Fin 5632)) (by
    rw [Shape.rowMajor_val_one, Shape.rowMajor_val_two]; show (K 1).val = (K 0).val * 5632 + (K 1).val; omega)]
  by_cases h : (K 1).val < 5504
  · rw [pad_apply_of_inside _ _ _ _ _ pads_S5504_S5632_01280 h_S_ _ (ix1 (⟨(K 1).val, h⟩ : Fin 5504))
      (fun x => match x with | ⟨0, _⟩ => by show (K 1).val = 0 + (K 1).val * (0 + 1); omega)]
    have hc : off + 5504 ≤ 11008 := hs.2 0
    rw [extractStridedSlice_apply ![off] A hs _ (ix1 (⟨off + (K 1).val, by omega⟩ : Fin 11008)) (fun x => match x with | ⟨0, _⟩ => rfl)]
    exact rd1_at A _ _ (hin _ h).symm
  · rw [pad_apply_of_not_inside _ _ _ _ _ pads_S5504_S5632_01280 h_S_ _ 0 (by
      rintro ⟨-, -, h3⟩
      change ((K 1).val - 0) / (0 + 1) < 5504 at h3
      omega), padE_eq, rd1_out A _ (hout _ (by omega))]

theorem at_cbg (c : Dev nD) (K : S1x5632.Idx) : V m c main_v23 K = rd1 (argB m c) (gcol (K 1).val) :=
  (congrFun (entry_cbg m c) K).trans (pad_row _ 0 gcol gcol_in gcol_out _ K)
theorem at_cbv (c : Dev nD) (K : S1x5632.Idx) : V m c main_v24 K = rd1 (argB m c) (vcol (K 1).val) :=
  (congrFun (entry_cbv m c) K).trans (pad_row _ 5504 vcol (fun _ _ => rfl) vcol_out _ K)

theorem at_wd (c : Dev nD) (K : S5632x2048.Idx) : V m c main_v15 K = rd (argD m c) (K 0).val (K 1).val := by
  refine (congrFun (entry_wd m c) K).trans ?_
  by_cases h : (K 0).val < 5504
  · rw [pad_apply_of_inside _ _ _ _ _ pads_S5504x2048_S5632x2048_01280_000 h_S_ K (ix2 (⟨(K 0).val, h⟩ : Fin 5504) (⟨(K 1).val, (K 1).isLt⟩ : Fin 2048))
      (fun x => match x with
        | ⟨0, _⟩ => by show (K 0).val = 0 + (K 0).val * (0 + 1); omega
        | ⟨1, _⟩ => by show (K 1).val = 0 + (K 1).val * (0 + 1); omega)]
    exact rd_at _ _ _ _ rfl rfl
  · rw [pad_apply_of_not_inside _ _ _ _ _ pads_S5504x2048_S5632x2048_01280_000 h_S_ K 0 (by
      rintro ⟨-, -, h3⟩
      change ((K 0).val - 0) / (0 + 1) < 5504 at h3
      omega), padE_eq, rd_row _ _ _ (by omega)]

/-- Zeros padded with zeros are zeros. -/
theorem pad_zero {s t : Shape} (lo hi i : Fin s.rank → ℕ) (x : s.Idx → EReal) (hx : ∀ k, x k = 0) (h : s.Pads lo hi i t) (K : t.Idx) :
    pad t lo hi i x padE h h_S_ K = 0 := by
  unfold pad
  split
  · exact hx _
  · exact padE_eq _
theorem at_hg (c : Dev nD) (K : S2x8x5632.Idx) : V m c main_v20 K = (0 : EReal) :=
  (congrFun (entry_hg m c) K).trans (pad_zero _ _ _ _ (pad_zero _ _ _ _ (fun _ => Ideal.ofBits_zero_f32) _) _ K)
theorem at_hv (c : Dev nD) (K : S2x8x5632.Idx) : V m c main_v22 K = (0 : EReal) :=
  (congrFun (entry_hv m c) K).trans (pad_zero _ _ _ _ (pad_zero _ _ _ _ (fun _ => Ideal.ofBits_zero_f32) _) _ K)

theorem as_row (A : S2048.Idx → EReal) (K : S1x2048.Idx) : shapeCast S1x2048 A shapeCasts_S2048_S1x2048 K = rd1 A (K 1).val := by
  have h0 : (K 0).val < 1 := (K 0).isLt
  have h1 : (K 1).val < 2048 := (K 1).isLt
  rw [shapeCast_apply _ shapeCasts_S2048_S1x2048 K (ix1 (⟨(K 1).val, h1⟩ : Fin 2048)) (by
    rw [Shape.rowMajor_val_one, Shape.rowMajor_val_two]; show (K 1).val = (K 0).val * 2048 + (K 1).val; omega)]
  exact rd1_at A _ _ rfl
theorem at_g (c : Dev nD) (K : S1x2048.Idx) : V m c main_v25 K = rd1 (argG m c) (K 1).val := (congrFun (entry_g m c) K).trans (as_row _ K)
theorem at_b (c : Dev nD) (K : S1x2048.Idx) : V m c main_v26 K = rd1 (argH m c) (K 1).val := (congrFun (entry_b m c) K).trans (as_row _ K)

/-! ## The blocks at an index -/

theorem index0 : ∀ t : Fin cfg0.N, win0_0.index t = ![t.val / 11, 0] := (by decide +kernel : ∀ t : Fin grid0.N, _)
theorem index1 : ∀ t : Fin cfg0.N, win0_1.index t = ![0, t.val % 11] := (by decide +kernel : ∀ t : Fin grid0.N, _)
theorem index2 : ∀ t : Fin cfg0.N, win0_2.index t = ![0, t.val % 11] := (by decide +kernel : ∀ t : Fin grid0.N, _)
theorem index3 : ∀ t : Fin cfg0.N, win0_3.index t = ![0, t.val % 11] := (by decide +kernel : ∀ t : Fin grid0.N, _)
theorem index4 : ∀ t : Fin cfg0.N, win0_4.index t = ![0, t.val % 11] := (by decide +kernel : ∀ t : Fin grid0.N, _)
theorem index5 : ∀ t : Fin cfg0.N, win0_5.index t = ![0, t.val % 11] := (by decide +kernel : ∀ t : Fin grid0.N, _)
theorem index6 : ∀ t : Fin cfg0.N, win0_6.index t = ![0, t.val % 11] := (by decide +kernel : ∀ t : Fin grid0.N, _)
theorem index7 : ∀ t : Fin cfg0.N, win0_7.index t = ![t.val / 11 / 8, 0, t.val % 11] := (by decide +kernel : ∀ t : Fin grid0.N, _)
theorem index8 : ∀ t : Fin cfg0.N, win0_8.index t = ![t.val / 11 / 8, 0, t.val % 11] := (by decide +kernel : ∀ t : Fin grid0.N, _)
theorem index9 : ∀ t : Fin cfg0.N, win0_9.index t = ![t.val % 11, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![t.val / 11, 0] := (by decide +kernel : ∀ t : Fin grid0.N, _)
theorem index13 : ∀ t : Fin cfg0.N, win0_13.index t = ![t.val / 11, 0, t.val % 11] := (by decide +kernel : ∀ t : Fin grid0.N, _)
theorem index14 : ∀ t : Fin cfg0.N, win0_14.index t = ![t.val / 11, 0, t.val % 11] := (by decide +kernel : ∀ t : Fin grid0.N, _)

theorem x_cell (c : Dev nD) (t : Fin cfg0.N) (r : Fin 512) (k : Fin 2048) :
    iblk m c 0 t (ix2 r k : S512x2048.Idx) = rd (argX m c) (512 * (t.val / 11) + r.val) k.val := by
  refine rd_at (argX m c) _ _ _ ?_ ?_
  · blk_simp [index0 t]; change t.val / 11 * 512 + r.val = _; omega
  · blk_simp [index0 t]
theorem wg_cell (c : Dev nD) (t : Fin cfg0.N) (k : Fin 2048) (q : Fin 512) :
    iblk m c 1 t (ix2 k q : S2048x512.Idx) = rd (argU m c) k.val (gcol (512 * (t.val % 11) + q.val)) := by
  refine (at_wg m c _).trans (congrArg₂ (rd (argU m c)) ?_ ?_)
  · blk_simp [index1 t]
  · refine congrArg gcol ?_
    blk_simp [index1 t]; change t.val % 11 * 512 + q.val = _; omega
theorem wv_cell (c : Dev nD) (t : Fin cfg0.N) (k : Fin 2048) (q : Fin 512) :
    iblk m c 2 t (ix2 k q : S2048x512.Idx) = rd (argU m c) k.val (vcol (512 * (t.val % 11) + q.val)) := by
  refine (at_wv m c _).trans (congrArg₂ (rd (argU m c)) ?_ ?_)
  · blk_simp [index2 t]
  · refine congrArg vcol ?_
    blk_simp [index2 t]; change t.val % 11 * 512 + q.val = _; omega
theorem cwg_cell (c : Dev nD) (t : Fin cfg0.N) (k : Fin 3) (q : Fin 512) :
    iblk m c 3 t (ix2 k q : S3x512.Idx) = rd (argW m c) k.val (gcol (512 * (t.val % 11) + q.val)) := by
  refine (at_cwg m c _).trans (congrArg₂ (rd (argW m c)) ?_ ?_)
  · blk_simp [index3 t]
  · refine congrArg gcol ?_
    blk_simp [index3 t]; change t.val % 11 * 512 + q.val = _; omega
theorem cwv_cell (c : Dev nD) (t : Fin cfg0.N) (k : Fin 3) (q : Fin 512) :
    iblk m c 4 t (ix2 k q : S3x512.Idx) = rd (argW m c) k.val (vcol (512 * (t.val % 11) + q.val)) := by
  refine (at_cwv m c _).trans (congrArg₂ (rd (argW m c)) ?_ ?_)
  · blk_simp [index4 t]
  · refine congrArg vcol ?_
    blk_simp [index4 t]; change t.val % 11 * 512 + q.val = _; omega
theorem cbg_cell (c : Dev nD) (t : Fin cfg0.N) (q : Fin 512) :
    iblk m c 5 t (ix2 (0 : Fin 1) q : S1x512.Idx) = rd1 (argB m c) (gcol (512 * (t.val % 11) + q.val)) := by
  refine (at_cbg m c _).trans (congrArg (fun n => rd1 (argB m c) (gcol n)) ?_)
  blk_simp [index5 t]; change t.val % 11 * 512 + q.val = _; omega
theorem cbv_cell (c : Dev nD) (t : Fin cfg0.N) (q : Fin 512) :
    iblk m c 6 t (ix2 (0 : Fin 1) q : S1x512.Idx) = rd1 (argB m c) (vcol (512 * (t.val % 11) + q.val)) := by
  refine (at_cbv m c _).trans (congrArg (fun n => rd1 (argB m c) (vcol n)) ?_)
  blk_simp [index6 t]; change t.val % 11 * 512 + q.val = _; omega
theorem hg_cell (c : Dev nD) (t : Fin cfg0.N) (y : S1x8x512.Idx) : iblk m c 7 t y = (0 : EReal) := at_hg m c _
theorem hv_cell (c : Dev nD) (t : Fin cfg0.N) (y : S1x8x512.Idx) : iblk m c 8 t y = (0 : EReal) := at_hv m c _
theorem wd_cell (c : Dev nD) (t : Fin cfg0.N) (q : Fin 512) (k : Fin 2048) :
    iblk m c 9 t (ix2 q k : S512x2048.Idx) = rd (argD m c) (512 * (t.val % 11) + q.val) k.val := by
  refine (at_wd m c _).trans (congrArg₂ (rd (argD m c)) ?_ ?_)
  · blk_simp [index9 t]; change t.val % 11 * 512 + q.val = _; omega
  · blk_simp [index9 t]
theorem g_cell (c : Dev nD) (t : Fin cfg0.N) (k : Fin 2048) :
    iblk m c 10 t (ix2 (0 : Fin 1) k : S1x2048.Idx) = rd1 (argG m c) k.val := by
  refine (at_g m c _).trans (congrArg (rd1 (argG m c)) ?_)
  blk_simp [index10 t]
theorem b_cell (c : Dev nD) (t : Fin cfg0.N) (k : Fin 2048) :
    iblk m c 11 t (ix2 (0 : Fin 1) k : S1x2048.Idx) = rd1 (argH m c) k.val := by
  refine (at_b m c _).trans (congrArg (rd1 (argH m c)) ?_)
  blk_simp [index11 t]

end Cert.Kernel2Ideal.Hand

end
-- ==== Proof.Ffn.Value.lean ====
/-
  One grid point of the feed-forward kernel read at an index, over the extended reals: the up projection of a block, the
  rows the three taps read, the convolution, the accumulated down projection, and the normalised result.
-/
module

public import proofs.«01_k».proof.Proof.Ffn.Block
public import proofs.«01_k».proof.Proof.Ffn.Math
public import Idealize.ShloMosaic.Lib.Pipeline.Value
public import Idealize.ShloMosaic.Lib.MatmulPlain

@[expose] public section

set_option maxRecDepth 8192

noncomputable section

namespace Cert.Kernel2Ideal.Hand

open Idealize.ShloMosaic hiding ix1 ix2 ix3 ix4 eq_ix2 eq_ix3 eq_ix4
open Idealize.ShloMosaic.ValueIdx Idealize.ShloMosaic.TcCoe
open Cert.Kernel2Ideal.Gen Cert.ConvFfn

/-- The up projection of a block. -/
def upB (x : Vec Ideal S512x2048 .bf16) (w : Vec Ideal S2048x512 .bf16) (r q : Fin 512) : EReal :=
  ∑ k : Fin 2048, (x (ix2 r k) : EReal) * w (ix2 k q)

theorem mm_up (x : FVec Ideal S512x2048 .bf16) (w : FVec Ideal S2048x256 .bf16) (r : Fin 512) (q : Fin 256) :
    matmul dot_S512x2048_S2048x256_S512x256_1_0_0_1_n_n none x w (constant S512x256 .f32 0x00000000#32) (ix2 r q)
      = ∑ k : Fin 2048, (x (ix2 r k) : EReal) * w (ix2 k q) :=
  (Ideal.matmul_plain_apply (M := 512) (K := 2048) (N := 256) none _ _ _ r q).trans
    (by rw [show constant (F := Ideal) S512x256 .f32 0x00000000#32 (ix2 r q) = 0 from Ideal.ofBits_zero_f32, zero_add])

theorem mm_down (x : FVec Ideal S512x256 .bf16) (w : FVec Ideal S256x2048 .bf16) (r : Fin 512) (k : Fin 2048) :
    matmul dot_S512x256_S256x2048_S512x2048_1_0_0_1_n_n none x w (constant S512x2048 .f32 0x00000000#32) (ix2 r k)
      = ∑ q : Fin 256, (x (ix2 r q) : EReal) * w (ix2 q k) :=
  (Ideal.matmul_plain_apply (M := 512) (K := 256) (N := 2048) none _ _ _ r k).trans
    (by rw [show constant (F := Ideal) S512x2048 .f32 0x00000000#32 (ix2 r k) = 0 from Ideal.ofBits_zero_f32, zero_add])

/-- A vector cast to its own shape. -/
theorem cast_self {α : Type} {s : Shape} (v : s.Idx → α) (h : s.ShapeCasts s) (i : s.Idx) : shapeCast s v h i = v i :=
  shapeCast_apply v h i i rfl

/-- The first and the second half of the columns. -/
abbrev loC (q : Fin 256) : Fin 512 := ⟨q.val, by omega⟩
abbrev hiC (q : Fin 256) : Fin 512 := ⟨256 + q.val, by omega⟩

theorem uLo_apply (x : Vec Ideal S512x2048 .bf16) (w : Vec Ideal S2048x512 .bf16) (r : Fin 512) (q : Fin 256) :
    uLo x w (ix2 r q) = upB x w r (loC q) := by
  refine (mm_up x _ r q).trans (Finset.sum_congr rfl fun k _ => congrArg (_ * ·) ?_)
  refine (cast_self _ _ _).trans (congrArg w (funext fun a => Fin.ext ?_))
  fin_cases a
  · change 0 + 1 * k.val = k.val; omega
  · change 0 + 1 * q.val = q.val; omega

theorem uHi_apply (x : Vec Ideal S512x2048 .bf16) (w : Vec Ideal S2048x512 .bf16) (r : Fin 512) (q : Fin 256) :
    uHi x w (ix2 r q) = upB x w r (hiC q) := by
  refine (mm_up x _ r q).trans (Finset.sum_congr rfl fun k _ => congrArg (_ * ·) ?_)
  refine (cast_self _ _ _).trans (congrArg w (funext fun a => Fin.ext ?_))
  fin_cases a
  · change 0 + 1 * k.val = k.val; omega
  · change 256 + 1 * q.val = 256 + q.val; omega

/-- The last rows of a block's up projection. -/
theorem tail_apply (x : Vec Ideal S512x2048 .bf16) (w : Vec Ideal S2048x512 .bf16) (r : Fin 8) (q : Fin 512) :
    tailOf (uLo x w) (uHi x w) (ix3 (0 : Fin 1) r q) = upB x w (⟨504 + r.val, by omega⟩ : Fin 512) q := by
  by_cases h : q.val < 256
  · rw [tailOf_lo _ _ r q h, uLo_apply]
  · rw [tailOf_hi _ _ r q h, uHi_apply]
    exact congrArg (upB x w _) (Fin.ext (by show 256 + (q.val - 256) = q.val; omega))

/-- The row that tap `o - 6` reads for a row of the block. -/
def tapB (o : ℕ) (ho : o ≤ 8) (p : Vec Ideal S1x8x512 .f32) (x : Vec Ideal S512x2048 .bf16) (w : Vec Ideal S2048x512 .bf16) (r q : Fin 512) : EReal :=
  if h : r.val + o < 8 then p (ix3 (0 : Fin 1) (⟨r.val + o, h⟩ : Fin 8) q) else upB x w (⟨r.val + o - 8, by omega⟩ : Fin 512) q

theorem tap_lo (o : ℕ) (ho : o ≤ 8) (p : Vec Ideal S1x8x512 .f32) (x : Vec Ideal S512x2048 .bf16) (w : Vec Ideal S2048x512 .bf16) (r : Fin 512) (q : Fin 256) :
    tap o ho p 0 (by decide) (uLo x w) (ix4 (0 : Fin 1) (0 : Fin 1) r q) = tapB o ho p x w r (loC q) := by
  unfold tap tapOf tapB
  by_cases h : r.val + o < 8
  · rw [dif_pos h, dif_pos h]
    exact congrArg p (congrArg (ix3 _ _) (Fin.ext (by show 0 + q.val = q.val; omega)))
  · rw [dif_neg h, dif_neg h]
    exact uLo_apply x w _ q

theorem tap_hi (o : ℕ) (ho : o ≤ 8) (p : Vec Ideal S1x8x512 .f32) (x : Vec Ideal S512x2048 .bf16) (w : Vec Ideal S2048x512 .bf16) (r : Fin 512) (q : Fin 256) :
    tap o ho p 256 (by decide) (uHi x w) (ix4 (0 : Fin 1) (0 : Fin 1) r q) = tapB o ho p x w r (hiC q) := by
  unfold tap tapOf tapB
  by_cases h : r.val + o < 8
  · rw [dif_pos h, dif_pos h]
    rfl
  · rw [dif_neg h, dif_neg h]
    exact uHi_apply x w _ q

/-! ## The convolution and the hidden units -/

/-- A tap's view without its leading axis. -/
theorem cast4 (v : FVec Ideal S1x1x512x256 .f32) (r : Fin 512) (q : Fin 256) :
    shapeCast S1x512x256 v shapeCasts_S1x1x512x256_S1x512x256 (ix3 (0 : Fin 1) r q) = v (ix4 (0 : Fin 1) (0 : Fin 1) r q) :=
  shapeCast_apply v _ _ _ (by rw [Shape.rowMajor_val_four, Shape.rowMajor_val_three]; rfl)

/-- A row of weights broadcast down the block. -/
theorem row_bc (v : Vec Ideal S1x256 .f32) (r : Fin 512) (q : Fin 256) :
    broadcastTo S1x512x256 (shapeCast S1x1x256 (shapeCast S1x256 v shapeCasts_S1x256_S1x256) shapeCasts_S1x256_S1x1x256) broadcasts_S1x1x256_S1x512x256 (ix3 (0 : Fin 1) r q)
      = v (ix2 (0 : Fin 1) q) :=
  (broadcastTo_apply _ broadcasts_S1x1x256_S1x512x256 (ix3 (0 : Fin 1) r q) (ix3 (0 : Fin 1) (0 : Fin 1) q)
    (fun a => match a with | ⟨0, _⟩ => rfl | ⟨1, _⟩ => rfl | ⟨2, _⟩ => rfl)).trans
  ((shapeCast_apply _ shapeCasts_S1x256_S1x1x256 (ix3 (0 : Fin 1) (0 : Fin 1) q) (ix2 (0 : Fin 1) q)
    (by rw [Shape.rowMajor_val_two, Shape.rowMajor_val_three]; rfl)).trans (cast_self v _ _))

/-- The convolution from its three views, weights and bias. -/
def cv (a₆ a₇ a₈ w₀ w₁ w₂ b : EReal) : EReal := a₆ * w₀ + a₇ * w₁ + a₈ * w₂ + b

theorem conv_lo_g (t₆ t₇ t₈ : FVec Ideal S1x1x512x256 .f32) (w₀ w₁ w₂ b : Vec Ideal S1x256 .f32) (r : Fin 512) (q : Fin 256) :
    k0_pay16 (k0_pay15 t₆ w₀) t₇ w₁ t₈ w₂ b (ix3 (0 : Fin 1) r q)
      = cv (t₆ (ix4 (0 : Fin 1) (0 : Fin 1) r q)) (t₇ (ix4 (0 : Fin 1) (0 : Fin 1) r q)) (t₈ (ix4 (0 : Fin 1) (0 : Fin 1) r q))
          (w₀ (ix2 (0 : Fin 1) q)) (w₁ (ix2 (0 : Fin 1) q)) (w₂ (ix2 (0 : Fin 1) q)) (b (ix2 (0 : Fin 1) q)) := by
  unfold cv
  rw [← cast4 t₆, ← cast4 t₇, ← cast4 t₈, ← row_bc w₀ r q, ← row_bc w₁ r q, ← row_bc w₂ r q, ← row_bc b r q]
  rfl

theorem conv_hi_g (t₆ t₇ t₈ : FVec Ideal S1x1x512x256 .f32) (w₀ w₁ w₂ b : Vec Ideal S1x256 .f32) (r : Fin 512) (q : Fin 256) :
    k0_pay34 (k0_pay32 t₆ w₀ t₇ w₁ t₈ w₂) (k0_pay33 b) (ix3 (0 : Fin 1) r q)
      = cv (t₆ (ix4 (0 : Fin 1) (0 : Fin 1) r q)) (t₇ (ix4 (0 : Fin 1) (0 : Fin 1) r q)) (t₈ (ix4 (0 : Fin 1) (0 : Fin 1) r q))
          (w₀ (ix2 (0 : Fin 1) q)) (w₁ (ix2 (0 : Fin 1) q)) (w₂ (ix2 (0 : Fin 1) q)) (b (ix2 (0 : Fin 1) q)) := by
  unfold cv
  rw [← cast4 t₆, ← cast4 t₇, ← cast4 t₈, ← row_bc w₀ r q, ← row_bc w₁ r q, ← row_bc w₂ r q, ← row_bc b r q]
  rfl

/-- The hidden units without their leading axis. -/
theorem hid_cast (v : FVec Ideal S1x512x256 .f32) (r : Fin 512) (q : Fin 256) :
    (truncf .bf16 (shapeCast S512x256 v shapeCasts_S1x512x256_S512x256 : FVec Ideal S512x256 .f32) bitsLt_bf16_f32 : FVec Ideal S512x256 .bf16) (ix2 r q) = v (ix3 (0 : Fin 1) r q) := by
  show shapeCast S512x256 v shapeCasts_S1x512x256_S512x256 (ix2 r q) = _
  exact shapeCast_apply v shapeCasts_S1x512x256_S512x256 (ix2 r q) (ix3 (0 : Fin 1) r q)
    (by rw [Shape.rowMajor_val_two, Shape.rowMajor_val_three]; show (0 * 512 + r.val) * 256 + q.val = r.val * 256 + q.val; omega)
theorem pay1_apply (v : FVec Ideal S512x2048 .f32) (i : S512x2048.Idx) : k0_pay1 v i = v i := cast_self _ _ _

/-- The left half of a block's hidden units times their rows of the down weights. -/
theorem down_lo (g : FVec Ideal S1x512x256 .f32) (t₆ t₇ t₈ : FVec Ideal S1x1x512x256 .f32) (w₀ w₁ w₂ b : Vec Ideal S1x256 .f32) (wd : Vec Ideal S256x2048 .bf16)
    (r : Fin 512) (k : Fin 2048) :
    k0_pay25 g (k0_pay23 t₆ w₀ t₇ w₁) (k0_pay24 t₈ w₂) b wd (ix2 r k)
      = ∑ q : Fin 256, glu (g (ix3 (0 : Fin 1) r q))
          (cv (t₆ (ix4 (0 : Fin 1) (0 : Fin 1) r q)) (t₇ (ix4 (0 : Fin 1) (0 : Fin 1) r q)) (t₈ (ix4 (0 : Fin 1) (0 : Fin 1) r q))
            (w₀ (ix2 (0 : Fin 1) q)) (w₁ (ix2 (0 : Fin 1) q)) (w₂ (ix2 (0 : Fin 1) q)) (b (ix2 (0 : Fin 1) q))) * wd (ix2 q k) := by
  refine (mm_down _ _ r k).trans (Finset.sum_congr rfl fun q _ => congrArg₂ (fun a b : EReal => a * b) ?_ (cast_self wd _ _))
  refine (hid_cast _ r q).trans ?_
  unfold glu cv
  rw [← cast4 t₆, ← cast4 t₇, ← cast4 t₈, ← row_bc w₀ r q, ← row_bc w₁ r q, ← row_bc w₂ r q, ← row_bc b r q,
    ← Ideal.ofBits_zero_f32, ← Ideal.ofBits_one_f32]
  rfl

/-- The right half likewise, added to the left half and to the accumulator. -/
theorem down_hi (y : FVec Ideal S512x2048 .f32) (g : FVec Ideal S1x512x256 .f32) (t₆ t₇ t₈ : FVec Ideal S1x1x512x256 .f32) (w₀ w₁ w₂ b : Vec Ideal S1x256 .f32)
    (wd : Vec Ideal S256x2048 .bf16) (acc : Vec Ideal S512x2048 .f32) (r : Fin 512) (k : Fin 2048) :
    k0_pay1 (k0_pay41 y g (k0_pay40 t₆ w₀) t₇ w₁ t₈ w₂ b wd acc) (ix2 r k)
      = acc (ix2 r k) + (y (ix2 r k) + ∑ q : Fin 256, glu (g (ix3 (0 : Fin 1) r q))
          (cv (t₆ (ix4 (0 : Fin 1) (0 : Fin 1) r q)) (t₇ (ix4 (0 : Fin 1) (0 : Fin 1) r q)) (t₈ (ix4 (0 : Fin 1) (0 : Fin 1) r q))
            (w₀ (ix2 (0 : Fin 1) q)) (w₁ (ix2 (0 : Fin 1) q)) (w₂ (ix2 (0 : Fin 1) q)) (b (ix2 (0 : Fin 1) q))) * wd (ix2 q k)) := by
  rw [pay1_apply]
  refine (congrArg (fun a : EReal => (acc (ix2 r k) : EReal) + (y (ix2 r k) + a)) ?_)
  refine (mm_down _ _ r k).trans (Finset.sum_congr rfl fun q _ => congrArg₂ (fun a b : EReal => a * b) ?_ (cast_self wd _ _))
  refine (hid_cast _ r q).trans ?_
  unfold glu cv
  rw [← cast4 t₆, ← cast4 t₇, ← cast4 t₈, ← row_bc w₀ r q, ← row_bc w₁ r q, ← row_bc w₂ r q, ← row_bc b r q,
    ← Ideal.ofBits_zero_f32, ← Ideal.ofBits_one_f32]
  rfl

/-- The convolution at a row and a column of the block. -/
def cvB (p : Vec Ideal S1x8x512 .f32) (x : Vec Ideal S512x2048 .bf16) (w : Vec Ideal S2048x512 .bf16) (cw : Vec Ideal S3x512 .f32) (cb : Vec Ideal S1x512 .f32)
    (r q : Fin 512) : EReal :=
  cv (tapB 6 (by decide) p x w r q) (tapB 7 (by decide) p x w r q) (tapB 8 (by decide) p x w r q)
    (cw (ix2 (0 : Fin 3) q)) (cw (ix2 (1 : Fin 3) q)) (cw (ix2 (2 : Fin 3) q)) (cb (ix2 (0 : Fin 1) q))

/-- Parts of the weights' blocks. -/
theorem ld3 (cw : Vec Ideal S3x512 .f32) (a : Fin 3) (n : ℕ) (ha : a.val = n) (o : ℕ) (h) (q : Fin 256) (q' : Fin 512) (hq : q'.val = o + q.val) :
    View.ld cw (Rect.unit (s := S3x512) ![n, o] S1x256.size h) (ix2 (0 : Fin 1) q : S1x256.Idx) = cw (ix2 a q') := by
  refine congrArg cw (funext fun b => Fin.ext ?_)
  fin_cases b
  · change n + 1 * 0 = a.val; omega
  · change o + 1 * q.val = q'.val; omega
theorem ld1 (cb : Vec Ideal S1x512 .f32) (o : ℕ) (h) (q : Fin 256) (q' : Fin 512) (hq : q'.val = o + q.val) :
    View.ld cb (Rect.unit (s := S1x512) ![0, o] S1x256.size h) (ix2 (0 : Fin 1) q : S1x256.Idx) = cb (ix2 (0 : Fin 1) q') := by
  refine congrArg cb (funext fun b => Fin.ext ?_)
  fin_cases b
  · rfl
  · change o + 1 * q.val = q'.val; omega
theorem ldw (wd : Vec Ideal S512x2048 .bf16) (o : ℕ) (h) (q : Fin 256) (q' : Fin 512) (k : Fin 2048) (hq : q'.val = o + q.val) :
    View.ld wd (Rect.unit (s := S512x2048) ![o, 0] S256x2048.size h) (ix2 q k : S256x2048.Idx) = wd (ix2 q' k) := by
  refine congrArg wd (funext fun b => Fin.ext ?_)
  fin_cases b
  · change o + 1 * q.val = q'.val; omega
  · change 0 + 1 * k.val = k.val; omega

/-- The accumulator after a point, at an index. -/
theorem accOf_apply (x : Vec Ideal S512x2048 .bf16) (wg wv : Vec Ideal S2048x512 .bf16) (cwg cwv : Vec Ideal S3x512 .f32) (cbg cbv : Vec Ideal S1x512 .f32)
    (pg pv : Vec Ideal S1x8x512 .f32) (wd : Vec Ideal S512x2048 .bf16) (acc : Vec Ideal S512x2048 .f32) (r : Fin 512) (k : Fin 2048) :
    accOf x wg wv cwg cwv cbg cbv pg pv wd acc (ix2 r k)
      = acc (ix2 r k) + ∑ q : Fin 512, glu (cvB pg x wg cwg cbg r q) (cvB pv x wv cwv cbv r q) * wd (ix2 q k) := by
  unfold accOf
  rw [down_hi, down_lo]
  refine congrArg (fun a : EReal => (acc (ix2 r k) : EReal) + a) (Eq.trans ?_ (Fin.sum_univ_add (a := 256) (b := 256) _).symm)
  refine congrArg₂ (fun a b : EReal => a + b) (Finset.sum_congr rfl fun q _ => ?_) (Finset.sum_congr rfl fun q _ => ?_)
  · refine congrArg₂ (fun a b : EReal => a * b) (congrArg₂ glu ?_ ?_) (ldw wd 0 _ q (loC q) k (Nat.zero_add _).symm)
    · rw [conv_lo_g, tap_lo, tap_lo, tap_lo]
      unfold cvB
      rw [ld3 cwg 0 0 rfl 0 _ q (loC q) (Nat.zero_add _).symm, ld3 cwg 1 1 rfl 0 _ q (loC q) (Nat.zero_add _).symm, ld3 cwg 2 2 rfl 0 _ q (loC q) (Nat.zero_add _).symm,
        ld1 cbg 0 _ q (loC q) (Nat.zero_add _).symm]
      rfl
    · rw [tap_lo, tap_lo, tap_lo]
      unfold cvB
      rw [ld3 cwv 0 0 rfl 0 _ q (loC q) (Nat.zero_add _).symm, ld3 cwv 1 1 rfl 0 _ q (loC q) (Nat.zero_add _).symm, ld3 cwv 2 2 rfl 0 _ q (loC q) (Nat.zero_add _).symm,
        ld1 cbv 0 _ q (loC q) (Nat.zero_add _).symm]
      rfl
  · refine congrArg₂ (fun a b : EReal => a * b) (congrArg₂ glu ?_ ?_) (ldw wd 256 _ q (hiC q) k rfl)
    · rw [conv_hi_g, tap_hi, tap_hi, tap_hi]
      unfold cvB
      rw [ld3 cwg 0 0 rfl 256 _ q (hiC q) rfl, ld3 cwg 1 1 rfl 256 _ q (hiC q) rfl, ld3 cwg 2 2 rfl 256 _ q (hiC q) rfl, ld1 cbg 256 _ q (hiC q) rfl]
      rfl
    · rw [tap_hi, tap_hi, tap_hi]
      unfold cvB
      rw [ld3 cwv 0 0 rfl 256 _ q (hiC q) rfl, ld3 cwv 1 1 rfl 256 _ q (hiC q) rfl, ld3 cwv 2 2 rfl 256 _ q (hiC q) rfl, ld1 cbv 256 _ q (hiC q) rfl]
      rfl

/-! ## The normalised result -/

/-- A row's sum, over the row's length, broadcast along the row. -/
theorem mean_bc (v : FVec Ideal S512x2048 .f32) (r : Fin 512) :
    divf (shapeCast S512x1 (multiReduction .add [1] S512 v 0x00000000#32 reduces_S512x2048_S512 (.inl rfl) rfl) shapeCasts_S512_S512x1 : FVec Ideal S512x1 .f32)
        (broadcast S512x1 (Scalar.ofBits .f32 0x45000000#32)) (ix2 r (0 : Fin 1))
      = mean fun k => v (ix2 r k) := by
  refine congrArg (fun a : EReal => Ideal.div a (Ideal.ofBits .f32 0x45000000#32)) ?_
  refine (shapeCast_apply _ shapeCasts_S512_S512x1 (ix2 r (0 : Fin 1)) (ix1 r) (by rw [Shape.rowMajor_val_one, Shape.rowMajor_val_two]; show r.val = r.val * 1 + 0; omega)).trans
    ((Ideal.multiReduction_add_single v _ reduces_S512x2048_S512 (.inl rfl) rfl (ix1 r)).trans ?_)
  refine Finset.sum_congr rfl fun k _ => ?_
  have hi : reduces_S512x2048_S512.lift (ix1 r) k = (ix2 r k : S512x2048.Idx) := funext fun a => match a with | ⟨0, _⟩ => rfl | ⟨1, _⟩ => rfl
  exact congrArg v hi

theorem col_bc (v : FVec Ideal S512x1 .f32) (r : Fin 512) (k : Fin 2048) :
    broadcastTo S512x2048 v broadcasts_S512x1_S512x2048 (ix2 r k) = v (ix2 r (0 : Fin 1)) :=
  broadcastTo_apply v broadcasts_S512x1_S512x2048 (ix2 r k) (ix2 r 0) (fun a => match a with | ⟨0, _⟩ => rfl | ⟨1, _⟩ => rfl)
theorem gain_bc (v : Vec Ideal S1x2048 .f32) (r : Fin 512) (k : Fin 2048) :
    broadcastTo S512x2048 (shapeCast S1x2048 v shapeCasts_S1x2048_S1x2048) broadcasts_S1x2048_S512x2048 (ix2 r k) = v (ix2 (0 : Fin 1) k) :=
  (broadcastTo_apply _ broadcasts_S1x2048_S512x2048 (ix2 r k) (ix2 (0 : Fin 1) k) (fun a => match a with | ⟨0, _⟩ => rfl | ⟨1, _⟩ => rfl)).trans (cast_self v _ _)

/-- The normalised result at an index. -/
theorem pay2_apply (x acc : Vec Ideal S512x2048 .f32) (g b : Vec Ideal S1x2048 .f32) (r : Fin 512) (k : Fin 2048) :
    k0_pay2 x acc g b (ix2 r k) = norm (fun l => Ideal.ofBits .f32 0x3FB504F3#32 * x (ix2 r l) + acc (ix2 r l)) (g (ix2 (0 : Fin 1) k)) (b (ix2 (0 : Fin 1) k)) k := by
  let h : FVec Ideal S512x2048 .f32 := addf (mulf (broadcast S512x2048 (Scalar.ofBits .f32 0x3FB504F3#32)) x) acc
  let M (v : FVec Ideal S512x2048 .f32) : FVec Ideal S512x1 .f32 :=
    divf (shapeCast S512x1 (multiReduction .add [1] S512 v 0x00000000#32 reduces_S512x2048_S512 (.inl rfl) rfl) shapeCasts_S512_S512x1) (broadcast S512x1 (Scalar.ofBits .f32 0x45000000#32))
  let d : FVec Ideal S512x2048 .f32 := subf h (broadcastTo S512x2048 (M h) broadcasts_S512x1_S512x2048)
  have hd : ∀ l : Fin 2048, d (ix2 r l) = (h (ix2 r l) : EReal) - mean fun e => h (ix2 r e) := fun l =>
    congrArg (fun a : EReal => (h (ix2 r l) : EReal) - a) ((col_bc _ r l).trans (mean_bc h r))
  have hv : M (mulf d d) (ix2 r (0 : Fin 1)) = mean fun l => (h (ix2 r l) - mean fun e => h (ix2 r e)) * (h (ix2 r l) - mean fun e => h (ix2 r e)) :=
    (mean_bc (mulf d d) r).trans (congrArg mean (funext fun l => congrArg₂ (fun a b : EReal => a * b) (hd l) (hd l)))
  have key : k0_pay2 x acc g b (ix2 r k)
      = (d (ix2 r k) : EReal) * broadcastTo S512x2048 (rsqrt (addf (M (mulf d d)) (broadcast S512x1 (Scalar.ofBits .f32 0x3727C5AC#32)))) broadcasts_S512x1_S512x2048 (ix2 r k)
        * broadcastTo S512x2048 (shapeCast S1x2048 g shapeCasts_S1x2048_S1x2048) broadcasts_S1x2048_S512x2048 (ix2 r k)
        + broadcastTo S512x2048 (shapeCast S1x2048 b shapeCasts_S1x2048_S1x2048) broadcasts_S1x2048_S512x2048 (ix2 r k) := rfl
  rw [key, gain_bc, gain_bc, col_bc, hd]
  refine congrArg₂ (fun a b : EReal => a + b) (congrArg₂ (fun a b : EReal => a * b) (congrArg₂ (fun a b : EReal => a * b) rfl ?_) rfl) rfl
  exact congrArg (fun a : EReal => Ideal.rsqrt (a + Ideal.ofBits .f32 0x3727C5AC#32)) hv

end Cert.Kernel2Ideal.Hand

end
-- ==== Proof.Ffn.Array.lean ====
/-
  The feed-forward kernel's output arrays: a point's blocks are the formula's at its rows and columns, the accumulator
  gathers the down projection over a tile's eleven points, and the blocks cover the arrays.
-/
module

public import proofs.«01_k».proof.Proof.Ffn.Entry
public import proofs.«01_k».proof.Proof.Ffn.Value

@[expose] public section

set_option maxRecDepth 8192

noncomputable section

namespace Cert.Kernel2Ideal.Hand

open Idealize.ShloMosaic hiding ix1 ix2 ix3 ix4 eq_ix2 eq_ix3 eq_ix4
open Idealize.ShloMosaic.ValueIdx Idealize.ShloMosaic.TcCoe Idealize.ShloMosaic.Tactic
open Idealize.SL.Sem
open Idealize.ShloMosaic.Pipeline (Dat)
open Cert.Kernel2Ideal.Gen Cert.ConvFfn

variable (m : (ℓ : Loc nD τ sig) → Buf (Elt Ideal) ℓ)

theorem t_lt (t : Fin cfg0.N) : t.val < 176 := Nat.lt_of_lt_of_eq t.isLt N_0

/-- The rounded rows are the input's. -/
theorem xAt_cell (c : Dev nD) (t : Fin cfg0.N) (r : Fin 512) (k : Fin 2048) :
    xAt m c t (ix2 r k) = rd (argX m c) (512 * (t.val / 11) + r.val) k.val :=
  (cast_self _ _ _).trans (x_cell m c t r k)

/-- The up projection of a point's block. -/
theorem up_g (c : Dev nD) (t : Fin cfg0.N) (r q : Fin 512) :
    upB (xAt m c t) (iblk m c 1 t) r q = proj (argX m c) (argU m c) (512 * (t.val / 11) + r.val) (gcol (512 * (t.val % 11) + q.val)) :=
  Finset.sum_congr rfl fun k _ => congrArg₂ (fun a b : EReal => a * b) (xAt_cell m c t r k) (wg_cell m c t k q)
theorem up_v (c : Dev nD) (t : Fin cfg0.N) (r q : Fin 512) :
    upB (xAt m c t) (iblk m c 2 t) r q = proj (argX m c) (argU m c) (512 * (t.val / 11) + r.val) (vcol (512 * (t.val % 11) + q.val)) :=
  Finset.sum_congr rfl fun k _ => congrArg₂ (fun a b : EReal => a * b) (xAt_cell m c t r k) (wv_cell m c t k q)

/-- A point's last rows. -/
theorem tg_cell (c : Dev nD) (t : Fin cfg0.N) (r : Fin 8) (q : Fin 512) :
    tgAt m c t (ix3 (0 : Fin 1) r q) = proj (argX m c) (argU m c) (512 * (t.val / 11) + (504 + r.val)) (gcol (512 * (t.val % 11) + q.val)) :=
  (tail_apply _ _ r q).trans (up_g m c t _ q)
theorem tv_cell (c : Dev nD) (t : Fin cfg0.N) (r : Fin 8) (q : Fin 512) :
    tvAt m c t (ix3 (0 : Fin 1) r q) = proj (argX m c) (argU m c) (512 * (t.val / 11) + (504 + r.val)) (vcol (512 * (t.val % 11) + q.val)) :=
  (tail_apply _ _ r q).trans (up_v m c t _ q)

theorem pt_val (n : ℕ) (h : n < 176) : (pt n).val = n := Nat.mod_eq_of_lt h

/-- The rows before a point's tile. -/
theorem pg_cell (c : Dev nD) (t : Fin cfg0.N) (r : Fin 8) (q : Fin 512) :
    pgAt m c t (ix3 (0 : Fin 1) r q) = if t.val / 11 % 8 = 0 then 0
      else proj (argX m c) (argU m c) (512 * (t.val / 11) + r.val - 8) (gcol (512 * (t.val % 11) + q.val)) := by
  have ht := t_lt t
  unfold pgAt
  by_cases h : t.val / 11 % 8 = 0
  · rw [if_pos h, (head_at t).mpr h]
    exact (select_one _ _).trans (hg_cell m c t _)
  · rw [if_neg h, eq_zero_of_ne_one fun e => h ((head_at t).mp e)]
    refine (select_zero _ _).trans ((tg_cell m c (pt (t.val - 11)) r q).trans ?_)
    have hv : (pt (t.val - 11)).val = t.val - 11 := pt_val _ (by omega)
    rw [hv]
    refine congrArg₂ (proj (argX m c) (argU m c)) (by omega) (congrArg gcol (by omega))
theorem pv_cell (c : Dev nD) (t : Fin cfg0.N) (r : Fin 8) (q : Fin 512) :
    pvAt m c t (ix3 (0 : Fin 1) r q) = if t.val / 11 % 8 = 0 then 0
      else proj (argX m c) (argU m c) (512 * (t.val / 11) + r.val - 8) (vcol (512 * (t.val % 11) + q.val)) := by
  have ht := t_lt t
  unfold pvAt
  by_cases h : t.val / 11 % 8 = 0
  · rw [if_pos h, (head_at t).mpr h]
    exact (select_one _ _).trans (hv_cell m c t _)
  · rw [if_neg h, eq_zero_of_ne_one fun e => h ((head_at t).mp e)]
    refine (select_zero _ _).trans ((tv_cell m c (pt (t.val - 11)) r q).trans ?_)
    have hv : (pt (t.val - 11)).val = t.val - 11 := pt_val _ (by omega)
    rw [hv]
    refine congrArg₂ (proj (argX m c) (argU m c)) (by omega) (congrArg vcol (by omega))

/-- The three views of a half. -/
theorem tap_g (c : Dev nD) (t : Fin cfg0.N) (o : ℕ) (ho : o ≤ 8) (ho' : 6 ≤ o) (r q : Fin 512) :
    tapB o ho (pgAt m c t) (xAt m c t) (iblk m c 1 t) r q
      = prev (argX m c) (argU m c) (8 - o) (512 * (t.val / 11) + r.val) (gcol (512 * (t.val % 11) + q.val)) := by
  unfold tapB prev
  by_cases h : r.val + o < 8
  · rw [dif_pos h, pg_cell]
    by_cases h8 : t.val / 11 % 8 = 0
    · rw [if_pos h8, if_pos (by omega)]
    · rw [if_neg h8, if_neg (by omega)]
      exact congrArg (proj _ _ · _) (by show 512 * (t.val / 11) + (r.val + o) - 8 = _; omega)
  · rw [dif_neg h, up_g, if_neg (by omega)]
    exact congrArg (proj _ _ · _) (by show 512 * (t.val / 11) + (r.val + o - 8) = _; omega)
theorem tap_v (c : Dev nD) (t : Fin cfg0.N) (o : ℕ) (ho : o ≤ 8) (ho' : 6 ≤ o) (r q : Fin 512) :
    tapB o ho (pvAt m c t) (xAt m c t) (iblk m c 2 t) r q
      = prev (argX m c) (argU m c) (8 - o) (512 * (t.val / 11) + r.val) (vcol (512 * (t.val % 11) + q.val)) := by
  unfold tapB prev
  by_cases h : r.val + o < 8
  · rw [dif_pos h, pv_cell]
    by_cases h8 : t.val / 11 % 8 = 0
    · rw [if_pos h8, if_pos (by omega)]
    · rw [if_neg h8, if_neg (by omega)]
      exact congrArg (proj _ _ · _) (by show 512 * (t.val / 11) + (r.val + o) - 8 = _; omega)
  · rw [dif_neg h, up_v, if_neg (by omega)]
    exact congrArg (proj _ _ · _) (by show 512 * (t.val / 11) + (r.val + o - 8) = _; omega)

/-- The convolution of a point's block. -/
theorem cv_g (c : Dev nD) (t : Fin cfg0.N) (r q : Fin 512) :
    cvB (pgAt m c t) (xAt m c t) (iblk m c 1 t) (iblk m c 3 t) (iblk m c 5 t) r q
      = conv (argX m c) (argU m c) (argW m c) (argB m c) (512 * (t.val / 11) + r.val) (gcol (512 * (t.val % 11) + q.val)) := by
  unfold cvB cv conv
  refine congrArg₂ (fun a b : EReal => a + b) (congrArg₂ (fun a b : EReal => a + b) (congrArg₂ (fun a b : EReal => a + b)
    (congrArg₂ (fun a b : EReal => a * b) (tap_g m c t 6 (by decide) (by decide) r q) (cwg_cell m c t 0 q))
    (congrArg₂ (fun a b : EReal => a * b) (tap_g m c t 7 (by decide) (by decide) r q) (cwg_cell m c t 1 q)))
    (congrArg₂ (fun a b : EReal => a * b) (tap_g m c t 8 (by decide) (by decide) r q) (cwg_cell m c t 2 q))) (cbg_cell m c t q)
theorem cv_v (c : Dev nD) (t : Fin cfg0.N) (r q : Fin 512) :
    cvB (pvAt m c t) (xAt m c t) (iblk m c 2 t) (iblk m c 4 t) (iblk m c 6 t) r q
      = conv (argX m c) (argU m c) (argW m c) (argB m c) (512 * (t.val / 11) + r.val) (vcol (512 * (t.val % 11) + q.val)) := by
  unfold cvB cv conv
  refine congrArg₂ (fun a b : EReal => a + b) (congrArg₂ (fun a b : EReal => a + b) (congrArg₂ (fun a b : EReal => a + b)
    (congrArg₂ (fun a b : EReal => a * b) (tap_v m c t 6 (by decide) (by decide) r q) (cwv_cell m c t 0 q))
    (congrArg₂ (fun a b : EReal => a * b) (tap_v m c t 7 (by decide) (by decide) r q) (cwv_cell m c t 1 q)))
    (congrArg₂ (fun a b : EReal => a * b) (tap_v m c t 8 (by decide) (by decide) r q) (cwv_cell m c t 2 q))) (cbv_cell m c t q)

/-- A point's step: its 512 hidden units' part of the down projection is added. -/
theorem step_cell (c : Dev nD) (t : Fin cfg0.N) (z : Vec Ideal S512x2048 .f32) (r : Fin 512) (k : Fin 2048) :
    stepAt m c t z (ix2 r k) = z (ix2 r k) + ∑ q : Fin 512,
      act (argX m c) (argU m c) (argW m c) (argB m c) (512 * (t.val / 11) + r.val) (512 * (t.val % 11) + q.val) * rd (argD m c) (512 * (t.val % 11) + q.val) k.val := by
  refine (accOf_apply _ _ _ _ _ _ _ _ _ _ _ r k).trans (congrArg (fun a : EReal => (z (ix2 r k) : EReal) + a) ?_)
  exact Finset.sum_congr rfl fun q _ => congrArg₂ (fun a b : EReal => a * b) (congrArg₂ glu (cv_g m c t r q) (cv_v m c t r q)) (wd_cell m c t q k)

/-- The accumulator after a point: the down projection of the units so far. -/
theorem acc_cell (c : Dev nD) (r : Fin 512) (k : Fin 2048) (n : ℕ) (hn : n < 176) :
    accN m c n (ix2 r k) = down (argX m c) (argU m c) (argW m c) (argB m c) (argD m c) (512 * (n % 11 + 1)) (512 * (n / 11) + r.val) k.val := by
  have zero : (k0_pay4 (F := Ideal) (ix2 r k) : EReal) = 0 := by
    unfold k0_pay4
    exact (cast_self _ _ _).trans Ideal.ofBits_zero_f32
  have first : ∀ n, n < 176 → n % 11 = 0 → stepAt m c (pt n) (k0_pay4 (F := Ideal)) (ix2 r k)
      = down (argX m c) (argU m c) (argW m c) (argB m c) (argD m c) (512 * (n % 11 + 1)) (512 * (n / 11) + r.val) k.val := fun n hn h0 => by
    rw [step_cell, zero, pt_val n hn, h0, ← down_block _ _ _ _ _ 0]
    rfl
  induction n with
  | zero => exact first 0 hn rfl
  | succ n ih =>
    unfold accN
    by_cases h : (n + 1) % 11 = 0
    · rw [if_pos h]; exact first (n + 1) hn h
    · rw [if_neg h, step_cell, ih (by omega), pt_val _ hn, show n % 11 + 1 = (n + 1) % 11 by omega, show n / 11 = (n + 1) / 11 by omega, ← down_block _ _ _ _ _ ((n + 1) % 11)]

/-- The result block, at a tile's last point. -/
theorem y_cell (c : Dev nD) (t : Fin cfg0.N) (ht : t.val % 11 = 10) (r : Fin 512) (k : Fin 2048) :
    yAt m c t (ix2 r k) = out (argX m c) (argU m c) (argW m c) (argB m c) (argD m c) (argG m c) (argH m c) (512 * (t.val / 11) + r.val) k := by
  unfold yAt
  rw [pay2_apply]
  unfold out
  refine congr (congr (congr (congrArg norm (funext fun l => ?_)) (g_cell m c t k)) (b_cell m c t k)) rfl
  unfold pre
  rw [← down_padded, acc_cell m c r l t.val (t_lt t), ht]
  exact congrArg (fun a : EReal => Ideal.ofBits .f32 0x3FB504F3#32 * a + _) (x_cell m c t r l)

/-- The result array. -/
theorem final_y (c : Dev nD) : (dats m 0 c).arrAt 12 cfg0.N
    = fun i : S8192x2048.Idx => out (argX m c) (argU m c) (argW m c) (argB m c) (argD m c) (argG m c) (argH m c) (i 0).val (⟨(i 1).val, (i 1).isLt⟩ : Fin 2048) := by
  refine (dats m 0 c).arrAt_eq_of_covers 12 _ (by decide +kernel) fun t hf y => ?_
  rw [after12]
  have ht : t.val % 11 = 10 := (flush0_12 t).mp hf
  blk_simp [index12 t]
  refine (congrArg (yAt m c t) (eq_ix2 (y : S512x2048.Idx))).trans ((y_cell m c t ht _ _).trans ?_)
  refine congrArg₂ (out _ _ _ _ _ _ _) ?_ (Fin.ext ?_)
  · change _ = t.val / 11 * 512 + (y 0).val; omega
  · rfl

/-- The arrays of last rows: those of every tile. -/
theorem final_tg (c : Dev nD) : (dats m 0 c).arrAt 13 cfg0.N
    = fun i : S16x8x5632.Idx => proj (argX m c) (argU m c) (512 * (i 0).val + (504 + (i 1).val)) (gcol (i 2).val) := by
  refine (dats m 0 c).arrAt_eq_of_covers 13 _ (by decide +kernel) fun t hf y => ?_
  rw [after13]
  blk_simp [index13 t]
  refine (congrArg (tgAt m c t) (at3 (y : S1x8x512.Idx))).trans ((tg_cell m c t _ _).trans ?_)
  have h0 : (y 0).val < 1 := (y 0).isLt
  refine congrArg₂ (proj _ _) ?_ (congrArg gcol ?_)
  · rfl
  · change 512 * (t.val % 11) + (y 2).val = t.val % 11 * 512 + (y 2).val; omega
theorem final_tv (c : Dev nD) : (dats m 0 c).arrAt 14 cfg0.N
    = fun i : S16x8x5632.Idx => proj (argX m c) (argU m c) (512 * (i 0).val + (504 + (i 1).val)) (vcol (i 2).val) := by
  refine (dats m 0 c).arrAt_eq_of_covers 14 _ (by decide +kernel) fun t hf y => ?_
  rw [after14]
  blk_simp [index14 t]
  refine (congrArg (tvAt m c t) (at3 (y : S1x8x512.Idx))).trans ((tv_cell m c t _ _).trans ?_)
  have h0 : (y 0).val < 1 := (y 0).isLt
  refine congrArg₂ (proj _ _) ?_ (congrArg vcol ?_)
  · rfl
  · change 512 * (t.val % 11) + (y 2).val = t.val % 11 * 512 + (y 2).val; omega

/-- The formula's last two rows of each sequence. -/
def lastRows (X : Mat 8192 2048) (U : Mat 2048 11008) (i : S2x2x11008.Idx) : EReal := proj X U (4096 * (i 0).val + (4094 + (i 1).val)) (i 2).val

/-- The last two of a sequence's last eight rows, without the padding columns. -/
theorem rows_apply (A : S16x8x5632.Idx → EReal) (a b : Fin 2) (q : Fin 5504) :
    extractStridedSlice S2x2x5504 ![0, 6, 0] (Host.slice S2x8x5632 ![7, 0, 0] ![8, 1, 1] A slicesBy_S16x8x5632_S2x8x5632_7s8_0s1_0s1) slices_S2x8x5632_S2x2x5504_0_6_0 (ix3 a b q)
      = A (ix3 (⟨7 + 8 * a.val, by omega⟩ : Fin 16) (⟨6 + b.val, by omega⟩ : Fin 8) (⟨q.val, by omega⟩ : Fin 5632)) := by
  refine (extractStridedSlice_apply ![0, 6, 0] _ slices_S2x8x5632_S2x2x5504_0_6_0 (ix3 a b q) (ix3 a (⟨6 + b.val, by omega⟩ : Fin 8) (⟨q.val, by omega⟩ : Fin 5632))
    (fun x => match x with
      | ⟨0, _⟩ => by show a.val = 0 + a.val; omega
      | ⟨1, _⟩ => rfl
      | ⟨2, _⟩ => by show q.val = 0 + q.val; omega)).trans ?_
  unfold Host.slice
  refine congrArg A (funext fun x => Fin.ext ?_)
  fin_cases x
  · rfl
  · change 0 + 1 * (6 + b.val) = 6 + b.val; omega
  · change 0 + 1 * q.val = q.val; omega

/-- The host's tail: the last two rows of each sequence, the two halves side by side. -/
theorem final_tails (c : Dev nD) :
    (Pipeline.afterTail₀ cfgs (dats m) 0 (V0 m) [hostOps1] c main_v32 : S2x2x11008.Idx → EReal) = lastRows (argX m c) (argU m c) := by
  have e : (Pipeline.afterTail₀ cfgs (dats m) 0 (V0 m) [hostOps1] c main_v32 : S2x2x11008.Idx → EReal)
      = concatenate S2x2x11008 2
          [⟨S2x2x5504, extractStridedSlice S2x2x5504 ![0, 6, 0] (Host.slice S2x8x5632 ![7, 0, 0] ![8, 1, 1] ((dats m 0 c).arrAt 13 cfg0.N : S16x8x5632.Idx → EReal) slicesBy_S16x8x5632_S2x8x5632_7s8_0s1_0s1) slices_S2x8x5632_S2x2x5504_0_6_0⟩,
           ⟨S2x2x5504, extractStridedSlice S2x2x5504 ![0, 6, 0] (Host.slice S2x8x5632 ![7, 0, 0] ![8, 1, 1] ((dats m 0 c).arrAt 14 cfg0.N : S16x8x5632.Idx → EReal) slicesBy_S16x8x5632_S2x8x5632_7s8_0s1_0s1) slices_S2x8x5632_S2x2x5504_0_6_0⟩]
          concatenates_S2x2x5504_S2x2x5504_S2x2x11008_d2 := by
    unfold Pipeline.afterTail₀
    simp only [hostOps1, List.flatten_cons, List.flatten_nil, List.cons_append, List.nil_append, List.append_nil]
    after_results
    have h13 : Pipeline.withArrays (cfgs 0).spec c (V0 m c) (fun w => (dats m 0 c).arrAt w (cfgs 0).N) (Proc.tc.devRef main_v27_1) = (dats m 0 c).arrAt 13 cfg0.N :=
      Pipeline.withArrays_arr spec0 launch0.win.arr_inj c _ _ 13
    have h14 : Pipeline.withArrays (cfgs 0).spec c (V0 m c) (fun w => (dats m 0 c).arrAt w (cfgs 0).N) (Proc.tc.devRef main_v27_2) = (dats m 0 c).arrAt 14 cfg0.N :=
      Pipeline.withArrays_arr spec0 launch0.win.arr_inj c _ _ 14
    rw [h13, h14]
  rw [e, final_tg, final_tv]
  funext i
  have h0 : (i 0).val < 2 := (i 0).isLt
  have h1 : (i 1).val < 2 := (i 1).isLt
  have h2 : (i 2).val < 11008 := (i 2).isLt
  unfold lastRows
  by_cases h : (i 2).val < 5504
  · refine (concatenate_pair_apply_left 2 _ _ concatenates_S2x2x5504_S2x2x5504_S2x2x11008_d2 i rfl
      (ix3 (⟨(i 0).val, h0⟩ : Fin 2) (⟨(i 1).val, h1⟩ : Fin 2) (⟨(i 2).val, h⟩ : Fin 5504)) (fun b => match b with | ⟨0, _⟩ => rfl | ⟨1, _⟩ => rfl | ⟨2, _⟩ => rfl)).trans ?_
    refine (rows_apply _ _ _ _).trans (congrArg₂ (proj _ _) ?_ ?_)
    · change 512 * (7 + 8 * (i 0).val) + (504 + (6 + (i 1).val)) = _; omega
    · change gcol (i 2).val = _; rw [gcol_in _ h, Nat.zero_add]
  · refine (concatenate_pair_apply_right 2 _ _ concatenates_S2x2x5504_S2x2x5504_S2x2x11008_d2 i rfl rfl
      (ix3 (⟨(i 0).val, h0⟩ : Fin 2) (⟨(i 1).val, h1⟩ : Fin 2) (⟨(i 2).val - 5504, by omega⟩ : Fin 5504))
      (fun b hb => match b with | ⟨0, _⟩ => rfl | ⟨1, _⟩ => rfl | ⟨2, _⟩ => absurd rfl hb) (by change (i 2).val - 5504 + 5504 = (i 2).val; omega)).trans ?_
    refine (rows_apply _ _ _ _).trans (congrArg₂ (proj _ _) ?_ ?_)
    · change 512 * (7 + 8 * (i 0).val) + (504 + (6 + (i 1).val)) = _; omega
    · change 5504 + ((i 2).val - 5504) = _; omega

end Cert.Kernel2Ideal.Hand

end
-- ==== Proof.Ffn.Formula.lean ====
/-
  The reference of the feed-forward block is the formula: its two results at an index.
-/
module

public import proofs.«01_k».proof.Proof.Gen.Reference2Ideal.Read
public import proofs.«01_k».proof.Proof.Ffn.Math
public import Idealize.ShloMosaic.Lib.Pipeline.Value

@[expose] public section

set_option maxRecDepth 8192

noncomputable section

namespace Cert.Reference2Ideal.Hand

open Idealize.ShloMosaic
open Idealize.ShloMosaic.ValueIdx Idealize.ShloMosaic.TcCoe
open Cert.Reference2Ideal Cert.Reference2Ideal.Gen Cert.Reference2Ideal.Read Cert.ConvFfn

variable (x0 : (⟨S8192x2048, .f32⟩ : BufTy).Contents (Elt Ideal)) (x1 : (⟨S2048x11008, .f32⟩ : BufTy).Contents (Elt Ideal))
  (x2 : (⟨S3x11008, .f32⟩ : BufTy).Contents (Elt Ideal)) (x3 : (⟨S11008, .f32⟩ : BufTy).Contents (Elt Ideal))
  (x4 : (⟨S5504x2048, .f32⟩ : BufTy).Contents (Elt Ideal)) (x5 x6 : (⟨S2048, .f32⟩ : BufTy).Contents (Elt Ideal))

/-- The up projection. -/
theorem up_apply (i : S2x4096x11008.Idx) : val_main_v1 (F := Ideal) x0 x1 i = proj x0 x1 (4096 * (i 0).val + (i 1).val) (i 2).val := by
  have h0 : (i 0).val < 2 := (i 0).isLt
  have h1 : (i 1).val < 4096 := (i 1).isLt
  rw [val_main_v1_apply, proj]
  refine Finset.sum_congr rfl fun k _ => congrArg₂ (fun a b : EReal => a * b) ?_ (rd_at x1 _ _ _ rfl rfl)
  have hk : k.val < 2048 := k.isLt
  rw [val_main_v0_apply]
  refine rd_at x0 _ _ _ ?_ ?_ <;> dsimp <;> omega

/-- The rows the convolution reads: two zero rows, then the up projection. -/
theorem ext_apply (i : S2x4098x11008.Idx) :
    val_main_v3 (F := Ideal) x0 x1 i = if (i 1).val < 2 then 0 else proj x0 x1 (4096 * (i 0).val + ((i 1).val - 2)) (i 2).val := by
  have h0 : (i 0).val < 2 := (i 0).isLt
  have h1 : (i 1).val < 4098 := (i 1).isLt
  have h2 : (i 2).val < 11008 := (i 2).isLt
  unfold val_main_v3
  by_cases h : (i 1).val < 2
  · rw [if_pos h]
    refine (concatenate_pair_apply_left 1 _ _ concatenates_S2x2x11008_S2x4096x11008_S2x4098x11008_d1 i rfl
      (ix3 (⟨(i 0).val, h0⟩ : Fin 2) (⟨(i 1).val, h⟩ : Fin 2) (⟨(i 2).val, h2⟩ : Fin 11008)) (fun b => match b with | ⟨0, _⟩ => rfl | ⟨1, _⟩ => rfl | ⟨2, _⟩ => rfl)).trans ?_
    rw [val_main_v2_apply]
    exact Ideal.ofBits_zero_f32
  · rw [if_neg h]
    refine (concatenate_pair_apply_right 1 _ _ concatenates_S2x2x11008_S2x4096x11008_S2x4098x11008_d1 i rfl rfl
      (ix3 (⟨(i 0).val, h0⟩ : Fin 2) (⟨(i 1).val - 2, by omega⟩ : Fin 4096) (⟨(i 2).val, h2⟩ : Fin 11008))
      (fun b hb => match b with | ⟨0, _⟩ => rfl | ⟨1, _⟩ => absurd rfl hb | ⟨2, _⟩ => rfl) (by change (i 1).val - 2 + 2 = (i 1).val; omega)).trans ?_
    exact up_apply x0 x1 _

theorem tap0_apply (i : S2x4096x11008.Idx) : val_main_v4 (F := Ideal) x0 x1 i = prev x0 x1 0 (4096 * (i 0).val + (i 1).val) (i 2).val := by
  have h1 : (i 1).val < 4096 := (i 1).isLt
  rw [val_main_v4_apply, ext_apply, prev, if_neg (by dsimp; omega), if_neg (by omega)]
  refine congrArg (proj x0 x1 · _) ?_
  dsimp; omega
theorem tap2_apply (i : S2x4096x11008.Idx) : val_main_v10 (F := Ideal) x0 x1 i = prev x0 x1 2 (4096 * (i 0).val + (i 1).val) (i 2).val := by
  have h1 : (i 1).val < 4096 := (i 1).isLt
  rw [val_main_v10_apply, ext_apply, prev]
  by_cases h : (i 1).val < 2
  · rw [if_pos (by dsimp; omega), if_pos (by omega)]
  · rw [if_neg (by dsimp; omega), if_neg (by omega)]
    refine congrArg (proj x0 x1 · _) ?_
    dsimp; omega
theorem tap1_apply (i : S2x4096x11008.Idx) : val_main_v17 (F := Ideal) x0 x1 i = prev x0 x1 1 (4096 * (i 0).val + (i 1).val) (i 2).val := by
  have h1 : (i 1).val < 4096 := (i 1).isLt
  rw [val_main_v17_apply, ext_apply, prev]
  by_cases h : (i 1).val < 1
  · rw [if_pos (by dsimp; omega), if_pos (by omega)]
  · rw [if_neg (by dsimp; omega), if_neg (by omega)]
    refine congrArg (proj x0 x1 · _) ?_
    dsimp; omega

/-- The convolution's weights and bias. -/
theorem w2_apply (i : S2x4096x11008.Idx) : val_main_v8 (F := Ideal) x2 i = rd x2 2 (i 2).val := by
  have h2 : (i 2).val < 11008 := (i 2).isLt
  rw [val_main_v8_apply, val_main_v7_apply, val_main_v6_apply, val_main_v5_apply]
  refine rd_at x2 _ _ _ rfl ?_
  dsimp; omega
theorem w0_apply (i : S2x4096x11008.Idx) : val_main_v14 (F := Ideal) x2 i = rd x2 0 (i 2).val := by
  have h2 : (i 2).val < 11008 := (i 2).isLt
  rw [val_main_v14_apply, val_main_v13_apply, val_main_v12_apply, val_main_v11_apply]
  refine rd_at x2 _ _ _ rfl ?_
  dsimp; omega
theorem w1_apply (i : S2x4096x11008.Idx) : val_main_v21 (F := Ideal) x2 i = rd x2 1 (i 2).val := by
  have h2 : (i 2).val < 11008 := (i 2).isLt
  rw [val_main_v21_apply, val_main_v20_apply, val_main_v19_apply, val_main_v18_apply]
  refine rd_at x2 _ _ _ rfl ?_
  dsimp; omega
theorem bias_apply (i : S2x4096x11008.Idx) : val_main_v25 (F := Ideal) x3 i = rd1 x3 (i 2).val := by
  rw [val_main_v25_apply, val_main_v24_apply]
  exact rd1_at x3 _ _ rfl

/-- The convolution: the reference adds the taps in another order. -/
theorem conv_apply (i : S2x4096x11008.Idx) : val_main_v26 (F := Ideal) x0 x1 x2 x3 i = conv x0 x1 x2 x3 (4096 * (i 0).val + (i 1).val) (i 2).val := by
  rw [val_main_v26_apply, val_main_v23_apply, val_main_v16_apply, val_main_v9_apply, val_main_v15_apply, val_main_v22_apply,
    tap0_apply, tap1_apply, tap2_apply, w0_apply, w1_apply, w2_apply, bias_apply, conv]
  refine congrArg (fun a : EReal => a + _) ?_
  show ((_ : EReal) + _) + _ = _
  rw [add_assoc, add_comm]
  rfl

/-- The hidden units. -/
theorem act_apply (i : S2x4096x5504.Idx) : val_main_v30 (F := Ideal) x0 x1 x2 x3 i = act x0 x1 x2 x3 (4096 * (i 0).val + (i 1).val) (i 2).val := by
  have h2 : (i 2).val < 5504 := (i 2).isLt
  have hg : val_main_v27 (F := Ideal) x0 x1 x2 x3 i = conv x0 x1 x2 x3 (4096 * (i 0).val + (i 1).val) (gcol (i 2).val) := by
    rw [val_main_v27_apply, conv_apply]
    exact congrArg (conv x0 x1 x2 x3 _) (if_pos h2).symm
  have hv : val_main_v28 (F := Ideal) x0 x1 x2 x3 i = conv x0 x1 x2 x3 (4096 * (i 0).val + (i 1).val) (vcol (i 2).val) := by
    rw [val_main_v28_apply, conv_apply]
    rfl
  have h1 : val_main_call0_v4 (F := Ideal) i = (1 : EReal) := by rw [val_main_call0_v4_apply]; exact Ideal.ofBits_one_f32
  have h1' : val_main_call0_v2 (F := Ideal) i = (1 : EReal) := by rw [val_main_call0_v2_apply]; exact Ideal.ofBits_one_f32
  have he : val_main_v30 (F := Ideal) x0 x1 x2 x3 i = (val_main_v27 (F := Ideal) x0 x1 x2 x3 i : EReal)
      * Ideal.div (val_main_call0_v4 (F := Ideal) i) (val_main_call0_v2 (F := Ideal) i + Ideal.exp (-(val_main_v27 (F := Ideal) x0 x1 x2 x3 i : EReal)))
      * val_main_v28 (F := Ideal) x0 x1 x2 x3 i := rfl
  rw [he, h1, h1', hg, hv, act, glu, zero_sub]

/-- The scaled input plus the down projection. -/
theorem pre_apply (i : S2x4096x2048.Idx) : val_main_v34 (F := Ideal) x0 x1 x2 x3 x4 i
    = pre x0 x1 x2 x3 x4 (4096 * (i 0).val + (i 1).val) (⟨(i 2).val, (i 2).isLt⟩ : Fin 2048) := by
  have h0 : (i 0).val < 2 := (i 0).isLt
  have h1 : (i 1).val < 4096 := (i 1).isLt
  have h2 : (i 2).val < 2048 := (i 2).isLt
  rw [val_main_v34_apply, val_main_v33_apply, val_main_v32_apply, val_main_v31_apply, val_main_v0_apply, pre, down]
  refine congrArg₂ (fun a b : EReal => a + b) (congrArg (fun a : EReal => Ideal.ofBits .f32 0x3FB504F3#32 * a) ?_) ?_
  · refine rd_at x0 _ _ _ ?_ ?_ <;> dsimp <;> omega
  · rw [← Fin.sum_univ_eq_sum_range (fun n => act x0 x1 x2 x3 (4096 * (i 0).val + (i 1).val) n * rd x4 n (i 2).val) 5504]
    refine Finset.sum_congr rfl fun k _ => congrArg₂ (fun a b : EReal => a * b) ?_ (rd_at x4 _ _ _ rfl rfl)
    exact act_apply x0 x1 x2 x3 _

/-- The mean of a row. -/
theorem mean_apply (i : S2x4096x1.Idx) : val_main_v38 (F := Ideal) x0 x1 x2 x3 x4 i = mean (pre x0 x1 x2 x3 x4 (4096 * (i 0).val + (i 1).val)) := by
  rw [val_main_v38_apply, val_main_v37_apply, val_main_v36_apply, val_main_v35_apply, mean]
  refine congrArg (fun a : EReal => Ideal.div a (Ideal.ofBits .f32 0x45000000#32)) ?_
  rw [show (val_main_cst_1 (F := Ideal)) (Shape.Idx.first h_S_) = (0 : EReal) from Ideal.ofBits_zero_f32, zero_add]
  exact Finset.sum_congr rfl fun k _ => pre_apply x0 x1 x2 x3 x4 _

/-- A row less its mean. -/
theorem centred_apply (i : S2x4096x2048.Idx) : val_main_v40 (F := Ideal) x0 x1 x2 x3 x4 i
    = pre x0 x1 x2 x3 x4 (4096 * (i 0).val + (i 1).val) (⟨(i 2).val, (i 2).isLt⟩ : Fin 2048) - mean (pre x0 x1 x2 x3 x4 (4096 * (i 0).val + (i 1).val)) := by
  rw [val_main_v40_apply, val_main_v39_apply, pre_apply, mean_apply]
  rfl

/-- The reciprocal of a row's spread. -/
theorem spread_apply (i : S2x4096x1.Idx) : val_main_v48 (F := Ideal) x0 x1 x2 x3 x4 i
    = Ideal.rsqrt (mean (fun l => (pre x0 x1 x2 x3 x4 (4096 * (i 0).val + (i 1).val) l - mean (pre x0 x1 x2 x3 x4 (4096 * (i 0).val + (i 1).val)))
        * (pre x0 x1 x2 x3 x4 (4096 * (i 0).val + (i 1).val) l - mean (pre x0 x1 x2 x3 x4 (4096 * (i 0).val + (i 1).val)))) + Ideal.ofBits .f32 0x3727C5AC#32) := by
  rw [val_main_v48_apply, val_main_v47_apply, val_main_v46_apply, val_main_v45_apply, val_main_v44_apply, val_main_v43_apply, val_main_v42_apply, mean]
  refine congrArg (fun a : EReal => Ideal.rsqrt (Ideal.div a (Ideal.ofBits .f32 0x45000000#32) + Ideal.ofBits .f32 0x3727C5AC#32)) ?_
  rw [show (val_main_cst_3 (F := Ideal)) (Shape.Idx.first h_S_) = (0 : EReal) from Ideal.ofBits_zero_f32, zero_add]
  refine Finset.sum_congr rfl fun k _ => ?_
  rw [val_main_v41_apply, centred_apply]
  rfl

/-- The normalised rows. -/
theorem normed_apply (i : S2x4096x2048.Idx) : val_main_v56 (F := Ideal) x0 x1 x2 x3 x4 x5 x6 i
    = out x0 x1 x2 x3 x4 x5 x6 (4096 * (i 0).val + (i 1).val) (⟨(i 2).val, (i 2).isLt⟩ : Fin 2048) := by
  rw [val_main_v56_apply, val_main_v53_apply, val_main_v50_apply, val_main_v49_apply, val_main_v52_apply, val_main_v51_apply, val_main_v55_apply, val_main_v54_apply,
    centred_apply, spread_apply]
  exact congrArg₂ (fun a b : EReal => a + b) (congrArg (fun a : EReal => _ * a) (rd1_at x5 _ _ rfl)) (rd1_at x6 _ _ rfl)

/-- The first result. -/
theorem result_apply (i : S8192x2048.Idx) : val_main_v57 (F := Ideal) x0 x1 x2 x3 x4 x5 x6 i
    = out x0 x1 x2 x3 x4 x5 x6 (i 0).val (⟨(i 1).val, (i 1).isLt⟩ : Fin 2048) := by
  have h0 : (i 0).val < 8192 := (i 0).isLt
  have h1 : (i 1).val < 2048 := (i 1).isLt
  rw [val_main_v57_apply, normed_apply]
  refine congrArg₂ (out x0 x1 x2 x3 x4 x5 x6) ?_ (Fin.ext ?_) <;> dsimp <;> omega

/-- The second result: the last two rows of each sequence's up projection. -/
theorem rows_apply (i : S2x2x11008.Idx) : val_main_v58 (F := Ideal) x0 x1 i = proj x0 x1 (4096 * (i 0).val + (4094 + (i 1).val)) (i 2).val := by
  rw [val_main_v58_apply, ext_apply, if_neg (by dsimp; omega)]
  refine congrArg (proj x0 x1 · _) ?_
  dsimp; omega

end Cert.Reference2Ideal.Hand

end
-- ==== Proof.lean ====
/-
  The stick-breaking attention kernel and the convolutional feed-forward kernel against the layer's formulas: the claims
  of each, from their own modules.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Run
public import proofs.«01_k».proof.Proof.Word.Run
public import proofs.«01_k».proof.Proof.Array
public import proofs.«01_k».proof.Proof.Formula
public import proofs.«01_k».proof.Proof.Ffn.Run
public import proofs.«01_k».proof.Proof.Ffn.Word.Run
public import proofs.«01_k».proof.Proof.Ffn.Array
public import proofs.«01_k».proof.Proof.Ffn.Formula
public import Idealize.ShloMosaic.Adequacy
public import Idealize.ShloMosaic.Init

@[expose] public section

noncomputable section

namespace Cert.Proof

open Idealize.ShloMosaic Idealize.SL.Sem

/-- The kernel as compiled runs, keeps its arguments, and ends quiescent. -/
theorem frame_p : Cert.quiescent_Kernel := fun m ρ _ => Cert.Kernel.Hand.frame (F := Bits) m ρ

/-- The same of the kernel over the extended reals. -/
theorem frame_pi : Cert.quiescent_KernelIdeal := fun m ρ _ => Cert.KernelIdeal.Hand.frame (F := Ideal) m ρ

/-- The same of the formula. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants round to the words the kernel holds. -/
theorem preserves : Cert.preserves_Kernel_KernelIdeal :=
  ⟨IdealRules.named_const.statement Cert.KernelIdeal.κ "scale_log2e" .f32 0x3E0293EE#32 (((11863283 / 134217728) * (Real.log 2)⁻¹ : ℝ) : EReal) rfl,
   IdealRules.named_const.statement Cert.KernelIdeal.κ "log2e" .f32 0x3FB8AA3B#32 (((Real.log 2)⁻¹ : ℝ) : EReal) rfl⟩

/-- The kernel's output is the formula's, of the same projections and bias. -/
theorem algebraic : Cert.algebraic_KernelIdeal_ReferenceIdeal := by
  pair_intro
  · run_from Cert.KernelIdeal.Hand.run_main m g & Cert.KernelIdeal.Hand.frame m g
  · run_from Cert.ReferenceIdeal.Value.run m' g'
    rw [Cert.KernelIdeal.Hand.final m c]
    funext i
    rw [Cert.ReferenceIdeal.Read.val_main_v32_eq m' c, (hagree c).1, (hagree c).2]
    exact Cert.ReferenceIdeal.Hand.result_apply _ _ i

/-- The feed-forward kernel as compiled runs, keeps its arguments, and ends quiescent. -/
theorem frame_p2 : Cert.quiescent_Kernel2 := fun m ρ _ => Cert.Kernel2.Hand.frame (F := Bits) m ρ

/-- The same of it over the extended reals. -/
theorem frame_pi2 : Cert.quiescent_Kernel2Ideal := fun m ρ _ => Cert.Kernel2Ideal.Hand.frame (F := Ideal) m ρ

/-- The same of its formula. -/
theorem frame_ri2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- No constant of the feed-forward kernel is renamed. -/
theorem preserves2 : Cert.preserves_Kernel2_Kernel2Ideal := trivial

/-- The formula depends on its arrays alone. -/
theorem out_congr {X X' : Cert.ConvFfn.Mat 8192 2048} {U U' : Cert.ConvFfn.Mat 2048 11008} {W W' : Cert.ConvFfn.Mat 3 11008} {B B' : Cert.ConvFfn.Row 11008}
    {D D' : Cert.ConvFfn.Mat 5504 2048} {G G' H H' : Cert.ConvFfn.Row 2048} (hX : X = X') (hU : U = U') (hW : W = W') (hB : B = B') (hD : D = D')
    (hG : G = G') (hH : H = H') (r : ℕ) (k : Fin 2048) : Cert.ConvFfn.out X U W B D G H r k = Cert.ConvFfn.out X' U' W' B' D' G' H' r k := by
  rw [hX, hU, hW, hB, hD, hG, hH]

/-- The first result: the normalised rows. -/
theorem result2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Reference2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    Cert.Reference2Ideal.Value.res_main_v57 m' c = (Cert.Kernel2Ideal.Hand.dats m 0 c).arrAt 12 Cert.Kernel2Ideal.cfg0.N := by
  obtain ⟨h0, h1, h2, h3, h4, h5, h6⟩ := h
  refine (Cert.Reference2Ideal.Read.val_main_v57_eq m' c).trans (Eq.trans ?_ (Cert.Kernel2Ideal.Hand.final_y m c).symm)
  funext i
  exact (Cert.Reference2Ideal.Hand.result_apply _ _ _ _ _ _ _ i).trans (out_congr h0 h1 h2 h3 h4 h5 h6 _ _)

/-- The feed-forward kernel's two results are the formula's, of the same rows and weights. -/
theorem algebraic2 : Cert.algebraic_Kernel2Ideal_Reference2Ideal := by
  pair_intro
  · run_from Cert.Kernel2Ideal.Hand.run_main m g & Cert.Kernel2Ideal.Hand.frame m g
    · exact Cert.Kernel2Ideal.Gen.W_main_arg1 m _ c
    · exact Cert.Kernel2Ideal.Gen.W_main_arg2 m _ c
    · exact Cert.Kernel2Ideal.Gen.W_main_arg3 m _ c
    · exact Cert.Kernel2Ideal.Gen.W_main_arg4 m _ c
    · exact Cert.Kernel2Ideal.Gen.W_main_arg5 m _ c
    · exact Cert.Kernel2Ideal.Gen.W_main_arg6 m _ c
  · run_from Cert.Reference2Ideal.Value.run m' g'
    · exact result2 m m' c (hagree c)
    · refine Eq.trans ?_ (Cert.Kernel2Ideal.Hand.final_tails m c).symm
      funext i
      exact Cert.Reference2Ideal.Hand.rows_apply _ _ i

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, frame_p, frame_pi, frame_ri, frame_p2, frame_pi2, frame_ri2, preserves, algebraic, preserves2, algebraic2⟩

end Cert.Proof

end
